-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_head_ok [hPre_head_ok : Cert.Pre_head_ok.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_head_ok.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_head_ok [hPre_head_ok : Cert.Pre_head_ok.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_head_ok.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))) = (fun _ => 1#1)

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Kernel1Ideal_first_ok [hPre_first_ok : Cert.Pre_first_ok.Facts] (m : (ℓ : Loc Cert.Kernel1Ideal.nD Cert.Kernel1Ideal.τ Cert.Kernel1Ideal.sig) → Buf (Elt Ideal) ℓ) : Prop :=
  ∀ c : Dev Cert.Kernel1Ideal.nD,
    (Cert.Pre_first_ok.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8)) (m ((c.tc : Thread Cert.Kernel1Ideal.nD Cert.Kernel1Ideal.τ).loc Cert.Kernel1Ideal.main_arg9))) = (fun _ => 1#1)

def Pre_Reference1Ideal (m : (ℓ : Loc Cert.Reference1Ideal.nD Cert.Reference1Ideal.τ Cert.Reference1Ideal.sig) → Buf (Elt Ideal) ℓ) : Prop :=
  True

def Pre_Reference1Ideal_first_ok [hPre_first_ok : Cert.Pre_first_ok.Facts] (m : (ℓ : Loc Cert.Reference1Ideal.nD Cert.Reference1Ideal.τ Cert.Reference1Ideal.sig) → Buf (Elt Ideal) ℓ) : Prop :=
  ∀ c : Dev Cert.Reference1Ideal.nD,
    (Cert.Pre_first_ok.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6)) (m ((c.tc : Thread Cert.Reference1Ideal.nD Cert.Reference1Ideal.τ).loc Cert.Reference1Ideal.main_arg7)) (m ((c.tc : Thread Cert.Reference1Ideal.nD Cert.Reference1Ideal.τ).loc Cert.Reference1Ideal.main_arg8)) (m ((c.tc : Thread Cert.Reference1Ideal.nD Cert.Reference1Ideal.τ).loc Cert.Reference1Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_near_ok [hPre_near_ok : Cert.Pre_near_ok.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_near_ok.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_near_ok [hPre_near_ok : Cert.Pre_near_ok.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_near_ok.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Kernel2Ideal_pre_head_ok [hKernel2Ideal : Cert.Kernel2Ideal.Facts] [hPre_head_ok : Cert.Pre_head_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_head_ok m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Reference2Ideal_pre_head_ok [hReference2Ideal : Cert.Reference2Ideal.Facts] [hPre_head_ok : Cert.Pre_head_ok.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_head_ok m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5)
      ∧ r.2.mem ((c.tc : Thread Cert.Kernel1.nD Cert.Kernel1.τ).loc Cert.Kernel1.main_arg6) = m ((c.tc : Thread Cert.Kernel1.nD Cert.Kernel1.τ).loc Cert.Kernel1.main_arg6)
      ∧ r.2.mem ((c.tc : Thread Cert.Kernel1.nD Cert.Kernel1.τ).loc Cert.Kernel1.main_arg7) = m ((c.tc : Thread Cert.Kernel1.nD Cert.Kernel1.τ).loc Cert.Kernel1.main_arg7)
      ∧ r.2.mem ((c.tc : Thread Cert.Kernel1.nD Cert.Kernel1.τ).loc Cert.Kernel1.main_arg8) = m ((c.tc : Thread Cert.Kernel1.nD Cert.Kernel1.τ).loc Cert.Kernel1.main_arg8)
      ∧ r.2.mem ((c.tc : Thread Cert.Kernel1.nD Cert.Kernel1.τ).loc Cert.Kernel1.main_arg9) = m ((c.tc : Thread Cert.Kernel1.nD Cert.Kernel1.τ).loc Cert.Kernel1.main_arg9))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
      ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9))
      ∧ r.2.sem = fun _ => 0)

def quiescent_Kernel1Ideal_pre_first_ok [hKernel1Ideal : Cert.Kernel1Ideal.Facts] [hPre_first_ok : Cert.Pre_first_ok.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal_first_ok m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
      ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8)
      ∧ r.2.mem ((c.tc : Thread Cert.Reference1Ideal.nD Cert.Reference1Ideal.τ).loc Cert.Reference1Ideal.main_arg9) = m ((c.tc : Thread Cert.Reference1Ideal.nD Cert.Reference1Ideal.τ).loc Cert.Reference1Ideal.main_arg9))
      ∧ r.2.sem = fun _ => 0)

def quiescent_Reference1Ideal_pre_first_ok [hReference1Ideal : Cert.Reference1Ideal.Facts] [hPre_first_ok : Cert.Pre_first_ok.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal_first_ok m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8)
      ∧ r.2.mem ((c.tc : Thread Cert.Reference1Ideal.nD Cert.Reference1Ideal.τ).loc Cert.Reference1Ideal.main_arg9) = m ((c.tc : Thread Cert.Reference1Ideal.nD Cert.Reference1Ideal.τ).loc Cert.Reference1Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_near_ok [hKernel3Ideal : Cert.Kernel3Ideal.Facts] [hPre_near_ok : Cert.Pre_near_ok.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_near_ok m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_near_ok [hReference3Ideal : Cert.Reference3Ideal.Facts] [hPre_near_ok : Cert.Pre_near_ok.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_near_ok m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_v181) = v1 c
          ∧ r.2.mem ((c.tc : Thread Cert.ReferenceIdeal.nD Cert.ReferenceIdeal.τ).loc Cert.ReferenceIdeal.main_v182) = v2 c
          ∧ r.2.mem ((c.tc : Thread Cert.ReferenceIdeal.nD Cert.ReferenceIdeal.τ).loc Cert.ReferenceIdeal.main_v183) = v3 c
          ∧ r.2.mem ((c.tc : Thread Cert.ReferenceIdeal.nD Cert.ReferenceIdeal.τ).loc Cert.ReferenceIdeal.main_v177) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal_pre_head_ok [hKernel2Ideal : Cert.Kernel2Ideal.Facts] [hReference2Ideal : Cert.Reference2Ideal.Facts] [hPre_head_ok : Cert.Pre_head_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_head_ok m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v105) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel1_Kernel1Ideal : Prop :=
  True

def algebraic_Kernel1Ideal_Reference1Ideal_pre_first_ok [hKernel1Ideal : Cert.Kernel1Ideal.Facts] [hReference1Ideal : Cert.Reference1Ideal.Facts] [hPre_first_ok : Cert.Pre_first_ok.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal_first_ok m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)
      ∧ m' ((c.tc : Thread Cert.Reference1Ideal.nD Cert.Reference1Ideal.τ).loc Cert.Reference1Ideal.main_arg6) = m ((c.tc : Thread Cert.Kernel1Ideal.nD Cert.Kernel1Ideal.τ).loc Cert.Kernel1Ideal.main_arg6)
      ∧ m' ((c.tc : Thread Cert.Reference1Ideal.nD Cert.Reference1Ideal.τ).loc Cert.Reference1Ideal.main_arg7) = m ((c.tc : Thread Cert.Kernel1Ideal.nD Cert.Kernel1Ideal.τ).loc Cert.Kernel1Ideal.main_arg7)
      ∧ m' ((c.tc : Thread Cert.Reference1Ideal.nD Cert.Reference1Ideal.τ).loc Cert.Reference1Ideal.main_arg8) = m ((c.tc : Thread Cert.Kernel1Ideal.nD Cert.Kernel1Ideal.τ).loc Cert.Kernel1Ideal.main_arg8)
      ∧ m' ((c.tc : Thread Cert.Reference1Ideal.nD Cert.Reference1Ideal.τ).loc Cert.Reference1Ideal.main_arg9) = m ((c.tc : Thread Cert.Kernel1Ideal.nD Cert.Kernel1Ideal.τ).loc Cert.Kernel1Ideal.main_arg9)) →
    ∃ (v0 : (c : Dev Cert.Kernel1Ideal.nD) → Buf (Elt Ideal) ((c.tc : Thread Cert.Kernel1Ideal.nD Cert.Kernel1Ideal.τ).loc Cert.Kernel1Ideal.main_v5_0)) (v1 : (c : Dev Cert.Kernel1Ideal.nD) → Buf (Elt Ideal) ((c.tc : Thread Cert.Kernel1Ideal.nD Cert.Kernel1Ideal.τ).loc Cert.Kernel1Ideal.main_v5_1)) (v2 : (c : Dev Cert.Kernel1Ideal.nD) → Buf (Elt Ideal) ((c.tc : Thread Cert.Kernel1Ideal.nD Cert.Kernel1Ideal.τ).loc Cert.Kernel1Ideal.main_v5_2)) (v3 : (c : Dev Cert.Kernel1Ideal.nD) → Buf (Elt Ideal) ((c.tc : Thread Cert.Kernel1Ideal.nD Cert.Kernel1Ideal.τ).loc Cert.Kernel1Ideal.main_v5_3)) (v4 : (c : Dev Cert.Kernel1Ideal.nD) → Buf (Elt Ideal) ((c.tc : Thread Cert.Kernel1Ideal.nD Cert.Kernel1Ideal.τ).loc Cert.Kernel1Ideal.main_v5_4)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v5_0) = v0 c
          ∧ r.2.mem ((c.tc : Thread Cert.Kernel1Ideal.nD Cert.Kernel1Ideal.τ).loc Cert.Kernel1Ideal.main_v5_1) = v1 c
          ∧ r.2.mem ((c.tc : Thread Cert.Kernel1Ideal.nD Cert.Kernel1Ideal.τ).loc Cert.Kernel1Ideal.main_v5_2) = v2 c
          ∧ r.2.mem ((c.tc : Thread Cert.Kernel1Ideal.nD Cert.Kernel1Ideal.τ).loc Cert.Kernel1Ideal.main_v5_3) = v3 c
          ∧ r.2.mem ((c.tc : Thread Cert.Kernel1Ideal.nD Cert.Kernel1Ideal.τ).loc Cert.Kernel1Ideal.main_v5_4) = v4 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
          ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
          ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
          ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
          ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v178) = v0 c
          ∧ r.2.mem ((c.tc : Thread Cert.Reference1Ideal.nD Cert.Reference1Ideal.τ).loc Cert.Reference1Ideal.main_v181) = v1 c
          ∧ r.2.mem ((c.tc : Thread Cert.Reference1Ideal.nD Cert.Reference1Ideal.τ).loc Cert.Reference1Ideal.main_v182) = v2 c
          ∧ r.2.mem ((c.tc : Thread Cert.Reference1Ideal.nD Cert.Reference1Ideal.τ).loc Cert.Reference1Ideal.main_v183) = v3 c
          ∧ r.2.mem ((c.tc : Thread Cert.Reference1Ideal.nD Cert.Reference1Ideal.τ).loc Cert.Reference1Ideal.main_v177) = v4 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5)
          ∧ r.2.mem ((c.tc : Thread Cert.Reference1Ideal.nD Cert.Reference1Ideal.τ).loc Cert.Reference1Ideal.main_arg6) = m' ((c.tc : Thread Cert.Reference1Ideal.nD Cert.Reference1Ideal.τ).loc Cert.Reference1Ideal.main_arg6)
          ∧ r.2.mem ((c.tc : Thread Cert.Reference1Ideal.nD Cert.Reference1Ideal.τ).loc Cert.Reference1Ideal.main_arg7) = m' ((c.tc : Thread Cert.Reference1Ideal.nD Cert.Reference1Ideal.τ).loc Cert.Reference1Ideal.main_arg7)
          ∧ r.2.mem ((c.tc : Thread Cert.Reference1Ideal.nD Cert.Reference1Ideal.τ).loc Cert.Reference1Ideal.main_arg8) = m' ((c.tc : Thread Cert.Reference1Ideal.nD Cert.Reference1Ideal.τ).loc Cert.Reference1Ideal.main_arg8)
          ∧ r.2.mem ((c.tc : Thread Cert.Reference1Ideal.nD Cert.Reference1Ideal.τ).loc Cert.Reference1Ideal.main_arg9) = m' ((c.tc : Thread Cert.Reference1Ideal.nD Cert.Reference1Ideal.τ).loc Cert.Reference1Ideal.main_arg9))

def preserves_Kernel3_Kernel3Ideal : Prop :=
  True

def algebraic_Kernel3Ideal_Reference3Ideal_pre_near_ok [hKernel3Ideal : Cert.Kernel3Ideal.Facts] [hReference3Ideal : Cert.Reference3Ideal.Facts] [hPre_near_ok : Cert.Pre_near_ok.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_near_ok m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_v61) = v1 c
          ∧ r.2.mem ((c.tc : Thread Cert.Reference3Ideal.nD Cert.Reference3Ideal.τ).loc Cert.Reference3Ideal.main_v59) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel1 : Cert.Kernel1.Facts) (hKernel1Ideal : Cert.Kernel1Ideal.Facts) (hReference1Ideal : Cert.Reference1Ideal.Facts) (hKernel3 : Cert.Kernel3.Facts) (hKernel3Ideal : Cert.Kernel3Ideal.Facts) (hReference3Ideal : Cert.Reference3Ideal.Facts) (hPre_inputs_ok : Cert.Pre_inputs_ok.Facts) (hPre_head_ok : Cert.Pre_head_ok.Facts) (hPre_first_ok : Cert.Pre_first_ok.Facts) (hPre_near_ok : Cert.Pre_near_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ quiescent_Kernel2 (hKernel2 := hKernel2)
    ∧ quiescent_Kernel2Ideal (hKernel2Ideal := hKernel2Ideal)
    ∧ quiescent_Kernel2Ideal_pre_head_ok (hKernel2Ideal := hKernel2Ideal) (hPre_head_ok := hPre_head_ok)
    ∧ quiescent_Reference2Ideal (hReference2Ideal := hReference2Ideal)
    ∧ quiescent_Reference2Ideal_pre_head_ok (hReference2Ideal := hReference2Ideal) (hPre_head_ok := hPre_head_ok)
    ∧ quiescent_Kernel1 (hKernel1 := hKernel1)
    ∧ quiescent_Kernel1Ideal (hKernel1Ideal := hKernel1Ideal)
    ∧ quiescent_Kernel1Ideal_pre_first_ok (hKernel1Ideal := hKernel1Ideal) (hPre_first_ok := hPre_first_ok)
    ∧ quiescent_Reference1Ideal (hReference1Ideal := hReference1Ideal)
    ∧ quiescent_Reference1Ideal_pre_first_ok (hReference1Ideal := hReference1Ideal) (hPre_first_ok := hPre_first_ok)
    ∧ quiescent_Kernel3 (hKernel3 := hKernel3)
    ∧ quiescent_Kernel3Ideal (hKernel3Ideal := hKernel3Ideal)
    ∧ quiescent_Kernel3Ideal_pre_near_ok (hKernel3Ideal := hKernel3Ideal) (hPre_near_ok := hPre_near_ok)
    ∧ quiescent_Reference3Ideal (hReference3Ideal := hReference3Ideal)
    ∧ quiescent_Reference3Ideal_pre_near_ok (hReference3Ideal := hReference3Ideal) (hPre_near_ok := hPre_near_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
    ∧ preserves_Kernel2_Kernel2Ideal
    ∧ algebraic_Kernel2Ideal_Reference2Ideal_pre_head_ok (hKernel2Ideal := hKernel2Ideal) (hReference2Ideal := hReference2Ideal) (hPre_head_ok := hPre_head_ok)
    ∧ preserves_Kernel1_Kernel1Ideal
    ∧ algebraic_Kernel1Ideal_Reference1Ideal_pre_first_ok (hKernel1Ideal := hKernel1Ideal) (hReference1Ideal := hReference1Ideal) (hPre_first_ok := hPre_first_ok)
    ∧ preserves_Kernel3_Kernel3Ideal
    ∧ algebraic_Kernel3Ideal_Reference3Ideal_pre_near_ok (hKernel3Ideal := hKernel3Ideal) (hReference3Ideal := hReference3Ideal) (hPre_near_ok := hPre_near_ok)
-- ==== Pre_first_ok.lean ====
abbrev S50x200x128 : Shape := ⟨3, ![50, 200, 128]⟩
abbrev S50x200x8 : Shape := ⟨3, ![50, 200, 8]⟩
abbrev S8x128 : Shape := ⟨2, ![8, 128]⟩
abbrev S128 : Shape := ⟨1, ![128]⟩
abbrev S256x256 : Shape := ⟨2, ![256, 256]⟩
abbrev S256 : Shape := ⟨1, ![256]⟩
abbrev S50x200x1 : Shape := ⟨3, ![50, 200, 1]⟩
abbrev S50x200 : Shape := ⟨2, ![50, 200]⟩
abbrev S50x200x4 : Shape := ⟨3, ![50, 200, 4]⟩
abbrev S3x128 : Shape := ⟨2, ![3, 128]⟩
abbrev S_ : Shape := ⟨0, ![]⟩
abbrev S1x128 : Shape := ⟨2, ![1, 128]⟩

class Facts : Prop where
  slices_S50x200x8_S50x200x1_0_0_0 : S50x200x8.Slices ![0, 0, 0] S50x200x1
  shapeCasts_S50x200x1_S50x200 : S50x200x1.ShapeCasts S50x200
  slices_S50x200x8_S50x200x4_0_0_0 : S50x200x8.Slices ![0, 0, 0] S50x200x4
  slices_S8x128_S3x128_0_0 : S8x128.Slices ![0, 0] S3x128
  bcast_S_S50x200x128 : S_.BroadcastsInDim S50x200x128 (![] : Fin 0 → Fin S50x200x128.rank)
  reducesTo_S50x200x128_S_d0_1_2 : S50x200x128.ReducesTo [0, 1, 2] S_
  h_S_ : 0 < S_.numel
  bcast_S_S50x200 : S_.BroadcastsInDim S50x200 (![] : Fin 0 → Fin S50x200.rank)
  reducesTo_S50x200_S_d0_1 : S50x200.ReducesTo [0, 1] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  slices_S3x128_S1x128_1_0 : S3x128.Slices ![1, 0] S1x128
  shapeCasts_S1x128_S128 : S1x128.ShapeCasts S128
  slices_S3x128_S1x128_2_0 : S3x128.Slices ![2, 0] S1x128
  slices_S3x128_S1x128_0_0 : S3x128.Slices ![0, 0] S1x128
  bcast_S_S50x200x4 : S_.BroadcastsInDim S50x200x4 (![] : Fin 0 → Fin S50x200x4.rank)
  reducesTo_S50x200x4_S_d0_1_2 : S50x200x4.ReducesTo [0, 1, 2] S_

variable [Facts]

def fn_part3 {F : FTy → Type} [FloatOps F] (main_v49 : IVec S_ 1) (main_v54 : IVec S50x200x4 1) : IVec S_ 1 :=
  let main_c_15 : IVec S_ 1 := constantI S_ 1 1#1
  let main_v55 : IVec S_ 1 := (fun x v => Host.reduce IntOp.andi x v reducesTo_S50x200x4_S_d0_1_2 h_S_) main_v54 main_c_15
  let main_v56 : IVec S_ 1 := andi main_v49 main_v55
  main_v56

def fn_part2 {F : FTy → Type} [FloatOps F] (main_v2 : IVec S50x200x4 32) (main_v3 : FVec F S3x128 .f32) (main_v34 : IVec S_ 1) : IVec S_ 1 :=
  let main_v35 : FVec F S1x128 .f32 := (extractStridedSlice S1x128 ![1, 0] · slices_S3x128_S1x128_1_0) main_v3
  let main_v36 : FVec F S128 .f32 := shapeCast S128 main_v35 shapeCasts_S1x128_S128
  let main_v37 : FVec F S1x128 .f32 := (extractStridedSlice S1x128 ![2, 0] · slices_S3x128_S1x128_2_0) main_v3
  let main_v38 : FVec F S128 .f32 := shapeCast S128 main_v37 shapeCasts_S1x128_S128
  let main_cst_11 : FVec F S_ .f32 := constant S_ .f32 0x3F800000#32
  let main_v39 : FVec F S128 .f32 := broadcastInDim S128 ![] bcast_S_S128 main_cst_11
  let main_v40 : FVec F S128 .f32 := maximumf main_v38 main_v39
  let main_v41 : FVec F S128 .f32 := mulf main_v36 main_v40
  let main_v42 : FVec F S1x128 .f32 := (extractStridedSlice S1x128 ![0, 0] · slices_S3x128_S1x128_0_0) main_v3
  let main_v43 : FVec F S128 .f32 := shapeCast S128 main_v42 shapeCasts_S1x128_S128
  let main_v44 : FVec F S1x128 .f32 := (extractStridedSlice S1x128 ![0, 0] · slices_S3x128_S1x128_0_0) main_v3
  let main_v45 : FVec F S128 .f32 := shapeCast S128 main_v44 shapeCasts_S1x128_S128
  let main_v46 : FVec F S128 .f32 := mulf main_v43 main_v45
  let main_v47 : IVec S128 1 := cmpf .oge main_v41 main_v46
  let main_c_12 : IVec S_ 1 := constantI S_ 1 1#1
  let main_v48 : IVec S_ 1 := (fun x v => Host.reduce IntOp.andi x v reducesTo_S128_S_d0 h_S_) main_v47 main_c_12
  let main_v49 : IVec S_ 1 := andi main_v34 main_v48
  let main_c_13 : IVec S_ 32 := constantI S_ 32 0#32
  let main_v50 : IVec S50x200x4 32 := broadcastInDim S50x200x4 ![] bcast_S_S50x200x4 main_c_13
  let main_v51 : IVec S50x200x4 1 := cmpi .sge main_v2 main_v50
  let main_c_14 : IVec S_ 32 := constantI S_ 32 200#32
  let main_v52 : IVec S50x200x4 32 := broadcastInDim S50x200x4 ![] bcast_S_S50x200x4 main_c_14
  let main_v53 : IVec S50x200x4 1 := cmpi .slt main_v2 main_v52
  let main_v54 : IVec S50x200x4 1 := andi main_v51 main_v53
  fn_part3 (F := F) main_v49 main_v54

def fn_part1 {F : FTy → Type} [FloatOps F] (main_arg5 : FVec F S128 .f32) (main_arg6 : FVec F S128 .f32) (main_v1 : FVec F S50x200 .f32) (main_v2 : IVec S50x200x4 32) (main_v3 : FVec F S3x128 .f32) (main_v17 : IVec S_ 1) : IVec S_ 1 :=
  let main_v18 : FVec F S128 .f32 := Host.absf main_arg5
  let main_cst_4 : FVec F S_ .f32 := constant S_ .f32 0x7F800000#32
  let main_v19 : FVec F S128 .f32 := broadcastInDim S128 ![] bcast_S_S128 main_cst_4
  let main_v20 : IVec S128 1 := cmpf .olt main_v18 main_v19
  let main_c_5 : IVec S_ 1 := constantI S_ 1 1#1
  let main_v21 : IVec S_ 1 := (fun x v => Host.reduce IntOp.andi x v reducesTo_S128_S_d0 h_S_) main_v20 main_c_5
  let main_v22 : IVec S_ 1 := andi main_v17 main_v21
  let main_v23 : FVec F S128 .f32 := Host.absf main_arg6
  let main_cst_6 : FVec F S_ .f32 := constant S_ .f32 0x7F800000#32
  let main_v24 : FVec F S128 .f32 := broadcastInDim S128 ![] bcast_S_S128 main_cst_6
  let main_v25 : IVec S128 1 := cmpf .olt main_v23 main_v24
  let main_c_7 : IVec S_ 1 := constantI S_ 1 1#1
  let main_v26 : IVec S_ 1 := (fun x v => Host.reduce IntOp.andi x v reducesTo_S128_S_d0 h_S_) main_v25 main_c_7
  let main_v27 : IVec S_ 1 := andi main_v22 main_v26
  let main_cst_8 : FVec F S_ .f32 := constant S_ .f32 0x00000000#32
  let main_v28 : FVec F S50x200 .f32 := broadcastInDim S50x200 ![] bcast_S_S50x200 main_cst_8
  let main_v29 : IVec S50x200 1 := cmpf .oeq main_v1 main_v28
  let main_cst_9 : FVec F S_ .f32 := constant S_ .f32 0x3F800000#32
  let main_v30 : FVec F S50x200 .f32 := broadcastInDim S50x200 ![] bcast_S_S50x200 main_cst_9
  let main_v31 : IVec S50x200 1 := cmpf .oge main_v1 main_v30
  let main_v32 : IVec S50x200 1 := ori main_v29 main_v31
  let main_c_10 : IVec S_ 1 := constantI S_ 1 1#1
  let main_v33 : IVec S_ 1 := (fun x v => Host.reduce IntOp.andi x v reducesTo_S50x200_S_d0_1 h_S_) main_v32 main_c_10
  let main_v34 : IVec S_ 1 := andi main_v27 main_v33
  fn_part2 (F := F) main_v2 main_v3 main_v34

def fn {F : FTy → Type} [FloatOps F] (main_arg0 : FVec F S50x200x128 .f32) (main_arg1 : FVec F S50x200x8 .f32) (main_arg2 : IVec S50x200x8 32) (main_arg3 : FVec F S50x200x8 .f32) (main_arg4 : FVec F S8x128 .f32) (main_arg5 : FVec F S128 .f32) (main_arg6 : FVec F S128 .f32) (main_arg7 : FVec F S128 .f32) (main_arg8 : FVec F S256x256 .f32) (main_arg9 : FVec F S256 .f32) : IVec S_ 1 :=
  let main_v0 : FVec F S50x200x1 .f32 := (extractStridedSlice S50x200x1 ![0, 0, 0] · slices_S50x200x8_S50x200x1_0_0_0) main_arg1
  let main_v1 : FVec F S50x200 .f32 := shapeCast S50x200 main_v0 shapeCasts_S50x200x1_S50x200
  let main_v2 : IVec S50x200x4 32 := (extractStridedSlice S50x200x4 ![0, 0, 0] · slices_S50x200x8_S50x200x4_0_0_0) main_arg2
  let main_v3 : FVec F S3x128 .f32 := (extractStridedSlice S3x128 ![0, 0] · slices_S8x128_S3x128_0_0) main_arg4
  let main_v4 : FVec F S50x200x128 .f32 := Host.absf main_arg0
  let main_cst : FVec F S_ .f32 := constant S_ .f32 0x7F800000#32
  let main_v5 : FVec F S50x200x128 .f32 := broadcastInDim S50x200x128 ![] bcast_S_S50x200x128 main_cst
  let main_v6 : IVec S50x200x128 1 := cmpf .olt main_v4 main_v5
  let main_c : IVec S_ 1 := constantI S_ 1 1#1
  let main_v7 : IVec S_ 1 := (fun x v => Host.reduce IntOp.andi x v reducesTo_S50x200x128_S_d0_1_2 h_S_) main_v6 main_c
  let main_v8 : FVec F S50x200 .f32 := Host.absf main_v1
  let main_cst_0 : FVec F S_ .f32 := constant S_ .f32 0x7F800000#32
  let main_v9 : FVec F S50x200 .f32 := broadcastInDim S50x200 ![] bcast_S_S50x200 main_cst_0
  let main_v10 : IVec S50x200 1 := cmpf .olt main_v8 main_v9
  let main_c_1 : IVec S_ 1 := constantI S_ 1 1#1
  let main_v11 : IVec S_ 1 := (fun x v => Host.reduce IntOp.andi x v reducesTo_S50x200_S_d0_1 h_S_) main_v10 main_c_1
  let main_v12 : IVec S_ 1 := andi main_v7 main_v11
  let main_v13 : FVec F S3x128 .f32 := Host.absf main_v3
  let main_cst_2 : FVec F S_ .f32 := constant S_ .f32 0x7F800000#32
  let main_v14 : FVec F S3x128 .f32 := broadcastInDim S3x128 ![] bcast_S_S3x128 main_cst_2
  let main_v15 : IVec S3x128 1 := cmpf .olt main_v13 main_v14
  let main_c_3 : IVec S_ 1 := constantI S_ 1 1#1
  let main_v16 : IVec S_ 1 := (fun x v => Host.reduce IntOp.andi x v reducesTo_S3x128_S_d0_1 h_S_) main_v15 main_c_3
  let main_v17 : IVec S_ 1 := andi main_v12 main_v16
  fn_part1 (F := F) main_arg5 main_arg6 main_v1 main_v2 main_v3 main_v17
-- ==== Pre_head_ok.lean ====
abbrev S50x128x512 : Shape := ⟨3, ![50, 128, 512]⟩
abbrev S50x128x8 : Shape := ⟨3, ![50, 128, 8]⟩
abbrev S8x512 : Shape := ⟨2, ![8, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S50x128x1 : Shape := ⟨3, ![50, 128, 1]⟩
abbrev S50x128 : Shape := ⟨2, ![50, 128]⟩
abbrev S3x512 : Shape := ⟨2, ![3, 512]⟩
abbrev S_ : Shape := ⟨0, ![]⟩
abbrev S1x512 : Shape := ⟨2, ![1, 512]⟩

class Facts : Prop where
  slices_S50x128x8_S50x128x1_0_0_0 : S50x128x8.Slices ![0, 0, 0] S50x128x1
  shapeCasts_S50x128x1_S50x128 : S50x128x1.ShapeCasts S50x128
  slices_S8x512_S3x512_0_0 : S8x512.Slices ![0, 0] S3x512
  bcast_S_S50x128x512 : S_.BroadcastsInDim S50x128x512 (![] : Fin 0 → Fin S50x128x512.rank)
  reducesTo_S50x128x512_S_d0_1_2 : S50x128x512.ReducesTo [0, 1, 2] S_
  h_S_ : 0 < S_.numel
  bcast_S_S50x128 : S_.BroadcastsInDim S50x128 (![] : Fin 0 → Fin S50x128.rank)
  reducesTo_S50x128_S_d0_1 : S50x128.ReducesTo [0, 1] S_
  bcast_S_S3x512 : S_.BroadcastsInDim S3x512 (![] : Fin 0 → Fin S3x512.rank)
  reducesTo_S3x512_S_d0_1 : S3x512.ReducesTo [0, 1] S_
  bcast_S_S512 : S_.BroadcastsInDim S512 (![] : Fin 0 → Fin S512.rank)
  reducesTo_S512_S_d0 : S512.ReducesTo [0] S_
  slices_S3x512_S1x512_1_0 : S3x512.Slices ![1, 0] S1x512
  shapeCasts_S1x512_S512 : S1x512.ShapeCasts S512
  slices_S3x512_S1x512_2_0 : S3x512.Slices ![2, 0] S1x512
  slices_S3x512_S1x512_0_0 : S3x512.Slices ![0, 0] S1x512

variable [Facts]

def fn_part2 {F : FTy → Type} [FloatOps F] (main_v2 : FVec F S3x512 .f32) (main_v33 : IVec S_ 1) (main_v34 : FVec F S1x512 .f32) : IVec S_ 1 :=
  let main_v35 : FVec F S512 .f32 := shapeCast S512 main_v34 shapeCasts_S1x512_S512
  let main_v36 : FVec F S1x512 .f32 := (extractStridedSlice S1x512 ![2, 0] · slices_S3x512_S1x512_2_0) main_v2
  let main_v37 : FVec F S512 .f32 := shapeCast S512 main_v36 shapeCasts_S1x512_S512
  let main_cst_11 : FVec F S_ .f32 := constant S_ .f32 0x3F800000#32
  let main_v38 : FVec F S512 .f32 := broadcastInDim S512 ![] bcast_S_S512 main_cst_11
  let main_v39 : FVec F S512 .f32 := maximumf main_v37 main_v38
  let main_v40 : FVec F S512 .f32 := mulf main_v35 main_v39
  let main_v41 : FVec F S1x512 .f32 := (extractStridedSlice S1x512 ![0, 0] · slices_S3x512_S1x512_0_0) main_v2
  let main_v42 : FVec F S512 .f32 := shapeCast S512 main_v41 shapeCasts_S1x512_S512
  let main_v43 : FVec F S1x512 .f32 := (extractStridedSlice S1x512 ![0, 0] · slices_S3x512_S1x512_0_0) main_v2
  let main_v44 : FVec F S512 .f32 := shapeCast S512 main_v43 shapeCasts_S1x512_S512
  let main_v45 : FVec F S512 .f32 := mulf main_v42 main_v44
  let main_v46 : IVec S512 1 := cmpf .oge main_v40 main_v45
  let main_c_12 : IVec S_ 1 := constantI S_ 1 1#1
  let main_v47 : IVec S_ 1 := (fun x v => Host.reduce IntOp.andi x v reducesTo_S512_S_d0 h_S_) main_v46 main_c_12
  let main_v48 : IVec S_ 1 := andi main_v33 main_v47
  main_v48

def fn_part1 {F : FTy → Type} [FloatOps F] (main_arg4 : FVec F S512 .f32) (main_v1 : FVec F S50x128 .f32) (main_v2 : FVec F S3x512 .f32) (main_v16 : IVec S_ 1) (main_v17 : FVec F S512 .f32) : IVec S_ 1 :=
  let main_cst_4 : FVec F S_ .f32 := constant S_ .f32 0x7F800000#32
  let main_v18 : FVec F S512 .f32 := broadcastInDim S512 ![] bcast_S_S512 main_cst_4
  let main_v19 : IVec S512 1 := cmpf .olt main_v17 main_v18
  let main_c_5 : IVec S_ 1 := constantI S_ 1 1#1
  let main_v20 : IVec S_ 1 := (fun x v => Host.reduce IntOp.andi x v reducesTo_S512_S_d0 h_S_) main_v19 main_c_5
  let main_v21 : IVec S_ 1 := andi main_v16 main_v20
  let main_v22 : FVec F S512 .f32 := Host.absf main_arg4
  let main_cst_6 : FVec F S_ .f32 := constant S_ .f32 0x7F800000#32
  let main_v23 : FVec F S512 .f32 := broadcastInDim S512 ![] bcast_S_S512 main_cst_6
  let main_v24 : IVec S512 1 := cmpf .olt main_v22 main_v23
  let main_c_7 : IVec S_ 1 := constantI S_ 1 1#1
  let main_v25 : IVec S_ 1 := (fun x v => Host.reduce IntOp.andi x v reducesTo_S512_S_d0 h_S_) main_v24 main_c_7
  let main_v26 : IVec S_ 1 := andi main_v21 main_v25
  let main_cst_8 : FVec F S_ .f32 := constant S_ .f32 0x00000000#32
  let main_v27 : FVec F S50x128 .f32 := broadcastInDim S50x128 ![] bcast_S_S50x128 main_cst_8
  let main_v28 : IVec S50x128 1 := cmpf .oeq main_v1 main_v27
  let main_cst_9 : FVec F S_ .f32 := constant S_ .f32 0x3F800000#32
  let main_v29 : FVec F S50x128 .f32 := broadcastInDim S50x128 ![] bcast_S_S50x128 main_cst_9
  let main_v30 : IVec S50x128 1 := cmpf .oge main_v1 main_v29
  let main_v31 : IVec S50x128 1 := ori main_v28 main_v30
  let main_c_10 : IVec S_ 1 := constantI S_ 1 1#1
  let main_v32 : IVec S_ 1 := (fun x v => Host.reduce IntOp.andi x v reducesTo_S50x128_S_d0_1 h_S_) main_v31 main_c_10
  let main_v33 : IVec S_ 1 := andi main_v26 main_v32
  let main_v34 : FVec F S1x512 .f32 := (extractStridedSlice S1x512 ![1, 0] · slices_S3x512_S1x512_1_0) main_v2
  fn_part2 (F := F) main_v2 main_v33 main_v34

def fn {F : FTy → Type} [FloatOps F] (main_arg0 : FVec F S50x128x512 .f32) (main_arg1 : FVec F S50x128x8 .f32) (main_arg2 : FVec F S8x512 .f32) (main_arg3 : FVec F S512 .f32) (main_arg4 : FVec F S512 .f32) (main_arg5 : FVec F S512x512 .f32) (main_arg6 : FVec F S512 .f32) (main_arg7 : FVec F S512 .f32) (main_arg8 : FVec F S512 .f32) (main_arg9 : FVec F S512x1 .f32) (main_arg10 : FVec F S1 .f32) (main_arg11 : FVec F S1 .f32) (main_arg12 : FVec F S1 .f32) : IVec S_ 1 :=
  let main_v0 : FVec F S50x128x1 .f32 := (extractStridedSlice S50x128x1 ![0, 0, 0] · slices_S50x128x8_S50x128x1_0_0_0) main_arg1
  let main_v1 : FVec F S50x128 .f32 := shapeCast S50x128 main_v0 shapeCasts_S50x128x1_S50x128
  let main_v2 : FVec F S3x512 .f32 := (extractStridedSlice S3x512 ![0, 0] · slices_S8x512_S3x512_0_0) main_arg2
  let main_v3 : FVec F S50x128x512 .f32 := Host.absf main_arg0
  let main_cst : FVec F S_ .f32 := constant S_ .f32 0x7F800000#32
  let main_v4 : FVec F S50x128x512 .f32 := broadcastInDim S50x128x512 ![] bcast_S_S50x128x512 main_cst
  let main_v5 : IVec S50x128x512 1 := cmpf .olt main_v3 main_v4
  let main_c : IVec S_ 1 := constantI S_ 1 1#1
  let main_v6 : IVec S_ 1 := (fun x v => Host.reduce IntOp.andi x v reducesTo_S50x128x512_S_d0_1_2 h_S_) main_v5 main_c
  let main_v7 : FVec F S50x128 .f32 := Host.absf main_v1
  let main_cst_0 : FVec F S_ .f32 := constant S_ .f32 0x7F800000#32
  let main_v8 : FVec F S50x128 .f32 := broadcastInDim S50x128 ![] bcast_S_S50x128 main_cst_0
  let main_v9 : IVec S50x128 1 := cmpf .olt main_v7 main_v8
  let main_c_1 : IVec S_ 1 := constantI S_ 1 1#1
  let main_v10 : IVec S_ 1 := (fun x v => Host.reduce IntOp.andi x v reducesTo_S50x128_S_d0_1 h_S_) main_v9 main_c_1
  let main_v11 : IVec S_ 1 := andi main_v6 main_v10
  let main_v12 : FVec F S3x512 .f32 := Host.absf main_v2
  let main_cst_2 : FVec F S_ .f32 := constant S_ .f32 0x7F800000#32
  let main_v13 : FVec F S3x512 .f32 := broadcastInDim S3x512 ![] bcast_S_S3x512 main_cst_2
  let main_v14 : IVec S3x512 1 := cmpf .olt main_v12 main_v13
  let main_c_3 : IVec S_ 1 := constantI S_ 1 1#1
  let main_v15 : IVec S_ 1 := (fun x v => Host.reduce IntOp.andi x v reducesTo_S3x512_S_d0_1 h_S_) main_v14 main_c_3
  let main_v16 : IVec S_ 1 := andi main_v11 main_v15
  let main_v17 : FVec F S512 .f32 := Host.absf main_arg3
  fn_part1 (F := F) main_arg4 main_v1 main_v2 main_v16 main_v17
-- ==== Pre_inputs_ok.lean ====
abbrev S50x160x256 : Shape := ⟨3, ![50, 160, 256]⟩
abbrev S50x160x8 : Shape := ⟨3, ![50, 160, 8]⟩
abbrev S8x256 : Shape := ⟨2, ![8, 256]⟩
abbrev S256 : Shape := ⟨1, ![256]⟩
abbrev S512x512 : Shape := ⟨2, ![512, 512]⟩
abbrev S512 : Shape := ⟨1, ![512]⟩
abbrev S50x160x1 : Shape := ⟨3, ![50, 160, 1]⟩
abbrev S50x160 : Shape := ⟨2, ![50, 160]⟩
abbrev S50x160x4 : Shape := ⟨3, ![50, 160, 4]⟩
abbrev S3x256 : Shape := ⟨2, ![3, 256]⟩
abbrev S_ : Shape := ⟨0, ![]⟩
abbrev S1x256 : Shape := ⟨2, ![1, 256]⟩

class Facts : Prop where
  slices_S50x160x8_S50x160x1_0_0_0 : S50x160x8.Slices ![0, 0, 0] S50x160x1
  shapeCasts_S50x160x1_S50x160 : S50x160x1.ShapeCasts S50x160
  slices_S50x160x8_S50x160x4_0_0_0 : S50x160x8.Slices ![0, 0, 0] S50x160x4
  slices_S8x256_S3x256_0_0 : S8x256.Slices ![0, 0] S3x256
  bcast_S_S50x160x256 : S_.BroadcastsInDim S50x160x256 (![] : Fin 0 → Fin S50x160x256.rank)
  reducesTo_S50x160x256_S_d0_1_2 : S50x160x256.ReducesTo [0, 1, 2] S_
  h_S_ : 0 < S_.numel
  bcast_S_S50x160 : S_.BroadcastsInDim S50x160 (![] : Fin 0 → Fin S50x160.rank)
  reducesTo_S50x160_S_d0_1 : S50x160.ReducesTo [0, 1] S_
  bcast_S_S3x256 : S_.BroadcastsInDim S3x256 (![] : Fin 0 → Fin S3x256.rank)
  reducesTo_S3x256_S_d0_1 : S3x256.ReducesTo [0, 1] S_
  bcast_S_S256 : S_.BroadcastsInDim S256 (![] : Fin 0 → Fin S256.rank)
  reducesTo_S256_S_d0 : S256.ReducesTo [0] S_
  slices_S3x256_S1x256_1_0 : S3x256.Slices ![1, 0] S1x256
  shapeCasts_S1x256_S256 : S1x256.ShapeCasts S256
  slices_S3x256_S1x256_2_0 : S3x256.Slices ![2, 0] S1x256
  slices_S3x256_S1x256_0_0 : S3x256.Slices ![0, 0] S1x256
  bcast_S_S50x160x4 : S_.BroadcastsInDim S50x160x4 (![] : Fin 0 → Fin S50x160x4.rank)
  reducesTo_S50x160x4_S_d0_1_2 : S50x160x4.ReducesTo [0, 1, 2] S_

variable [Facts]

def fn_part3 {F : FTy → Type} [FloatOps F] (main_v49 : IVec S_ 1) (main_v54 : IVec S50x160x4 1) : IVec S_ 1 :=
  let main_c_15 : IVec S_ 1 := constantI S_ 1 1#1
  let main_v55 : IVec S_ 1 := (fun x v => Host.reduce IntOp.andi x v reducesTo_S50x160x4_S_d0_1_2 h_S_) main_v54 main_c_15
  let main_v56 : IVec S_ 1 := andi main_v49 main_v55
  main_v56

def fn_part2 {F : FTy → Type} [FloatOps F] (main_v2 : IVec S50x160x4 32) (main_v3 : FVec F S3x256 .f32) (main_v34 : IVec S_ 1) : IVec S_ 1 :=
  let main_v35 : FVec F S1x256 .f32 := (extractStridedSlice S1x256 ![1, 0] · slices_S3x256_S1x256_1_0) main_v3
  let main_v36 : FVec F S256 .f32 := shapeCast S256 main_v35 shapeCasts_S1x256_S256
  let main_v37 : FVec F S1x256 .f32 := (extractStridedSlice S1x256 ![2, 0] · slices_S3x256_S1x256_2_0) main_v3
  let main_v38 : FVec F S256 .f32 := shapeCast S256 main_v37 shapeCasts_S1x256_S256
  let main_cst_11 : FVec F S_ .f32 := constant S_ .f32 0x3F800000#32
  let main_v39 : FVec F S256 .f32 := broadcastInDim S256 ![] bcast_S_S256 main_cst_11
  let main_v40 : FVec F S256 .f32 := maximumf main_v38 main_v39
  let main_v41 : FVec F S256 .f32 := mulf main_v36 main_v40
  let main_v42 : FVec F S1x256 .f32 := (extractStridedSlice S1x256 ![0, 0] · slices_S3x256_S1x256_0_0) main_v3
  let main_v43 : FVec F S256 .f32 := shapeCast S256 main_v42 shapeCasts_S1x256_S256
  let main_v44 : FVec F S1x256 .f32 := (extractStridedSlice S1x256 ![0, 0] · slices_S3x256_S1x256_0_0) main_v3
  let main_v45 : FVec F S256 .f32 := shapeCast S256 main_v44 shapeCasts_S1x256_S256
  let main_v46 : FVec F S256 .f32 := mulf main_v43 main_v45
  let main_v47 : IVec S256 1 := cmpf .oge main_v41 main_v46
  let main_c_12 : IVec S_ 1 := constantI S_ 1 1#1
  let main_v48 : IVec S_ 1 := (fun x v => Host.reduce IntOp.andi x v reducesTo_S256_S_d0 h_S_) main_v47 main_c_12
  let main_v49 : IVec S_ 1 := andi main_v34 main_v48
  let main_c_13 : IVec S_ 32 := constantI S_ 32 0#32
  let main_v50 : IVec S50x160x4 32 := broadcastInDim S50x160x4 ![] bcast_S_S50x160x4 main_c_13
  let main_v51 : IVec S50x160x4 1 := cmpi .sge main_v2 main_v50
  let main_c_14 : IVec S_ 32 := constantI S_ 32 160#32
  let main_v52 : IVec S50x160x4 32 := broadcastInDim S50x160x4 ![] bcast_S_S50x160x4 main_c_14
  let main_v53 : IVec S50x160x4 1 := cmpi .slt main_v2 main_v52
  let main_v54 : IVec S50x160x4 1 := andi main_v51 main_v53
  fn_part3 (F := F) main_v49 main_v54

def fn_part1 {F : FTy → Type} [FloatOps F] (main_arg5 : FVec F S256 .f32) (main_arg6 : FVec F S256 .f32) (main_v1 : FVec F S50x160 .f32) (main_v2 : IVec S50x160x4 32) (main_v3 : FVec F S3x256 .f32) (main_v17 : IVec S_ 1) : IVec S_ 1 :=
  let main_v18 : FVec F S256 .f32 := Host.absf main_arg5
  let main_cst_4 : FVec F S_ .f32 := constant S_ .f32 0x7F800000#32
  let main_v19 : FVec F S256 .f32 := broadcastInDim S256 ![] bcast_S_S256 main_cst_4
  let main_v20 : IVec S256 1 := cmpf .olt main_v18 main_v19
  let main_c_5 : IVec S_ 1 := constantI S_ 1 1#1
  let main_v21 : IVec S_ 1 := (fun x v => Host.reduce IntOp.andi x v reducesTo_S256_S_d0 h_S_) main_v20 main_c_5
  let main_v22 : IVec S_ 1 := andi main_v17 main_v21
  let main_v23 : FVec F S256 .f32 := Host.absf main_arg6
  let main_cst_6 : FVec F S_ .f32 := constant S_ .f32 0x7F800000#32
  let main_v24 : FVec F S256 .f32 := broadcastInDim S256 ![] bcast_S_S256 main_cst_6
  let main_v25 : IVec S256 1 := cmpf .olt main_v23 main_v24
  let main_c_7 : IVec S_ 1 := constantI S_ 1 1#1
  let main_v26 : IVec S_ 1 := (fun x v => Host.reduce IntOp.andi x v reducesTo_S256_S_d0 h_S_) main_v25 main_c_7
  let main_v27 : IVec S_ 1 := andi main_v22 main_v26
  let main_cst_8 : FVec F S_ .f32 := constant S_ .f32 0x00000000#32
  let main_v28 : FVec F S50x160 .f32 := broadcastInDim S50x160 ![] bcast_S_S50x160 main_cst_8
  let main_v29 : IVec S50x160 1 := cmpf .oeq main_v1 main_v28
  let main_cst_9 : FVec F S_ .f32 := constant S_ .f32 0x3F800000#32
  let main_v30 : FVec F S50x160 .f32 := broadcastInDim S50x160 ![] bcast_S_S50x160 main_cst_9
  let main_v31 : IVec S50x160 1 := cmpf .oge main_v1 main_v30
  let main_v32 : IVec S50x160 1 := ori main_v29 main_v31
  let main_c_10 : IVec S_ 1 := constantI S_ 1 1#1
  let main_v33 : IVec S_ 1 := (fun x v => Host.reduce IntOp.andi x v reducesTo_S50x160_S_d0_1 h_S_) main_v32 main_c_10
  let main_v34 : IVec S_ 1 := andi main_v27 main_v33
  fn_part2 (F := F) main_v2 main_v3 main_v34

def fn {F : FTy → Type} [FloatOps F] (main_arg0 : FVec F S50x160x256 .f32) (main_arg1 : FVec F S50x160x8 .f32) (main_arg2 : IVec S50x160x8 32) (main_arg3 : FVec F S50x160x8 .f32) (main_arg4 : FVec F S8x256 .f32) (main_arg5 : FVec F S256 .f32) (main_arg6 : FVec F S256 .f32) (main_arg7 : FVec F S256 .f32) (main_arg8 : FVec F S512x512 .f32) (main_arg9 : FVec F S512 .f32) : IVec S_ 1 :=
  let main_v0 : FVec F S50x160x1 .f32 := (extractStridedSlice S50x160x1 ![0, 0, 0] · slices_S50x160x8_S50x160x1_0_0_0) main_arg1
  let main_v1 : FVec F S50x160 .f32 := shapeCast S50x160 main_v0 shapeCasts_S50x160x1_S50x160
  let main_v2 : IVec S50x160x4 32 := (extractStridedSlice S50x160x4 ![0, 0, 0] · slices_S50x160x8_S50x160x4_0_0_0) main_arg2
  let main_v3 : FVec F S3x256 .f32 := (extractStridedSlice S3x256 ![0, 0] · slices_S8x256_S3x256_0_0) main_arg4
  let main_v4 : FVec F S50x160x256 .f32 := Host.absf main_arg0
  let main_cst : FVec F S_ .f32 := constant S_ .f32 0x7F800000#32
  let main_v5 : FVec F S50x160x256 .f32 := broadcastInDim S50x160x256 ![] bcast_S_S50x160x256 main_cst
  let main_v6 : IVec S50x160x256 1 := cmpf .olt main_v4 main_v5
  let main_c : IVec S_ 1 := constantI S_ 1 1#1
  let main_v7 : IVec S_ 1 := (fun x v => Host.reduce IntOp.andi x v reducesTo_S50x160x256_S_d0_1_2 h_S_) main_v6 main_c
  let main_v8 : FVec F S50x160 .f32 := Host.absf main_v1
  let main_cst_0 : FVec F S_ .f32 := constant S_ .f32 0x7F800000#32
  let main_v9 : FVec F S50x160 .f32 := broadcastInDim S50x160 ![] bcast_S_S50x160 main_cst_0
  let main_v10 : IVec S50x160 1 := cmpf .olt main_v8 main_v9
  let main_c_1 : IVec S_ 1 := constantI S_ 1 1#1
  let main_v11 : IVec S_ 1 := (fun x v => Host.reduce IntOp.andi x v reducesTo_S50x160_S_d0_1 h_S_) main_v10 main_c_1
  let main_v12 : IVec S_ 1 := andi main_v7 main_v11
  let main_v13 : FVec F S3x256 .f32 := Host.absf main_v3
  let main_cst_2 : FVec F S_ .f32 := constant S_ .f32 0x7F800000#32
  let main_v14 : FVec F S3x256 .f32 := broadcastInDim S3x256 ![] bcast_S_S3x256 main_cst_2
  let main_v15 : IVec S3x256 1 := cmpf .olt main_v13 main_v14
  let main_c_3 : IVec S_ 1 := constantI S_ 1 1#1
  let main_v16 : IVec S_ 1 := (fun x v => Host.reduce IntOp.andi x v reducesTo_S3x256_S_d0_1 h_S_) main_v15 main_c_3
  let main_v17 : IVec S_ 1 := andi main_v12 main_v16
  fn_part1 (F := F) main_arg5 main_arg6 main_v1 main_v2 main_v3 main_v17
-- ==== Pre_near_ok.lean ====
abbrev S10000x53 : Shape := ⟨2, ![10000, 53]⟩
abbrev S10000x3 : Shape := ⟨2, ![10000, 3]⟩
abbrev S106x128 : Shape := ⟨2, ![106, 128]⟩
abbrev S128 : Shape := ⟨1, ![128]⟩
abbrev S50x200x3 : Shape := ⟨3, ![50, 200, 3]⟩
abbrev S_ : Shape := ⟨0, ![]⟩
abbrev S50x200 : Shape := ⟨2, ![50, 200]⟩
abbrev S50x200x1 : Shape := ⟨3, ![50, 200, 1]⟩
abbrev S50x1x200 : Shape := ⟨3, ![50, 1, 200]⟩
abbrev S50x200x200 : Shape := ⟨3, ![50, 200, 200]⟩

class Facts : Prop where
  shapeCasts_S10000x3_S50x200x3 : S10000x3.ShapeCasts S50x200x3
  reducesTo_S50x200x3_S50x200_d2 : S50x200x3.ReducesTo [2] S50x200
  h_S_ : 0 < S_.numel
  bcast_S50x200_S50x200x1_0_1 : S50x200.BroadcastsInDim S50x200x1 (![0, 1] : Fin 2 → Fin S50x200x1.rank)
  bcast_S50x200_S50x1x200_0_2 : S50x200.BroadcastsInDim S50x1x200 (![0, 2] : Fin 2 → Fin S50x1x200.rank)
  bcast_S50x200x1_S50x200x200_0_1_2 : S50x200x1.BroadcastsInDim S50x200x200 (![0, 1, 2] : Fin 3 → Fin S50x200x200.rank)
  bcast_S50x1x200_S50x200x200_0_1_2 : S50x1x200.BroadcastsInDim S50x200x200 (![0, 1, 2] : Fin 3 → Fin S50x200x200.rank)
  bcast_S_S50x200x200 : S_.BroadcastsInDim S50x200x200 (![] : Fin 0 → Fin S50x200x200.rank)
  bcast_S_S10000x53 : S_.BroadcastsInDim S10000x53 (![] : Fin 0 → Fin S10000x53.rank)
  reducesTo_S10000x53_S_d0_1 : S10000x53.ReducesTo [0, 1] S_
  reducesTo_S50x200x200_S_d0_1_2 : S50x200x200.ReducesTo [0, 1, 2] S_
  dot_S50x200x3_S50x200x3_S50x200x200_2_2_1_1_0_0_wf : DotDims.WF S50x200x3 S50x200x3 S50x200x200 [2] [2] [1] [1] [0] [0]

variable [Facts]

def dot_S50x200x3_S50x200x3_S50x200x200_2_2_1_1_0_0 : DotDims S50x200x3 S50x200x3 S50x200x200 where
  lhsContracting := [2]
  rhsContracting := [2]
  lhsNonContracting := [1]
  rhsNonContracting := [1]
  lhsBatch := [0]
  rhsBatch := [0]
  wf := dot_S50x200x3_S50x200x3_S50x200x200_2_2_1_1_0_0_wf
def fn_part1 {F : FTy → Type} [FloatOps F] (main_v15 : IVec S_ 1) (main_v17 : IVec S50x200x200 1) (main_c_3 : IVec S_ 1) : IVec S_ 1 :=
  let main_v18 : IVec S_ 1 := (fun x v => Host.reduce IntOp.andi x v reducesTo_S50x200x200_S_d0_1_2 h_S_) main_v17 main_c_3
  let main_v19 : IVec S_ 1 := andi main_v15 main_v18
  main_v19

def fn {F : FTy → Type} [FloatOps F] (main_arg0 : FVec F S10000x53 .f32) (main_arg1 : FVec F S10000x3 .f32) (main_arg2 : FVec F S106x128 .f32) (main_arg3 : FVec F S128 .f32) : IVec S_ 1 :=
  let main_v0 : FVec F S50x200x3 .f32 := shapeCast S50x200x3 main_arg1 shapeCasts_S10000x3_S50x200x3
  let main_v1 : FVec F S50x200x3 .f32 := mulf main_v0 main_v0
  let main_cst : FVec F S_ .f32 := constant S_ .f32 0x00000000#32
  let main_v2 : FVec F S50x200 .f32 := (fun x v => Host.reduceAdd x v reducesTo_S50x200x3_S50x200_d2 h_S_) main_v1 main_cst
  let main_v3 : FVec F S50x200x1 .f32 := broadcastInDim S50x200x1 ![0, 1] bcast_S50x200_S50x200x1_0_1 main_v2
  let main_v4 : FVec F S50x1x200 .f32 := broadcastInDim S50x1x200 ![0, 2] bcast_S50x200_S50x1x200_0_2 main_v2
  let main_v5 : FVec F S50x200x200 .f32 := broadcastInDim S50x200x200 ![0, 1, 2] bcast_S50x200x1_S50x200x200_0_1_2 main_v3
  let main_v6 : FVec F S50x200x200 .f32 := broadcastInDim S50x200x200 ![0, 1, 2] bcast_S50x1x200_S50x200x200_0_1_2 main_v4
  let main_v7 : FVec F S50x200x200 .f32 := addf main_v5 main_v6
  let main_v8 : FVec F S50x200x200 .f32 := (fun l r => Host.dotGeneral dot_S50x200x3_S50x200x3_S50x200x200_2_2_1_1_0_0 none l r) main_v0 main_v0
  let main_cst_0 : FVec F S_ .f32 := constant S_ .f32 0x40000000#32
  let main_v9 : FVec F S50x200x200 .f32 := broadcastInDim S50x200x200 ![] bcast_S_S50x200x200 main_cst_0
  let main_v10 : FVec F S50x200x200 .f32 := mulf main_v9 main_v8
  let main_v11 : FVec F S50x200x200 .f32 := subf main_v7 main_v10
  let main_v12 : FVec F S10000x53 .f32 := Host.absf main_arg0
  let main_cst_1 : FVec F S_ .f32 := constant S_ .f32 0x7F800000#32
  let main_v13 : FVec F S10000x53 .f32 := broadcastInDim S10000x53 ![] bcast_S_S10000x53 main_cst_1
  let main_v14 : IVec S10000x53 1 := cmpf .olt main_v12 main_v13
  let main_c : IVec S_ 1 := constantI S_ 1 1#1
  let main_v15 : IVec S_ 1 := (fun x v => Host.reduce IntOp.andi x v reducesTo_S10000x53_S_d0_1 h_S_) main_v14 main_c
  let main_cst_2 : FVec F S_ .f32 := constant S_ .f32 0x4E6E6B28#32
  let main_v16 : FVec F S50x200x200 .f32 := broadcastInDim S50x200x200 ![] bcast_S_S50x200x200 main_cst_2
  let main_v17 : IVec S50x200x200 1 := cmpf .olt main_v11 main_v16
  let main_c_3 : IVec S_ 1 := constantI S_ 1 1#1
  fn_part1 (F := F) main_v15 main_v17 main_c_3
-- ==== Kernel.lean ====
abbrev S50x160x256 : Shape := ⟨3, ![50, 160, 256]⟩
abbrev S50x160x8 : Shape := ⟨3, ![50, 160, 8]⟩
abbrev S8x256 : Shape := ⟨2, ![8, 256]⟩
abbrev S256 : Shape := ⟨1, ![256]⟩
abbrev S512x512 : Shape := ⟨2, ![512, 512]⟩
abbrev S512 : Shape := ⟨1, ![512]⟩
abbrev S1x256 : Shape := ⟨2, ![1, 256]⟩
abbrev S256x1 : Shape := ⟨2, ![256, 1]⟩
abbrev S_ : Shape := ⟨0, ![]⟩
abbrev S256x128 : Shape := ⟨2, ![256, 128]⟩
abbrev S1x512 : Shape := ⟨2, ![1, 512]⟩
abbrev S50x128x512 : Shape := ⟨3, ![50, 128, 512]⟩
abbrev S50x128x8 : Shape := ⟨3, ![50, 128, 8]⟩
abbrev S8x512 : Shape := ⟨2, ![8, 512]⟩
abbrev S5x160x256 : Shape := ⟨3, ![5, 160, 256]⟩
abbrev S5x160x8 : Shape := ⟨3, ![5, 160, 8]⟩
abbrev S5x128x512 : Shape := ⟨3, ![5, 128, 512]⟩
abbrev S5x128x8 : Shape := ⟨3, ![5, 128, 8]⟩
abbrev S128 : Shape := ⟨1, ![128]⟩
abbrev S1x128 : Shape := ⟨2, ![1, 128]⟩
abbrev S1x1 : Shape := ⟨2, ![1, 1]⟩
abbrev S160x160 : Shape := ⟨2, ![160, 160]⟩
abbrev S128x128 : Shape := ⟨2, ![128, 128]⟩
abbrev S1x160x8 : Shape := ⟨3, ![1, 160, 8]⟩
abbrev S160x8 : Shape := ⟨2, ![160, 8]⟩
abbrev S160x1 : Shape := ⟨2, ![160, 1]⟩
abbrev S1x160x256 : Shape := ⟨3, ![1, 160, 256]⟩
abbrev S160x256 : Shape := ⟨2, ![160, 256]⟩
abbrev S160x128 : Shape := ⟨2, ![160, 128]⟩
abbrev S160 : Shape := ⟨1, ![160]⟩
abbrev S1x160 : Shape := ⟨2, ![1, 160]⟩
abbrev S128x160 : Shape := ⟨2, ![128, 160]⟩
abbrev S128x256 : Shape := ⟨2, ![128, 256]⟩
abbrev S640x160 : Shape := ⟨2, ![640, 160]⟩
abbrev S640x1 : Shape := ⟨2, ![640, 1]⟩
abbrev S160x4 : Shape := ⟨2, ![160, 4]⟩
abbrev S128x8 : Shape := ⟨2, ![128, 8]⟩
abbrev S128x4 : Shape := ⟨2, ![128, 4]⟩
abbrev S128x1 : Shape := ⟨2, ![128, 1]⟩
abbrev S512x128 : Shape := ⟨2, ![512, 128]⟩
abbrev S512x256 : Shape := ⟨2, ![512, 256]⟩
abbrev S512x1 : Shape := ⟨2, ![512, 1]⟩
abbrev S128x512 : Shape := ⟨2, ![128, 512]⟩
abbrev S1 : Shape := ⟨1, ![1]⟩
abbrev S1x128x512 : Shape := ⟨3, ![1, 128, 512]⟩
abbrev S1x128x8 : Shape := ⟨3, ![1, 128, 8]⟩
abbrev S5x512 : Shape := ⟨2, ![5, 512]⟩

abbrev nBuf : Space → Nat
  | .hbm => 22
  | .vmem => 23
  | .smem => 0
  | _ => 0

abbrev bufTy : (tb : Table) → Fin (tcTables nBuf tb) → BufTy
  | .hbm, ⟨0, _⟩ => ⟨S50x160x256, .f32⟩
  | .hbm, ⟨1, _⟩ => ⟨S50x160x8, .f32⟩
  | .hbm, ⟨2, _⟩ => ⟨S50x160x8, .i32⟩
  | .hbm, ⟨3, _⟩ => ⟨S50x160x8, .f32⟩
  | .hbm, ⟨4, _⟩ => ⟨S8x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S512x512, .f32⟩
  | .hbm, ⟨9, _⟩ => ⟨S512, .f32⟩
  | .hbm, ⟨10, _⟩ => ⟨S1x256, .f32⟩
  | .hbm, ⟨11, _⟩ => ⟨S1x256, .f32⟩
  | .hbm, ⟨12, _⟩ => ⟨S256x1, .f32⟩
  | .hbm, ⟨13, _⟩ => ⟨S_, .i32⟩
  | .hbm, ⟨14, _⟩ => ⟨S_, .f32⟩
  | .hbm, ⟨15, _⟩ => ⟨S256x128, .f32⟩
  | .hbm, ⟨16, _⟩ => ⟨S1x512, .f32⟩
  | .hbm, ⟨17, _⟩ => ⟨S50x128x512, .f32⟩
  | .hbm, ⟨18, _⟩ => ⟨S50x128x8, .f32⟩
  | .hbm, ⟨19, _⟩ => ⟨S50x128x8, .i32⟩
  | .hbm, ⟨20, _⟩ => ⟨S50x128x8, .f32⟩
  | .hbm, ⟨21, _⟩ => ⟨S8x512, .f32⟩
  | .local _ .vmem, ⟨0, _⟩ => ⟨S5x160x256, .f32⟩
  | .local _ .vmem, ⟨1, _⟩ => ⟨S5x160x256, .f32⟩
  | .local _ .vmem, ⟨2, _⟩ => ⟨S5x160x8, .f32⟩
  | .local _ .vmem, ⟨3, _⟩ => ⟨S5x160x8, .f32⟩
  | .local _ .vmem, ⟨4, _⟩ => ⟨S5x160x8, .i32⟩
  | .local _ .vmem, ⟨5, _⟩ => ⟨S5x160x8, .i32⟩
  | .local _ .vmem, ⟨6, _⟩ => ⟨S5x160x8, .f32⟩
  | .local _ .vmem, ⟨7, _⟩ => ⟨S5x160x8, .f32⟩
  | .local _ .vmem, ⟨8, _⟩ => ⟨S8x256, .f32⟩
  | .local _ .vmem, ⟨9, _⟩ => ⟨S1x256, .f32⟩
  | .local _ .vmem, ⟨10, _⟩ => ⟨S1x256, .f32⟩
  | .local _ .vmem, ⟨11, _⟩ => ⟨S256x128, .f32⟩
  | .local _ .vmem, ⟨12, _⟩ => ⟨S512x512, .f32⟩
  | .local _ .vmem, ⟨13, _⟩ => ⟨S1x512, .f32⟩
  | .local _ .vmem, ⟨14, _⟩ => ⟨S5x128x512, .f32⟩
  | .local _ .vmem, ⟨15, _⟩ => ⟨S5x128x512, .f32⟩
  | .local _ .vmem, ⟨16, _⟩ => ⟨S5x128x8, .f32⟩
  | .local _ .vmem, ⟨17, _⟩ => ⟨S5x128x8, .f32⟩
  | .local _ .vmem, ⟨18, _⟩ => ⟨S5x128x8, .i32⟩
  | .local _ .vmem, ⟨19, _⟩ => ⟨S5x128x8, .i32⟩
  | .local _ .vmem, ⟨20, _⟩ => ⟨S5x128x8, .f32⟩
  | .local _ .vmem, ⟨21, _⟩ => ⟨S5x128x8, .f32⟩
  | .local _ .vmem, ⟨22, _⟩ => ⟨S8x512, .f32⟩
  | _, _ => ⟨S50x160x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5x160x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x160x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5x160x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5x160x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S5x128x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S5x128x8 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S5x128x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S50x160x256 : Shape := ⟨3, ![50, 160, 256]⟩
abbrev S50x160x8 : Shape := ⟨3, ![50, 160, 8]⟩
abbrev S8x256 : Shape := ⟨2, ![8, 256]⟩
abbrev S256 : Shape := ⟨1, ![256]⟩
abbrev S512x512 : Shape := ⟨2, ![512, 512]⟩
abbrev S512 : Shape := ⟨1, ![512]⟩
abbrev S50x160x1 : Shape := ⟨3, ![50, 160, 1]⟩
abbrev S1x256 : Shape := ⟨2, ![1, 256]⟩
abbrev S_ : Shape := ⟨0, ![]⟩
abbrev S1x1x256 : Shape := ⟨3, ![1, 1, 256]⟩
abbrev S50x160 : Shape := ⟨2, ![50, 160]⟩
abbrev S50x128 : Shape := ⟨2, ![50, 128]⟩
abbrev S50 : Shape := ⟨1, ![50]⟩
abbrev S50x1 : Shape := ⟨2, ![50, 1]⟩
abbrev S50x128x1 : Shape := ⟨3, ![50, 128, 1]⟩
abbrev S50x128x2 : Shape := ⟨3, ![50, 128, 2]⟩
abbrev S50x128x256 : Shape := ⟨3, ![50, 128, 256]⟩
abbrev S128 : Shape := ⟨1, ![128]⟩
abbrev S1x128 : Shape := ⟨2, ![1, 128]⟩
abbrev S50x1x1 : Shape := ⟨3, ![50, 1, 1]⟩
abbrev S50x128x8 : Shape := ⟨3, ![50, 128, 8]⟩
abbrev S50x128x4 : Shape := ⟨3, ![50, 128, 4]⟩
abbrev S50x128x4x1 : Shape := ⟨4, ![50, 128, 4, 1]⟩
abbrev S50x128x4x2 : Shape := ⟨4, ![50, 128, 4, 2]⟩
abbrev S50x128x4x256 : Shape := ⟨4, ![50, 128, 4, 256]⟩
abbrev S50x128x1x256 : Shape := ⟨4, ![50, 128, 1, 256]⟩
abbrev S50x128x4x512 : Shape := ⟨4, ![50, 128, 4, 512]⟩
abbrev S1x1x1x512 : Shape := ⟨4, ![1, 1, 1, 512]⟩
abbrev S1x512 : Shape := ⟨2, ![1, 512]⟩
abbrev S5x512 : Shape := ⟨2, ![5, 512]⟩
abbrev S8x512 : Shape := ⟨2, ![8, 512]⟩
abbrev S50x128x512 : Shape := ⟨3, ![50, 128, 512]⟩

abbrev nBuf : Space → Nat
  | .hbm => 243
  | .vmem => 0
  | .smem => 0
  | _ => 0

abbrev hbmTy0_0 (i : Nat) : BufTy := match i % 128 with
  | 0 => ⟨S50x160x256, .f32⟩
  | 1 => ⟨S50x160x8, .f32⟩
  | 2 => ⟨S50x160x8, .i32⟩
  | 3 => ⟨S50x160x8, .f32⟩
  | 4 => ⟨S8x256, .f32⟩
  | 5 => ⟨S256, .f32⟩
  | 6 => ⟨S256, .f32⟩
  | 7 => ⟨S256, .f32⟩
  | 8 => ⟨S512x512, .f32⟩
  | 9 => ⟨S512, .f32⟩
  | 10 => ⟨S50x160x1, .f32⟩
  | 11 => ⟨S1x256, .f32⟩
  | 12 => ⟨S256, .f32⟩
  | 13 => ⟨S_, .f32⟩
  | 14 => ⟨S256, .f32⟩
  | 15 => ⟨S256, .f32⟩
  | 16 => ⟨S1x256, .f32⟩
  | 17 => ⟨S256, .f32⟩
  | 18 => ⟨S256, .f32⟩
  | 19 => ⟨S1x256, .f32⟩
  | 20 => ⟨S256, .f32⟩
  | 21 => ⟨S256, .f32⟩
  | 22 => ⟨S256, .f32⟩
  | 23 => ⟨S256, .f32⟩
  | 24 => ⟨S1x1x256, .f32⟩
  | 25 => ⟨S50x160x256, .f32⟩
  | 26 => ⟨S50x160x256, .f32⟩
  | 27 => ⟨S50x160x256, .f32⟩
  | 28 => ⟨S50x160x256, .f32⟩
  | 29 => ⟨S_, .f32⟩
  | 30 => ⟨S256, .f32⟩
  | 31 => ⟨S256, .f32⟩
  | 32 => ⟨S256, .f32⟩
  | 33 => ⟨S1x1x256, .f32⟩
  | 34 => ⟨S50x160x256, .f32⟩
  | 35 => ⟨S50x160x256, .f32⟩
  | 36 => ⟨S1x1x256, .f32⟩
  | 37 => ⟨S50x160x256, .f32⟩
  | 38 => ⟨S50x160x256, .f32⟩
  | 39 => ⟨S1x1x256, .f32⟩
  | 40 => ⟨S50x160x256, .f32⟩
  | 41 => ⟨S50x160x256, .f32⟩
  | 42 => ⟨S50x160x256, .f32⟩
  | 43 => ⟨S50x160x256, .f32⟩
  | 44 => ⟨S_, .f32⟩
  | 45 => ⟨S50x160x1, .f32⟩
  | 46 => ⟨S50x160x1, .f32⟩
  | 47 => ⟨S50x160x256, .f32⟩
  | 48 => ⟨S50x160x256, .f32⟩
  | 49 => ⟨S50x160, .f32⟩
  | 50 => ⟨S256, .f32⟩
  | 51 => ⟨S_, .f32⟩
  | 52 => ⟨S_, .f32⟩
  | 53 => ⟨S_, .f32⟩
  | 54 => ⟨S50x160, .f32⟩
  | 55 => ⟨S50x160, .f32⟩
  | 56 => ⟨S50x160, .f32⟩
  | 57 => ⟨S50x128, .f32⟩
  | 58 => ⟨S50x128, .i32⟩
  | 59 => ⟨S50x128, .i32⟩
  | 60 => ⟨S50, .i32⟩
  | 61 => ⟨S50x1, .i32⟩
  | 62 => ⟨S50x160x1, .f32⟩
  | 63 => ⟨S50x160x256, .f32⟩
  | 64 => ⟨S50x160x256, .f32⟩
  | 65 => ⟨S_, .i32⟩
  | 66 => ⟨S50x1, .i32⟩
  | 67 => ⟨S50x1, .i1⟩
  | 68 => ⟨S_, .i32⟩
  | 69 => ⟨S50x1, .i32⟩
  | 70 => ⟨S50x1, .i32⟩
  | 71 => ⟨S50x1, .i32⟩
  | 72 => ⟨S_, .i32⟩
  | 73 => ⟨S50x128, .i32⟩
  | 74 => ⟨S50x128, .i1⟩
  | 75 => ⟨S_, .i32⟩
  | 76 => ⟨S50x128, .i32⟩
  | 77 => ⟨S50x128, .i32⟩
  | 78 => ⟨S50x128, .i32⟩
  | 79 => ⟨S50x128, .i32⟩
  | 80 => ⟨S50x128x1, .i32⟩
  | 81 => ⟨S50x128x1, .i32⟩
  | 82 => ⟨S50x128x2, .i32⟩
  | 83 => ⟨S50x128x256, .f32⟩
  | 84 => ⟨S_, .i32⟩
  | 85 => ⟨S50x160, .i32⟩
  | 86 => ⟨S128, .i32⟩
  | 87 => ⟨S1x128, .i32⟩
  | 88 => ⟨S_, .i32⟩
  | 89 => ⟨S50x1, .i32⟩
  | 90 => ⟨S50x1, .i1⟩
  | 91 => ⟨S_, .i32⟩
  | 92 => ⟨S50x1, .i32⟩
  | 93 => ⟨S50x1, .i32⟩
  | 94 => ⟨S50x1, .i32⟩
  | 95 => ⟨S_, .i32⟩
  | 96 => ⟨S50x128, .i32⟩
  | 97 => ⟨S50x128, .i1⟩
  | 98 => ⟨S_, .i32⟩
  | 99 => ⟨S50x128, .i32⟩
  | 100 => ⟨S50x128, .i32⟩
  | 101 => ⟨S50x128, .i32⟩
  | 102 => ⟨S50x128, .i32⟩
  | 103 => ⟨S50x128x1, .i32⟩
  | 104 => ⟨S50x128x1, .i32⟩
  | 105 => ⟨S50x128x2, .i32⟩
  | 106 => ⟨S50x128, .i32⟩
  | 107 => ⟨S50x160, .i32⟩
  | 108 => ⟨S50x1x1, .i32⟩
  | 109 => ⟨S_, .i32⟩
  | 110 => ⟨S50x1, .i32⟩
  | 111 => ⟨S50x1, .i1⟩
  | 112 => ⟨S_, .i32⟩
  | 113 => ⟨S50x1, .i32⟩
  | 114 => ⟨S50x1, .i32⟩
  | 115 => ⟨S50x1, .i32⟩
  | 116 => ⟨S_, .i32⟩
  | 117 => ⟨S50x128, .i32⟩
  | 118 => ⟨S50x128, .i1⟩
  | 119 => ⟨S_, .i32⟩
  | 120 => ⟨S50x128, .i32⟩
  | 121 => ⟨S50x128, .i32⟩
  | 122 => ⟨S50x128, .i32⟩
  | 123 => ⟨S50x128, .i32⟩
  | 124 => ⟨S50x128x1, .i32⟩
  | 125 => ⟨S50x128x1, .i32⟩
  | 126 => ⟨S50x128x2, .i32⟩
  | 127 => ⟨S50x128x8, .i32⟩
  | _ => ⟨S50x160x256, .f32⟩

abbrev hbmTy0_1 (i : Nat) : BufTy := match i % 128 with
  | 0 => ⟨S50x128x4, .i32⟩
  | 1 => ⟨S_, .i32⟩
  | 2 => ⟨S50x1x1, .i32⟩
  | 3 => ⟨S50x1x1, .i1⟩
  | 4 => ⟨S_, .i32⟩
  | 5 => ⟨S50x1x1, .i32⟩
  | 6 => ⟨S50x1x1, .i32⟩
  | 7 => ⟨S50x1x1, .i32⟩
  | 8 => ⟨S_, .i32⟩
  | 9 => ⟨S50x128x4, .i32⟩
  | 10 => ⟨S50x128x4, .i1⟩
  | 11 => ⟨S_, .i32⟩
  | 12 => ⟨S50x128x4, .i32⟩
  | 13 => ⟨S50x128x4, .i32⟩
  | 14 => ⟨S50x128x4, .i32⟩
  | 15 => ⟨S50x128x4, .i32⟩
  | 16 => ⟨S50x128x4x1, .i32⟩
  | 17 => ⟨S50x128x4x1, .i32⟩
  | 18 => ⟨S50x128x4x2, .i32⟩
  | 19 => ⟨S50x128x4, .i32⟩
  | 20 => ⟨S_, .i32⟩
  | 21 => ⟨S50x1, .i32⟩
  | 22 => ⟨S50x1, .i1⟩
  | 23 => ⟨S_, .i32⟩
  | 24 => ⟨S50x1, .i32⟩
  | 25 => ⟨S50x1, .i32⟩
  | 26 => ⟨S50x1, .i32⟩
  | 27 => ⟨S_, .i32⟩
  | 28 => ⟨S50x128, .i32⟩
  | 29 => ⟨S50x128, .i1⟩
  | 30 => ⟨S_, .i32⟩
  | 31 => ⟨S50x128, .i32⟩
  | 32 => ⟨S50x128, .i32⟩
  | 33 => ⟨S50x128, .i32⟩
  | 34 => ⟨S50x128, .i32⟩
  | 35 => ⟨S50x128x1, .i32⟩
  | 36 => ⟨S50x128x1, .i32⟩
  | 37 => ⟨S50x128x2, .i32⟩
  | 38 => ⟨S50x128x8, .f32⟩
  | 39 => ⟨S50x128x4, .f32⟩
  | 40 => ⟨S_, .i32⟩
  | 41 => ⟨S50x128x4, .i32⟩
  | 42 => ⟨S50x128x4, .i1⟩
  | 43 => ⟨S50x128x4, .f32⟩
  | 44 => ⟨S50x128x4, .f32⟩
  | 45 => ⟨S_, .i32⟩
  | 46 => ⟨S50x128x4, .i32⟩
  | 47 => ⟨S50x128x4, .i1⟩
  | 48 => ⟨S_, .i32⟩
  | 49 => ⟨S_, .i32⟩
  | 50 => ⟨S50x128x4, .i32⟩
  | 51 => ⟨S50x128x4, .i32⟩
  | 52 => ⟨S50x1x1, .i32⟩
  | 53 => ⟨S_, .i32⟩
  | 54 => ⟨S50x1x1, .i32⟩
  | 55 => ⟨S50x1x1, .i1⟩
  | 56 => ⟨S_, .i32⟩
  | 57 => ⟨S50x1x1, .i32⟩
  | 58 => ⟨S50x1x1, .i32⟩
  | 59 => ⟨S50x1x1, .i32⟩
  | 60 => ⟨S_, .i32⟩
  | 61 => ⟨S50x128x4, .i32⟩
  | 62 => ⟨S50x128x4, .i1⟩
  | 63 => ⟨S_, .i32⟩
  | 64 => ⟨S50x128x4, .i32⟩
  | 65 => ⟨S50x128x4, .i32⟩
  | 66 => ⟨S50x128x4, .i32⟩
  | 67 => ⟨S50x128x4, .i32⟩
  | 68 => ⟨S50x128x4x1, .i32⟩
  | 69 => ⟨S50x128x4x1, .i32⟩
  | 70 => ⟨S50x128x4x2, .i32⟩
  | 71 => ⟨S50x128x4x256, .f32⟩
  | 72 => ⟨S50x128x1x256, .f32⟩
  | 73 => ⟨S50x128x4x256, .f32⟩
  | 74 => ⟨S50x128x4x256, .f32⟩
  | 75 => ⟨S50x128x4x512, .f32⟩
  | 76 => ⟨S50x128x4x512, .f32⟩
  | 77 => ⟨S1x1x1x512, .f32⟩
  | 78 => ⟨S50x128x4x512, .f32⟩
  | 79 => ⟨S50x128x4x512, .f32⟩
  | 80 => ⟨S_, .f32⟩
  | 81 => ⟨S50x128x4x512, .f32⟩
  | 82 => ⟨S50x128x4x512, .f32⟩
  | 83 => ⟨S50x128x4x1, .f32⟩
  | 84 => ⟨S50x128x4x512, .f32⟩
  | 85 => ⟨S50x128x4x512, .f32⟩
  | 86 => ⟨S_, .f32⟩
  | 87 => ⟨S512, .f32⟩
  | 88 => ⟨S50x128x4x512, .f32⟩
  | 89 => ⟨S_, .f32⟩
  | 90 => ⟨S512, .f32⟩
  | 91 => ⟨S_, .f32⟩
  | 92 => ⟨S_, .f32⟩
  | 93 => ⟨S1x512, .f32⟩
  | 94 => ⟨S1x512, .f32⟩
  | 95 => ⟨S_, .f32⟩
  | 96 => ⟨S1x512, .f32⟩
  | 97 => ⟨S1x512, .f32⟩
  | 98 => ⟨S1x512, .f32⟩
  | 99 => ⟨S1x512, .f32⟩
  | 100 => ⟨S_, .f32⟩
  | 101 => ⟨S5x512, .f32⟩
  | 102 => ⟨S8x512, .f32⟩
  | 103 => ⟨S_, .f32⟩
  | 104 => ⟨S50x128x512, .f32⟩
  | 105 => ⟨S_, .f32⟩
  | 106 => ⟨S50x128, .f32⟩
  | 107 => ⟨S50x128x1, .f32⟩
  | 108 => ⟨S50x128x8, .f32⟩
  | 109 => ⟨S_, .i32⟩
  | 110 => ⟨S_, .i32⟩
  | 111 => ⟨S50x128x8, .i32⟩
  | 112 => ⟨S_, .i32⟩
  | 113 => ⟨S_, .f32⟩
  | 114 => ⟨S50x128x8, .f32⟩
  | _ => ⟨S50x160x256, .f32⟩

abbrev hbmTy (i : Nat) : BufTy := match i / 128 with
  | 0 => hbmTy0_0 i
  | 1 => hbmTy0_1 i
  | _ => ⟨S50x160x256, .f32⟩

abbrev bufTy : (tb : Table) → Fin (tcTables nBuf tb) → BufTy
  | .hbm, ⟨i, _⟩ => hbmTy i
  | _, _ => ⟨S50x160x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_values : Ref sig .tc := ⟨.hbm, 57, rfl⟩
abbrev main_indices : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c : Ref sig .tc := ⟨.hbm, 65, rfl⟩
abbrev main_v49 : Ref sig .tc := ⟨.hbm, 66, rfl⟩
abbrev main_v50 : Ref sig .tc := ⟨.hbm, 67, rfl⟩
abbrev main_c_3 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_4 : Ref sig .tc := ⟨.hbm, 72, rfl⟩
abbrev main_v54 : Ref sig .tc := ⟨.hbm, 73, rfl⟩
abbrev main_v55 : Ref sig .tc := ⟨.hbm, 74, rfl⟩
abbrev main_c_5 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_6 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_7 : Ref sig .tc := ⟨.hbm, 88, rfl⟩
abbrev main_v67 : Ref sig .tc := ⟨.hbm, 89, rfl⟩
abbrev main_v68 : Ref sig .tc := ⟨.hbm, 90, rfl⟩
abbrev main_c_8 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_9 : Ref sig .tc := ⟨.hbm, 95, rfl⟩
abbrev main_v72 : Ref sig .tc := ⟨.hbm, 96, rfl⟩
abbrev main_v73 : Ref sig .tc := ⟨.hbm, 97, rfl⟩
abbrev main_c_10 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_c_11 : Ref sig .tc := ⟨.hbm, 109, rfl⟩
abbrev main_v84 : Ref sig .tc := ⟨.hbm, 110, rfl⟩
abbrev main_v85 : Ref sig .tc := ⟨.hbm, 111, rfl⟩
abbrev main_c_12 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_c_13 : Ref sig .tc := ⟨.hbm, 116, rfl⟩
abbrev main_v89 : Ref sig .tc := ⟨.hbm, 117, rfl⟩
abbrev main_v90 : Ref sig .tc := ⟨.hbm, 118, rfl⟩
abbrev main_c_14 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_c_15 : Ref sig .tc := ⟨.hbm, 129, rfl⟩
abbrev main_v100 : Ref sig .tc := ⟨.hbm, 130, rfl⟩
abbrev main_v101 : Ref sig .tc := ⟨.hbm, 131, rfl⟩
abbrev main_c_16 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_c_17 : Ref sig .tc := ⟨.hbm, 136, rfl⟩
abbrev main_v105 : Ref sig .tc := ⟨.hbm, 137, rfl⟩
abbrev main_v106 : Ref sig .tc := ⟨.hbm, 138, rfl⟩
abbrev main_c_18 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_c_19 : Ref sig .tc := ⟨.hbm, 148, rfl⟩
abbrev main_v115 : Ref sig .tc := ⟨.hbm, 149, rfl⟩
abbrev main_v116 : Ref sig .tc := ⟨.hbm, 150, rfl⟩
abbrev main_c_20 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_c_21 : Ref sig .tc := ⟨.hbm, 155, rfl⟩
abbrev main_v120 : Ref sig .tc := ⟨.hbm, 156, rfl⟩
abbrev main_v121 : Ref sig .tc := ⟨.hbm, 157, rfl⟩
abbrev main_c_22 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_c_23 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_c_24 : Ref sig .tc := ⟨.hbm, 173, rfl⟩
abbrev main_v135 : Ref sig .tc := ⟨.hbm, 174, rfl⟩
abbrev main_v136 : Ref sig .tc := ⟨.hbm, 175, rfl⟩
abbrev main_c_25 : Ref sig .tc := ⟨.hbm, 176, rfl⟩
abbrev main_call1_v0 : Ref sig .tc := ⟨.hbm, 177, rfl⟩
abbrev main_call1_v1 : Ref sig .tc := ⟨.hbm, 178, rfl⟩
abbrev main_v137 : Ref sig .tc := ⟨.hbm, 179, rfl⟩
abbrev main_v138 : Ref sig .tc := ⟨.hbm, 180, rfl⟩
abbrev main_c_26 : Ref sig .tc := ⟨.hbm, 181, rfl⟩
abbrev main_v139 : Ref sig .tc := ⟨.hbm, 182, rfl⟩
abbrev main_v140 : Ref sig .tc := ⟨.hbm, 183, rfl⟩
abbrev main_c_27 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_c_28 : Ref sig .tc := ⟨.hbm, 188, rfl⟩
abbrev main_v144 : Ref sig .tc := ⟨.hbm, 189, rfl⟩
abbrev main_v145 : Ref sig .tc := ⟨.hbm, 190, rfl⟩
abbrev main_c_29 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_call2_cst : Ref sig .tc := ⟨.hbm, 208, rfl⟩
abbrev main_call2_v0 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_cst_30 : Ref sig .tc := ⟨.hbm, 214, rfl⟩
abbrev main_v166 : Ref sig .tc := ⟨.hbm, 215, rfl⟩
abbrev main_v167 : Ref sig .tc := ⟨.hbm, 216, rfl⟩
abbrev main_cst_31 : Ref sig .tc := ⟨.hbm, 217, rfl⟩
abbrev main_v168 : Ref sig .tc := ⟨.hbm, 218, rfl⟩
abbrev main_cst_32 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_cst_33 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_cst_34 : Ref sig .tc := ⟨.hbm, 228, rfl⟩
abbrev main_v176 : Ref sig .tc := ⟨.hbm, 229, rfl⟩
abbrev main_v177 : Ref sig .tc := ⟨.hbm, 230, rfl⟩
abbrev main_cst_35 : Ref sig .tc := ⟨.hbm, 231, rfl⟩
abbrev main_v178 : Ref sig .tc := ⟨.hbm, 232, rfl⟩
abbrev main_cst_36 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_c_37 : Ref sig .tc := ⟨.hbm, 237, rfl⟩
abbrev main_call3_v0 : Ref sig .tc := ⟨.hbm, 238, rfl⟩
abbrev main_v182 : Ref sig .tc := ⟨.hbm, 239, rfl⟩
abbrev main_c_38 : Ref sig .tc := ⟨.hbm, 240, rfl⟩
abbrev main_call4_v0 : Ref sig .tc := ⟨.hbm, 241, rfl⟩
abbrev main_v183 : Ref sig .tc := ⟨.hbm, 242, rfl⟩

abbrev nD : Nat := 1
abbrev τ : Topo := Topo.v7x

variable {F : FTy → Type} [FloatOps F]
-- ==== Kernel2.lean ====
abbrev S50x128x512 : Shape := ⟨3, ![50, 128, 512]⟩
abbrev S50x128x8 : Shape := ⟨3, ![50, 128, 8]⟩
abbrev S8x512 : Shape := ⟨2, ![8, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩
abbrev S512x128 : Shape := ⟨2, ![512, 128]⟩
abbrev S6400x512 : Shape := ⟨2, ![6400, 512]⟩
abbrev S6400x8 : Shape := ⟨2, ![6400, 8]⟩
abbrev S1x512 : Shape := ⟨2, ![1, 512]⟩
abbrev S1x1 : Shape := ⟨2, ![1, 1]⟩
abbrev S1x128 : Shape := ⟨2, ![1, 128]⟩
abbrev S56x128 : Shape := ⟨2, ![56, 128]⟩
abbrev S6400x1 : Shape := ⟨2, ![6400, 1]⟩
abbrev S50x512 : Shape := ⟨2, ![50, 512]⟩
abbrev S6x512 : Shape := ⟨2, ![6, 512]⟩
abbrev S56x512 : Shape := ⟨2, ![56, 512]⟩
abbrev S56x1 : Shape := ⟨2, ![56, 1]⟩
abbrev S128 : Shape := ⟨1, ![128]⟩
abbrev S50x1 : Shape := ⟨2, ![50, 1]⟩
abbrev S50 : Shape := ⟨1, ![50]⟩

abbrev nBuf : Space → Nat
  | .hbm => 38
  | .vmem => 14
  | .smem => 0
  | _ => 0

abbrev bufTy : (tb : Table) → Fin (tcTables nBuf tb) → BufTy
  | .hbm, ⟨0, _⟩ => ⟨S50x128x512, .f32⟩
  | .hbm, ⟨1, _⟩ => ⟨S50x128x8, .f32⟩
  | .hbm, ⟨2, _⟩ => ⟨S8x512, .f32⟩
  | .hbm, ⟨3, _⟩ => ⟨S512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x1, .f32⟩
  | .hbm, ⟨10, _⟩ => ⟨S1, .f32⟩
  | .hbm, ⟨11, _⟩ => ⟨S1, .f32⟩
  | .hbm, ⟨12, _⟩ => ⟨S1, .f32⟩
  | .hbm, ⟨13, _⟩ => ⟨S_, .i32⟩
  | .hbm, ⟨14, _⟩ => ⟨S_, .f32⟩
  | .hbm, ⟨15, _⟩ => ⟨S512x128, .f32⟩
  | .hbm, ⟨16, _⟩ => ⟨S6400x512, .f32⟩
  | .hbm, ⟨17, _⟩ => ⟨S6400x8, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S1x1, .f32⟩
  | .hbm, ⟨24, _⟩ => ⟨S_, .i32⟩
  | .hbm, ⟨25, _⟩ => ⟨S_, .f32⟩
  | .hbm, ⟨26, _⟩ => ⟨S1x128, .f32⟩
  | .hbm, ⟨27, _⟩ => ⟨S1x1, .f32⟩
  | .hbm, ⟨28, _⟩ => ⟨S_, .i32⟩
  | .hbm, ⟨29, _⟩ => ⟨S_, .f32⟩
  | .hbm, ⟨30, _⟩ => ⟨S1x128, .f32⟩
  | .hbm, ⟨31, _⟩ => ⟨S1x1, .f32⟩
  | .hbm, ⟨32, _⟩ => ⟨S_, .i32⟩
  | .hbm, ⟨33, _⟩ => ⟨S_, .f32⟩
  | .hbm, ⟨34, _⟩ => ⟨S1x128, .f32⟩
  | .hbm, ⟨35, _⟩ => ⟨S56x128, .f32⟩
  | .hbm, ⟨36, _⟩ => ⟨S50x1, .f32⟩
  | .hbm, ⟨37, _⟩ => ⟨S50, .f32⟩
  | .local _ .vmem, ⟨0, _⟩ => ⟨S6400x512, .f32⟩
  | .local _ .vmem, ⟨1, _⟩ => ⟨S6400x8, .f32⟩
  | .local _ .vmem, ⟨2, _⟩ => ⟨S8x512, .f32⟩
  | .local _ .vmem, ⟨3, _⟩ => ⟨S1x512, .f32⟩
  | .local _ .vmem, ⟨4, _⟩ => ⟨S1x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S512x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S56x128, .f32⟩
  | _, _ => ⟨S50x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_call2_v0 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_call3_v0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S6400x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6400x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S56x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference2Ideal.lean ====
abbrev S50x128x512 : Shape := ⟨3, ![50, 128, 512]⟩
abbrev S50x128x8 : Shape := ⟨3, ![50, 128, 8]⟩
abbrev S8x512 : Shape := ⟨2, ![8, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S50x128x1 : Shape := ⟨3, ![50, 128, 1]⟩
abbrev S1x512 : Shape := ⟨2, ![1, 512]⟩
abbrev S_ : Shape := ⟨0, ![]⟩
abbrev S1x1x512 : Shape := ⟨3, ![1, 1, 512]⟩
abbrev S50x512 : Shape := ⟨2, ![50, 512]⟩
abbrev S50x1 : Shape := ⟨2, ![50, 1]⟩
abbrev S1x1 : Shape := ⟨2, ![1, 1]⟩
abbrev S50 : Shape := ⟨1, ![50]⟩

abbrev nBuf : Space → Nat
  | .hbm => 140
  | .vmem => 0
  | .smem => 0
  | _ => 0

abbrev hbmTy0_0 (i : Nat) : BufTy := match i % 128 with
  | 0 => ⟨S50x128x512, .f32⟩
  | 1 => ⟨S50x128x8, .f32⟩
  | 2 => ⟨S8x512, .f32⟩
  | 3 => ⟨S512, .f32⟩
  | 4 => ⟨S512, .f32⟩
  | 5 => ⟨S512x512, .f32⟩
  | 6 => ⟨S512, .f32⟩
  | 7 => ⟨S512, .f32⟩
  | 8 => ⟨S512, .f32⟩
  | 9 => ⟨S512x1, .f32⟩
  | 10 => ⟨S1, .f32⟩
  | 11 => ⟨S1, .f32⟩
  | 12 => ⟨S1, .f32⟩
  | 13 => ⟨S50x128x1, .f32⟩
  | 14 => ⟨S1x512, .f32⟩
  | 15 => ⟨S512, .f32⟩
  | 16 => ⟨S_, .f32⟩
  | 17 => ⟨S512, .f32⟩
  | 18 => ⟨S512, .f32⟩
  | 19 => ⟨S1x512, .f32⟩
  | 20 => ⟨S512, .f32⟩
  | 21 => ⟨S512, .f32⟩
  | 22 => ⟨S1x512, .f32⟩
  | 23 => ⟨S512, .f32⟩
  | 24 => ⟨S512, .f32⟩
  | 25 => ⟨S512, .f32⟩
  | 26 => ⟨S512, .f32⟩
  | 27 => ⟨S1x1x512, .f32⟩
  | 28 => ⟨S50x128x512, .f32⟩
  | 29 => ⟨S50x128x512, .f32⟩
  | 30 => ⟨S50x128x512, .f32⟩
  | 31 => ⟨S50x128x512, .f32⟩
  | 32 => ⟨S_, .f32⟩
  | 33 => ⟨S512, .f32⟩
  | 34 => ⟨S512, .f32⟩
  | 35 => ⟨S512, .f32⟩
  | 36 => ⟨S1x1x512, .f32⟩
  | 37 => ⟨S50x128x512, .f32⟩
  | 38 => ⟨S50x128x512, .f32⟩
  | 39 => ⟨S1x1x512, .f32⟩
  | 40 => ⟨S50x128x512, .f32⟩
  | 41 => ⟨S50x128x512, .f32⟩
  | 42 => ⟨S1x1x512, .f32⟩
  | 43 => ⟨S50x128x512, .f32⟩
  | 44 => ⟨S50x128x512, .f32⟩
  | 45 => ⟨S50x128x512, .f32⟩
  | 46 => ⟨S50x128x512, .f32⟩
  | 47 => ⟨S_, .f32⟩
  | 48 => ⟨S50x128x1, .f32⟩
  | 49 => ⟨S50x128x1, .f32⟩
  | 50 => ⟨S50x128x512, .f32⟩
  | 51 => ⟨S50x128x512, .f32⟩
  | 52 => ⟨S_, .f32⟩
  | 53 => ⟨S50x512, .f32⟩
  | 54 => ⟨S_, .f32⟩
  | 55 => ⟨S50x512, .f32⟩
  | 56 => ⟨S50x512, .f32⟩
  | 57 => ⟨S50x512, .f32⟩
  | 58 => ⟨S1x512, .f32⟩
  | 59 => ⟨S50x512, .f32⟩
  | 60 => ⟨S50x512, .f32⟩
  | 61 => ⟨S_, .f32⟩
  | 62 => ⟨S50x512, .f32⟩
  | 63 => ⟨S50x512, .f32⟩
  | 64 => ⟨S_, .f32⟩
  | 65 => ⟨S512, .f32⟩
  | 66 => ⟨S_, .f32⟩
  | 67 => ⟨S512, .f32⟩
  | 68 => ⟨S512, .f32⟩
  | 69 => ⟨S1x512, .f32⟩
  | 70 => ⟨S50x512, .f32⟩
  | 71 => ⟨S50x512, .f32⟩
  | 72 => ⟨S50x512, .f32⟩
  | 73 => ⟨S_, .f32⟩
  | 74 => ⟨S512, .f32⟩
  | 75 => ⟨S_, .f32⟩
  | 76 => ⟨S512, .f32⟩
  | 77 => ⟨S512, .f32⟩
  | 78 => ⟨S1x512, .f32⟩
  | 79 => ⟨S50x512, .f32⟩
  | 80 => ⟨S50x512, .f32⟩
  | 81 => ⟨S_, .f32⟩
  | 82 => ⟨S512, .f32⟩
  | 83 => ⟨S512, .f32⟩
  | 84 => ⟨S512, .f32⟩
  | 85 => ⟨S1x512, .f32⟩
  | 86 => ⟨S50x512, .f32⟩
  | 87 => ⟨S50x512, .f32⟩
  | 88 => ⟨S1x512, .f32⟩
  | 89 => ⟨S50x512, .f32⟩
  | 90 => ⟨S50x512, .f32⟩
  | 91 => ⟨S1x512, .f32⟩
  | 92 => ⟨S50x512, .f32⟩
  | 93 => ⟨S50x512, .f32⟩
  | 94 => ⟨S50x1, .f32⟩
  | 95 => ⟨S1x1, .f32⟩
  | 96 => ⟨S50x1, .f32⟩
  | 97 => ⟨S50x1, .f32⟩
  | 98 => ⟨S_, .f32⟩
  | 99 => ⟨S50x1, .f32⟩
  | 100 => ⟨S50x1, .f32⟩
  | 101 => ⟨S_, .f32⟩
  | 102 => ⟨S1, .f32⟩
  | 103 => ⟨S_, .f32⟩
  | 104 => ⟨S1, .f32⟩
  | 105 => ⟨S1, .f32⟩
  | 106 => ⟨S1x1, .f32⟩
  | 107 => ⟨S50x1, .f32⟩
  | 108 => ⟨S50x1, .f32⟩
  | 109 => ⟨S50x1, .f32⟩
  | 110 => ⟨S_, .f32⟩
  | 111 => ⟨S1, .f32⟩
  | 112 => ⟨S_, .f32⟩
  | 113 => ⟨S1, .f32⟩
  | 114 => ⟨S1, .f32⟩
  | 115 => ⟨S1x1, .f32⟩
  | 116 => ⟨S50x1, .f32⟩
  | 117 => ⟨S50x1, .f32⟩
  | 118 => ⟨S_, .f32⟩
  | 119 => ⟨S1, .f32⟩
  | 120 => ⟨S1, .f32⟩
  | 121 => ⟨S1, .f32⟩
  | 122 => ⟨S1x1, .f32⟩
  | 123 => ⟨S50x1, .f32⟩
  | 124 => ⟨S50x1, .f32⟩
  | 125 => ⟨S1x1, .f32⟩
  | 126 => ⟨S50x1, .f32⟩
  | 127 => ⟨S50x1, .f32⟩
  | _ => ⟨S50x128x512, .f32⟩

abbrev hbmTy0_1 (i : Nat) : BufTy := match i % 128 with
  | 0 => ⟨S1x1, .f32⟩
  | 1 => ⟨S50x1, .f32⟩
  | 2 => ⟨S50x1, .f32⟩
  | 3 => ⟨S50x1, .f32⟩
  | 4 => ⟨S50x1, .f32⟩
  | 5 => ⟨S_, .f32⟩
  | 6 => ⟨S50x1, .f32⟩
  | 7 => ⟨S50x1, .f32⟩
  | 8 => ⟨S_, .f32⟩
  | 9 => ⟨S50x1, .f32⟩
  | 10 => ⟨S50x1, .f32⟩
  | 11 => ⟨S50, .f32⟩
  | _ => ⟨S50x128x512, .f32⟩

abbrev hbmTy (i : Nat) : BufTy := match i / 128 with
  | 0 => hbmTy0_0 i
  | 1 => hbmTy0_1 i
  | _ => ⟨S50x128x512, .f32⟩

abbrev bufTy : (tb : Table) → Fin (tcTables nBuf tb) → BufTy
  | .hbm, ⟨i, _⟩ => hbmTy i
  | _, _ => ⟨S50x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_1 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_2 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call0_cst : Ref sig .tc := ⟨.hbm, 61, rfl⟩
abbrev main_call0_v0 : Ref sig .tc := ⟨.hbm, 62, rfl⟩
abbrev main_v43 : Ref sig .tc := ⟨.hbm, 63, rfl⟩
abbrev main_cst_4 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_8 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_call1_cst : Ref sig .tc := ⟨.hbm, 98, rfl⟩
abbrev main_call1_v0 : Ref sig .tc := ⟨.hbm, 99, rfl⟩
abbrev main_v73 : Ref sig .tc := ⟨.hbm, 100, rfl⟩
abbrev main_cst_9 : Ref sig .tc := ⟨.hbm, 101, rfl⟩
abbrev main_v74 : Ref sig .tc := ⟨.hbm, 102, rfl⟩
abbrev main_cst_10 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_11 : Ref sig .tc := ⟨.hbm, 110, rfl⟩
abbrev main_v81 : Ref sig .tc := ⟨.hbm, 111, rfl⟩
abbrev main_cst_12 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_13 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_14 : Ref sig .tc := ⟨.hbm, 133, rfl⟩
abbrev main_v101 : Ref sig .tc := ⟨.hbm, 134, rfl⟩
abbrev main_v102 : Ref sig .tc := ⟨.hbm, 135, rfl⟩
abbrev main_cst_15 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩

abbrev nD : Nat := 1
abbrev τ : Topo := Topo.v7x

variable {F : FTy → Type} [FloatOps F]
-- ==== Kernel1.lean ====
abbrev S50x200x128 : Shape := ⟨3, ![50, 200, 128]⟩
abbrev S50x200x8 : Shape := ⟨3, ![50, 200, 8]⟩
abbrev S8x128 : Shape := ⟨2, ![8, 128]⟩
abbrev S128 : Shape := ⟨1, ![128]⟩
abbrev S256x256 : Shape := ⟨2, ![256, 256]⟩
abbrev S256 : Shape := ⟨1, ![256]⟩
abbrev S1x128 : Shape := ⟨2, ![1, 128]⟩
abbrev S128x1 : Shape := ⟨2, ![128, 1]⟩
abbrev S_ : Shape := ⟨0, ![]⟩
abbrev S128x128 : Shape := ⟨2, ![128, 128]⟩
abbrev S1x256 : Shape := ⟨2, ![1, 256]⟩
abbrev S50x160x256 : Shape := ⟨3, ![50, 160, 256]⟩
abbrev S50x160x8 : Shape := ⟨3, ![50, 160, 8]⟩
abbrev S8x256 : Shape := ⟨2, ![8, 256]⟩
abbrev S5x200x128 : Shape := ⟨3, ![5, 200, 128]⟩
abbrev S5x200x8 : Shape := ⟨3, ![5, 200, 8]⟩
abbrev S5x160x256 : Shape := ⟨3, ![5, 160, 256]⟩
abbrev S5x160x8 : Shape := ⟨3, ![5, 160, 8]⟩
abbrev S1x1 : Shape := ⟨2, ![1, 1]⟩
abbrev S200x200 : Shape := ⟨2, ![200, 200]⟩
abbrev S160x160 : Shape := ⟨2, ![160, 160]⟩
abbrev S1x200x8 : Shape := ⟨3, ![1, 200, 8]⟩
abbrev S200x8 : Shape := ⟨2, ![200, 8]⟩
abbrev S200x1 : Shape := ⟨2, ![200, 1]⟩
abbrev S1x200x128 : Shape := ⟨3, ![1, 200, 128]⟩
abbrev S200x128 : Shape := ⟨2, ![200, 128]⟩
abbrev S200 : Shape := ⟨1, ![200]⟩
abbrev S1x200 : Shape := ⟨2, ![1, 200]⟩
abbrev S160x200 : Shape := ⟨2, ![160, 200]⟩
abbrev S160x128 : Shape := ⟨2, ![160, 128]⟩
abbrev S800x200 : Shape := ⟨2, ![800, 200]⟩
abbrev S800x1 : Shape := ⟨2, ![800, 1]⟩
abbrev S200x4 : Shape := ⟨2, ![200, 4]⟩
abbrev S160x8 : Shape := ⟨2, ![160, 8]⟩
abbrev S160x4 : Shape := ⟨2, ![160, 4]⟩
abbrev S160x1 : Shape := ⟨2, ![160, 1]⟩
abbrev S640x160 : Shape := ⟨2, ![640, 160]⟩
abbrev S640x128 : Shape := ⟨2, ![640, 128]⟩
abbrev S640x256 : Shape := ⟨2, ![640, 256]⟩
abbrev S640x1 : Shape := ⟨2, ![640, 1]⟩
abbrev S160x256 : Shape := ⟨2, ![160, 256]⟩
abbrev S1 : Shape := ⟨1, ![1]⟩
abbrev S1x160x256 : Shape := ⟨3, ![1, 160, 256]⟩
abbrev S1x160x8 : Shape := ⟨3, ![1, 160, 8]⟩
abbrev S5x256 : Shape := ⟨2, ![5, 256]⟩

abbrev nBuf : Space → Nat
  | .hbm => 22
  | .vmem => 23
  | .smem => 0
  | _ => 0

abbrev bufTy : (tb : Table) → Fin (tcTables nBuf tb) → BufTy
  | .hbm, ⟨0, _⟩ => ⟨S50x200x128, .f32⟩
  | .hbm, ⟨1, _⟩ => ⟨S50x200x8, .f32⟩
  | .hbm, ⟨2, _⟩ => ⟨S50x200x8, .i32⟩
  | .hbm, ⟨3, _⟩ => ⟨S50x200x8, .f32⟩
  | .hbm, ⟨4, _⟩ => ⟨S8x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S256x256, .f32⟩
  | .hbm, ⟨9, _⟩ => ⟨S256, .f32⟩
  | .hbm, ⟨10, _⟩ => ⟨S1x128, .f32⟩
  | .hbm, ⟨11, _⟩ => ⟨S1x128, .f32⟩
  | .hbm, ⟨12, _⟩ => ⟨S128x1, .f32⟩
  | .hbm, ⟨13, _⟩ => ⟨S_, .i32⟩
  | .hbm, ⟨14, _⟩ => ⟨S_, .f32⟩
  | .hbm, ⟨15, _⟩ => ⟨S128x128, .f32⟩
  | .hbm, ⟨16, _⟩ => ⟨S1x256, .f32⟩
  | .hbm, ⟨17, _⟩ => ⟨S50x160x256, .f32⟩
  | .hbm, ⟨18, _⟩ => ⟨S50x160x8, .f32⟩
  | .hbm, ⟨19, _⟩ => ⟨S50x160x8, .i32⟩
  | .hbm, ⟨20, _⟩ => ⟨S50x160x8, .f32⟩
  | .hbm, ⟨21, _⟩ => ⟨S8x256, .f32⟩
  | .local _ .vmem, ⟨0, _⟩ => ⟨S5x200x128, .f32⟩
  | .local _ .vmem, ⟨1, _⟩ => ⟨S5x200x128, .f32⟩
  | .local _ .vmem, ⟨2, _⟩ => ⟨S5x200x8, .f32⟩
  | .local _ .vmem, ⟨3, _⟩ => ⟨S5x200x8, .f32⟩
  | .local _ .vmem, ⟨4, _⟩ => ⟨S5x200x8, .i32⟩
  | .local _ .vmem, ⟨5, _⟩ => ⟨S5x200x8, .i32⟩
  | .local _ .vmem, ⟨6, _⟩ => ⟨S5x200x8, .f32⟩
  | .local _ .vmem, ⟨7, _⟩ => ⟨S5x200x8, .f32⟩
  | .local _ .vmem, ⟨8, _⟩ => ⟨S8x128, .f32⟩
  | .local _ .vmem, ⟨9, _⟩ => ⟨S1x128, .f32⟩
  | .local _ .vmem, ⟨10, _⟩ => ⟨S1x128, .f32⟩
  | .local _ .vmem, ⟨11, _⟩ => ⟨S128x128, .f32⟩
  | .local _ .vmem, ⟨12, _⟩ => ⟨S256x256, .f32⟩
  | .local _ .vmem, ⟨13, _⟩ => ⟨S1x256, .f32⟩
  | .local _ .vmem, ⟨14, _⟩ => ⟨S5x160x256, .f32⟩
  | .local _ .vmem, ⟨15, _⟩ => ⟨S5x160x256, .f32⟩
  | .local _ .vmem, ⟨16, _⟩ => ⟨S5x160x8, .f32⟩
  | .local _ .vmem, ⟨17, _⟩ => ⟨S5x160x8, .f32⟩
  | .local _ .vmem, ⟨18, _⟩ => ⟨S5x160x8, .i32⟩
  | .local _ .vmem, ⟨19, _⟩ => ⟨S5x160x8, .i32⟩
  | .local _ .vmem, ⟨20, _⟩ => ⟨S5x160x8, .f32⟩
  | .local _ .vmem, ⟨21, _⟩ => ⟨S5x160x8, .f32⟩
  | .local _ .vmem, ⟨22, _⟩ => ⟨S8x256, .f32⟩
  | _, _ => ⟨S50x200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5x200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x200x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5x200x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5x200x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5x160x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S5x160x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S5x160x8 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S5x160x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference1Ideal.lean ====
abbrev S50x200x128 : Shape := ⟨3, ![50, 200, 128]⟩
abbrev S50x200x8 : Shape := ⟨3, ![50, 200, 8]⟩
abbrev S8x128 : Shape := ⟨2, ![8, 128]⟩
abbrev S128 : Shape := ⟨1, ![128]⟩
abbrev S256x256 : Shape := ⟨2, ![256, 256]⟩
abbrev S256 : Shape := ⟨1, ![256]⟩
abbrev S50x200x1 : Shape := ⟨3, ![50, 200, 1]⟩
abbrev S1x128 : Shape := ⟨2, ![1, 128]⟩
abbrev S_ : Shape := ⟨0, ![]⟩
abbrev S1x1x128 : Shape := ⟨3, ![1, 1, 128]⟩
abbrev S50x200 : Shape := ⟨2, ![50, 200]⟩
abbrev S50x160 : Shape := ⟨2, ![50, 160]⟩
abbrev S50 : Shape := ⟨1, ![50]⟩
abbrev S50x1 : Shape := ⟨2, ![50, 1]⟩
abbrev S50x160x1 : Shape := ⟨3, ![50, 160, 1]⟩
abbrev S50x160x2 : Shape := ⟨3, ![50, 160, 2]⟩
abbrev S50x160x128 : Shape := ⟨3, ![50, 160, 128]⟩
abbrev S160 : Shape := ⟨1, ![160]⟩
abbrev S1x160 : Shape := ⟨2, ![1, 160]⟩
abbrev S50x1x1 : Shape := ⟨3, ![50, 1, 1]⟩
abbrev S50x160x8 : Shape := ⟨3, ![50, 160, 8]⟩
abbrev S50x160x4 : Shape := ⟨3, ![50, 160, 4]⟩
abbrev S50x160x4x1 : Shape := ⟨4, ![50, 160, 4, 1]⟩
abbrev S50x160x4x2 : Shape := ⟨4, ![50, 160, 4, 2]⟩
abbrev S50x160x4x128 : Shape := ⟨4, ![50, 160, 4, 128]⟩
abbrev S50x160x1x128 : Shape := ⟨4, ![50, 160, 1, 128]⟩
abbrev S50x160x4x256 : Shape := ⟨4, ![50, 160, 4, 256]⟩
abbrev S1x1x1x256 : Shape := ⟨4, ![1, 1, 1, 256]⟩
abbrev S1x256 : Shape := ⟨2, ![1, 256]⟩
abbrev S5x256 : Shape := ⟨2, ![5, 256]⟩
abbrev S8x256 : Shape := ⟨2, ![8, 256]⟩
abbrev S50x160x256 : Shape := ⟨3, ![50, 160, 256]⟩

abbrev nBuf : Space → Nat
  | .hbm => 243
  | .vmem => 0
  | .smem => 0
  | _ => 0

abbrev hbmTy0_0 (i : Nat) : BufTy := match i % 128 with
  | 0 => ⟨S50x200x128, .f32⟩
  | 1 => ⟨S50x200x8, .f32⟩
  | 2 => ⟨S50x200x8, .i32⟩
  | 3 => ⟨S50x200x8, .f32⟩
  | 4 => ⟨S8x128, .f32⟩
  | 5 => ⟨S128, .f32⟩
  | 6 => ⟨S128, .f32⟩
  | 7 => ⟨S128, .f32⟩
  | 8 => ⟨S256x256, .f32⟩
  | 9 => ⟨S256, .f32⟩
  | 10 => ⟨S50x200x1, .f32⟩
  | 11 => ⟨S1x128, .f32⟩
  | 12 => ⟨S128, .f32⟩
  | 13 => ⟨S_, .f32⟩
  | 14 => ⟨S128, .f32⟩
  | 15 => ⟨S128, .f32⟩
  | 16 => ⟨S1x128, .f32⟩
  | 17 => ⟨S128, .f32⟩
  | 18 => ⟨S128, .f32⟩
  | 19 => ⟨S1x128, .f32⟩
  | 20 => ⟨S128, .f32⟩
  | 21 => ⟨S128, .f32⟩
  | 22 => ⟨S128, .f32⟩
  | 23 => ⟨S128, .f32⟩
  | 24 => ⟨S1x1x128, .f32⟩
  | 25 => ⟨S50x200x128, .f32⟩
  | 26 => ⟨S50x200x128, .f32⟩
  | 27 => ⟨S50x200x128, .f32⟩
  | 28 => ⟨S50x200x128, .f32⟩
  | 29 => ⟨S_, .f32⟩
  | 30 => ⟨S128, .f32⟩
  | 31 => ⟨S128, .f32⟩
  | 32 => ⟨S128, .f32⟩
  | 33 => ⟨S1x1x128, .f32⟩
  | 34 => ⟨S50x200x128, .f32⟩
  | 35 => ⟨S50x200x128, .f32⟩
  | 36 => ⟨S1x1x128, .f32⟩
  | 37 => ⟨S50x200x128, .f32⟩
  | 38 => ⟨S50x200x128, .f32⟩
  | 39 => ⟨S1x1x128, .f32⟩
  | 40 => ⟨S50x200x128, .f32⟩
  | 41 => ⟨S50x200x128, .f32⟩
  | 42 => ⟨S50x200x128, .f32⟩
  | 43 => ⟨S50x200x128, .f32⟩
  | 44 => ⟨S_, .f32⟩
  | 45 => ⟨S50x200x1, .f32⟩
  | 46 => ⟨S50x200x1, .f32⟩
  | 47 => ⟨S50x200x128, .f32⟩
  | 48 => ⟨S50x200x128, .f32⟩
  | 49 => ⟨S50x200, .f32⟩
  | 50 => ⟨S128, .f32⟩
  | 51 => ⟨S_, .f32⟩
  | 52 => ⟨S_, .f32⟩
  | 53 => ⟨S_, .f32⟩
  | 54 => ⟨S50x200, .f32⟩
  | 55 => ⟨S50x200, .f32⟩
  | 56 => ⟨S50x200, .f32⟩
  | 57 => ⟨S50x160, .f32⟩
  | 58 => ⟨S50x160, .i32⟩
  | 59 => ⟨S50x160, .i32⟩
  | 60 => ⟨S50, .i32⟩
  | 61 => ⟨S50x1, .i32⟩
  | 62 => ⟨S50x200x1, .f32⟩
  | 63 => ⟨S50x200x128, .f32⟩
  | 64 => ⟨S50x200x128, .f32⟩
  | 65 => ⟨S_, .i32⟩
  | 66 => ⟨S50x1, .i32⟩
  | 67 => ⟨S50x1, .i1⟩
  | 68 => ⟨S_, .i32⟩
  | 69 => ⟨S50x1, .i32⟩
  | 70 => ⟨S50x1, .i32⟩
  | 71 => ⟨S50x1, .i32⟩
  | 72 => ⟨S_, .i32⟩
  | 73 => ⟨S50x160, .i32⟩
  | 74 => ⟨S50x160, .i1⟩
  | 75 => ⟨S_, .i32⟩
  | 76 => ⟨S50x160, .i32⟩
  | 77 => ⟨S50x160, .i32⟩
  | 78 => ⟨S50x160, .i32⟩
  | 79 => ⟨S50x160, .i32⟩
  | 80 => ⟨S50x160x1, .i32⟩
  | 81 => ⟨S50x160x1, .i32⟩
  | 82 => ⟨S50x160x2, .i32⟩
  | 83 => ⟨S50x160x128, .f32⟩
  | 84 => ⟨S_, .i32⟩
  | 85 => ⟨S50x200, .i32⟩
  | 86 => ⟨S160, .i32⟩
  | 87 => ⟨S1x160, .i32⟩
  | 88 => ⟨S_, .i32⟩
  | 89 => ⟨S50x1, .i32⟩
  | 90 => ⟨S50x1, .i1⟩
  | 91 => ⟨S_, .i32⟩
  | 92 => ⟨S50x1, .i32⟩
  | 93 => ⟨S50x1, .i32⟩
  | 94 => ⟨S50x1, .i32⟩
  | 95 => ⟨S_, .i32⟩
  | 96 => ⟨S50x160, .i32⟩
  | 97 => ⟨S50x160, .i1⟩
  | 98 => ⟨S_, .i32⟩
  | 99 => ⟨S50x160, .i32⟩
  | 100 => ⟨S50x160, .i32⟩
  | 101 => ⟨S50x160, .i32⟩
  | 102 => ⟨S50x160, .i32⟩
  | 103 => ⟨S50x160x1, .i32⟩
  | 104 => ⟨S50x160x1, .i32⟩
  | 105 => ⟨S50x160x2, .i32⟩
  | 106 => ⟨S50x160, .i32⟩
  | 107 => ⟨S50x200, .i32⟩
  | 108 => ⟨S50x1x1, .i32⟩
  | 109 => ⟨S_, .i32⟩
  | 110 => ⟨S50x1, .i32⟩
  | 111 => ⟨S50x1, .i1⟩
  | 112 => ⟨S_, .i32⟩
  | 113 => ⟨S50x1, .i32⟩
  | 114 => ⟨S50x1, .i32⟩
  | 115 => ⟨S50x1, .i32⟩
  | 116 => ⟨S_, .i32⟩
  | 117 => ⟨S50x160, .i32⟩
  | 118 => ⟨S50x160, .i1⟩
  | 119 => ⟨S_, .i32⟩
  | 120 => ⟨S50x160, .i32⟩
  | 121 => ⟨S50x160, .i32⟩
  | 122 => ⟨S50x160, .i32⟩
  | 123 => ⟨S50x160, .i32⟩
  | 124 => ⟨S50x160x1, .i32⟩
  | 125 => ⟨S50x160x1, .i32⟩
  | 126 => ⟨S50x160x2, .i32⟩
  | 127 => ⟨S50x160x8, .i32⟩
  | _ => ⟨S50x200x128, .f32⟩

abbrev hbmTy0_1 (i : Nat) : BufTy := match i % 128 with
  | 0 => ⟨S50x160x4, .i32⟩
  | 1 => ⟨S_, .i32⟩
  | 2 => ⟨S50x1x1, .i32⟩
  | 3 => ⟨S50x1x1, .i1⟩
  | 4 => ⟨S_, .i32⟩
  | 5 => ⟨S50x1x1, .i32⟩
  | 6 => ⟨S50x1x1, .i32⟩
  | 7 => ⟨S50x1x1, .i32⟩
  | 8 => ⟨S_, .i32⟩
  | 9 => ⟨S50x160x4, .i32⟩
  | 10 => ⟨S50x160x4, .i1⟩
  | 11 => ⟨S_, .i32⟩
  | 12 => ⟨S50x160x4, .i32⟩
  | 13 => ⟨S50x160x4, .i32⟩
  | 14 => ⟨S50x160x4, .i32⟩
  | 15 => ⟨S50x160x4, .i32⟩
  | 16 => ⟨S50x160x4x1, .i32⟩
  | 17 => ⟨S50x160x4x1, .i32⟩
  | 18 => ⟨S50x160x4x2, .i32⟩
  | 19 => ⟨S50x160x4, .i32⟩
  | 20 => ⟨S_, .i32⟩
  | 21 => ⟨S50x1, .i32⟩
  | 22 => ⟨S50x1, .i1⟩
  | 23 => ⟨S_, .i32⟩
  | 24 => ⟨S50x1, .i32⟩
  | 25 => ⟨S50x1, .i32⟩
  | 26 => ⟨S50x1, .i32⟩
  | 27 => ⟨S_, .i32⟩
  | 28 => ⟨S50x160, .i32⟩
  | 29 => ⟨S50x160, .i1⟩
  | 30 => ⟨S_, .i32⟩
  | 31 => ⟨S50x160, .i32⟩
  | 32 => ⟨S50x160, .i32⟩
  | 33 => ⟨S50x160, .i32⟩
  | 34 => ⟨S50x160, .i32⟩
  | 35 => ⟨S50x160x1, .i32⟩
  | 36 => ⟨S50x160x1, .i32⟩
  | 37 => ⟨S50x160x2, .i32⟩
  | 38 => ⟨S50x160x8, .f32⟩
  | 39 => ⟨S50x160x4, .f32⟩
  | 40 => ⟨S_, .i32⟩
  | 41 => ⟨S50x160x4, .i32⟩
  | 42 => ⟨S50x160x4, .i1⟩
  | 43 => ⟨S50x160x4, .f32⟩
  | 44 => ⟨S50x160x4, .f32⟩
  | 45 => ⟨S_, .i32⟩
  | 46 => ⟨S50x160x4, .i32⟩
  | 47 => ⟨S50x160x4, .i1⟩
  | 48 => ⟨S_, .i32⟩
  | 49 => ⟨S_, .i32⟩
  | 50 => ⟨S50x160x4, .i32⟩
  | 51 => ⟨S50x160x4, .i32⟩
  | 52 => ⟨S50x1x1, .i32⟩
  | 53 => ⟨S_, .i32⟩
  | 54 => ⟨S50x1x1, .i32⟩
  | 55 => ⟨S50x1x1, .i1⟩
  | 56 => ⟨S_, .i32⟩
  | 57 => ⟨S50x1x1, .i32⟩
  | 58 => ⟨S50x1x1, .i32⟩
  | 59 => ⟨S50x1x1, .i32⟩
  | 60 => ⟨S_, .i32⟩
  | 61 => ⟨S50x160x4, .i32⟩
  | 62 => ⟨S50x160x4, .i1⟩
  | 63 => ⟨S_, .i32⟩
  | 64 => ⟨S50x160x4, .i32⟩
  | 65 => ⟨S50x160x4, .i32⟩
  | 66 => ⟨S50x160x4, .i32⟩
  | 67 => ⟨S50x160x4, .i32⟩
  | 68 => ⟨S50x160x4x1, .i32⟩
  | 69 => ⟨S50x160x4x1, .i32⟩
  | 70 => ⟨S50x160x4x2, .i32⟩
  | 71 => ⟨S50x160x4x128, .f32⟩
  | 72 => ⟨S50x160x1x128, .f32⟩
  | 73 => ⟨S50x160x4x128, .f32⟩
  | 74 => ⟨S50x160x4x128, .f32⟩
  | 75 => ⟨S50x160x4x256, .f32⟩
  | 76 => ⟨S50x160x4x256, .f32⟩
  | 77 => ⟨S1x1x1x256, .f32⟩
  | 78 => ⟨S50x160x4x256, .f32⟩
  | 79 => ⟨S50x160x4x256, .f32⟩
  | 80 => ⟨S_, .f32⟩
  | 81 => ⟨S50x160x4x256, .f32⟩
  | 82 => ⟨S50x160x4x256, .f32⟩
  | 83 => ⟨S50x160x4x1, .f32⟩
  | 84 => ⟨S50x160x4x256, .f32⟩
  | 85 => ⟨S50x160x4x256, .f32⟩
  | 86 => ⟨S_, .f32⟩
  | 87 => ⟨S256, .f32⟩
  | 88 => ⟨S50x160x4x256, .f32⟩
  | 89 => ⟨S_, .f32⟩
  | 90 => ⟨S256, .f32⟩
  | 91 => ⟨S_, .f32⟩
  | 92 => ⟨S_, .f32⟩
  | 93 => ⟨S1x256, .f32⟩
  | 94 => ⟨S1x256, .f32⟩
  | 95 => ⟨S_, .f32⟩
  | 96 => ⟨S1x256, .f32⟩
  | 97 => ⟨S1x256, .f32⟩
  | 98 => ⟨S1x256, .f32⟩
  | 99 => ⟨S1x256, .f32⟩
  | 100 => ⟨S_, .f32⟩
  | 101 => ⟨S5x256, .f32⟩
  | 102 => ⟨S8x256, .f32⟩
  | 103 => ⟨S_, .f32⟩
  | 104 => ⟨S50x160x256, .f32⟩
  | 105 => ⟨S_, .f32⟩
  | 106 => ⟨S50x160, .f32⟩
  | 107 => ⟨S50x160x1, .f32⟩
  | 108 => ⟨S50x160x8, .f32⟩
  | 109 => ⟨S_, .i32⟩
  | 110 => ⟨S_, .i32⟩
  | 111 => ⟨S50x160x8, .i32⟩
  | 112 => ⟨S_, .i32⟩
  | 113 => ⟨S_, .f32⟩
  | 114 => ⟨S50x160x8, .f32⟩
  | _ => ⟨S50x200x128, .f32⟩

abbrev hbmTy (i : Nat) : BufTy := match i / 128 with
  | 0 => hbmTy0_0 i
  | 1 => hbmTy0_1 i
  | _ => ⟨S50x200x128, .f32⟩

abbrev bufTy : (tb : Table) → Fin (tcTables nBuf tb) → BufTy
  | .hbm, ⟨i, _⟩ => hbmTy i
  | _, _ => ⟨S50x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_values : Ref sig .tc := ⟨.hbm, 57, rfl⟩
abbrev main_indices : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c : Ref sig .tc := ⟨.hbm, 65, rfl⟩
abbrev main_v49 : Ref sig .tc := ⟨.hbm, 66, rfl⟩
abbrev main_v50 : Ref sig .tc := ⟨.hbm, 67, rfl⟩
abbrev main_c_3 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_4 : Ref sig .tc := ⟨.hbm, 72, rfl⟩
abbrev main_v54 : Ref sig .tc := ⟨.hbm, 73, rfl⟩
abbrev main_v55 : Ref sig .tc := ⟨.hbm, 74, rfl⟩
abbrev main_c_5 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_6 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_7 : Ref sig .tc := ⟨.hbm, 88, rfl⟩
abbrev main_v67 : Ref sig .tc := ⟨.hbm, 89, rfl⟩
abbrev main_v68 : Ref sig .tc := ⟨.hbm, 90, rfl⟩
abbrev main_c_8 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_9 : Ref sig .tc := ⟨.hbm, 95, rfl⟩
abbrev main_v72 : Ref sig .tc := ⟨.hbm, 96, rfl⟩
abbrev main_v73 : Ref sig .tc := ⟨.hbm, 97, rfl⟩
abbrev main_c_10 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_c_11 : Ref sig .tc := ⟨.hbm, 109, rfl⟩
abbrev main_v84 : Ref sig .tc := ⟨.hbm, 110, rfl⟩
abbrev main_v85 : Ref sig .tc := ⟨.hbm, 111, rfl⟩
abbrev main_c_12 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_c_13 : Ref sig .tc := ⟨.hbm, 116, rfl⟩
abbrev main_v89 : Ref sig .tc := ⟨.hbm, 117, rfl⟩
abbrev main_v90 : Ref sig .tc := ⟨.hbm, 118, rfl⟩
abbrev main_c_14 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_c_15 : Ref sig .tc := ⟨.hbm, 129, rfl⟩
abbrev main_v100 : Ref sig .tc := ⟨.hbm, 130, rfl⟩
abbrev main_v101 : Ref sig .tc := ⟨.hbm, 131, rfl⟩
abbrev main_c_16 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_c_17 : Ref sig .tc := ⟨.hbm, 136, rfl⟩
abbrev main_v105 : Ref sig .tc := ⟨.hbm, 137, rfl⟩
abbrev main_v106 : Ref sig .tc := ⟨.hbm, 138, rfl⟩
abbrev main_c_18 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_c_19 : Ref sig .tc := ⟨.hbm, 148, rfl⟩
abbrev main_v115 : Ref sig .tc := ⟨.hbm, 149, rfl⟩
abbrev main_v116 : Ref sig .tc := ⟨.hbm, 150, rfl⟩
abbrev main_c_20 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_c_21 : Ref sig .tc := ⟨.hbm, 155, rfl⟩
abbrev main_v120 : Ref sig .tc := ⟨.hbm, 156, rfl⟩
abbrev main_v121 : Ref sig .tc := ⟨.hbm, 157, rfl⟩
abbrev main_c_22 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_c_23 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_c_24 : Ref sig .tc := ⟨.hbm, 173, rfl⟩
abbrev main_v135 : Ref sig .tc := ⟨.hbm, 174, rfl⟩
abbrev main_v136 : Ref sig .tc := ⟨.hbm, 175, rfl⟩
abbrev main_c_25 : Ref sig .tc := ⟨.hbm, 176, rfl⟩
abbrev main_call1_v0 : Ref sig .tc := ⟨.hbm, 177, rfl⟩
abbrev main_call1_v1 : Ref sig .tc := ⟨.hbm, 178, rfl⟩
abbrev main_v137 : Ref sig .tc := ⟨.hbm, 179, rfl⟩
abbrev main_v138 : Ref sig .tc := ⟨.hbm, 180, rfl⟩
abbrev main_c_26 : Ref sig .tc := ⟨.hbm, 181, rfl⟩
abbrev main_v139 : Ref sig .tc := ⟨.hbm, 182, rfl⟩
abbrev main_v140 : Ref sig .tc := ⟨.hbm, 183, rfl⟩
abbrev main_c_27 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_c_28 : Ref sig .tc := ⟨.hbm, 188, rfl⟩
abbrev main_v144 : Ref sig .tc := ⟨.hbm, 189, rfl⟩
abbrev main_v145 : Ref sig .tc := ⟨.hbm, 190, rfl⟩
abbrev main_c_29 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_call2_cst : Ref sig .tc := ⟨.hbm, 208, rfl⟩
abbrev main_call2_v0 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_cst_30 : Ref sig .tc := ⟨.hbm, 214, rfl⟩
abbrev main_v166 : Ref sig .tc := ⟨.hbm, 215, rfl⟩
abbrev main_v167 : Ref sig .tc := ⟨.hbm, 216, rfl⟩
abbrev main_cst_31 : Ref sig .tc := ⟨.hbm, 217, rfl⟩
abbrev main_v168 : Ref sig .tc := ⟨.hbm, 218, rfl⟩
abbrev main_cst_32 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_cst_33 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_cst_34 : Ref sig .tc := ⟨.hbm, 228, rfl⟩
abbrev main_v176 : Ref sig .tc := ⟨.hbm, 229, rfl⟩
abbrev main_v177 : Ref sig .tc := ⟨.hbm, 230, rfl⟩
abbrev main_cst_35 : Ref sig .tc := ⟨.hbm, 231, rfl⟩
abbrev main_v178 : Ref sig .tc := ⟨.hbm, 232, rfl⟩
abbrev main_cst_36 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_c_37 : Ref sig .tc := ⟨.hbm, 237, rfl⟩
abbrev main_call3_v0 : Ref sig .tc := ⟨.hbm, 238, rfl⟩
abbrev main_v182 : Ref sig .tc := ⟨.hbm, 239, rfl⟩
abbrev main_c_38 : Ref sig .tc := ⟨.hbm, 240, rfl⟩
abbrev main_call4_v0 : Ref sig .tc := ⟨.hbm, 241, rfl⟩
abbrev main_v183 : Ref sig .tc := ⟨.hbm, 242, rfl⟩

abbrev nD : Nat := 1
abbrev τ : Topo := Topo.v7x

variable {F : FTy → Type} [FloatOps F]
-- ==== Kernel3.lean ====
abbrev S10000x53 : Shape := ⟨2, ![10000, 53]⟩
abbrev S10000x3 : Shape := ⟨2, ![10000, 3]⟩
abbrev S106x128 : Shape := ⟨2, ![106, 128]⟩
abbrev S128 : Shape := ⟨1, ![128]⟩
abbrev S_ : Shape := ⟨0, ![]⟩
abbrev S10000x64 : Shape := ⟨2, ![10000, 64]⟩
abbrev S50x200x64 : Shape := ⟨3, ![50, 200, 64]⟩
abbrev S10000x8 : Shape := ⟨2, ![10000, 8]⟩
abbrev S50x200x8 : Shape := ⟨3, ![50, 200, 8]⟩
abbrev S53x128 : Shape := ⟨2, ![53, 128]⟩
abbrev S64x128 : Shape := ⟨2, ![64, 128]⟩
abbrev S128x128 : Shape := ⟨2, ![128, 128]⟩
abbrev S1x128 : Shape := ⟨2, ![1, 128]⟩
abbrev S50x200x128 : Shape := ⟨3, ![50, 200, 128]⟩
abbrev S8x128 : Shape := ⟨2, ![8, 128]⟩
abbrev S5x200x8 : Shape := ⟨3, ![5, 200, 8]⟩
abbrev S5x200x64 : Shape := ⟨3, ![5, 200, 64]⟩
abbrev S5x200x128 : Shape := ⟨3, ![5, 200, 128]⟩
abbrev S200x200 : Shape := ⟨2, ![200, 200]⟩
abbrev S1x200x8 : Shape := ⟨3, ![1, 200, 8]⟩
abbrev S200x8 : Shape := ⟨2, ![200, 8]⟩
abbrev S1x200x64 : Shape := ⟨3, ![1, 200, 64]⟩
abbrev S200x64 : Shape := ⟨2, ![200, 64]⟩
abbrev S200 : Shape := ⟨1, ![200]⟩
abbrev S200x1 : Shape := ⟨2, ![200, 1]⟩
abbrev S1x200 : Shape := ⟨2, ![1, 200]⟩
abbrev S800x200 : Shape := ⟨2, ![800, 200]⟩
abbrev S800x64 : Shape := ⟨2, ![800, 64]⟩
abbrev S800x128 : Shape := ⟨2, ![800, 128]⟩
abbrev S200x128 : Shape := ⟨2, ![200, 128]⟩
abbrev S1x200x128 : Shape := ⟨3, ![1, 200, 128]⟩
abbrev S200x4 : Shape := ⟨2, ![200, 4]⟩
abbrev S5x128 : Shape := ⟨2, ![5, 128]⟩

abbrev nBuf : Space → Nat
  | .hbm => 25
  | .vmem => 11
  | .smem => 0
  | _ => 0

abbrev bufTy : (tb : Table) → Fin (tcTables nBuf tb) → BufTy
  | .hbm, ⟨0, _⟩ => ⟨S10000x53, .f32⟩
  | .hbm, ⟨1, _⟩ => ⟨S10000x3, .f32⟩
  | .hbm, ⟨2, _⟩ => ⟨S106x128, .f32⟩
  | .hbm, ⟨3, _⟩ => ⟨S128, .f32⟩
  | .hbm, ⟨4, _⟩ => ⟨S_, .i32⟩
  | .hbm, ⟨5, _⟩ => ⟨S_, .f32⟩
  | .hbm, ⟨6, _⟩ => ⟨S10000x64, .f32⟩
  | .hbm, ⟨7, _⟩ => ⟨S50x200x64, .f32⟩
  | .hbm, ⟨8, _⟩ => ⟨S_, .i32⟩
  | .hbm, ⟨9, _⟩ => ⟨S_, .f32⟩
  | .hbm, ⟨10, _⟩ => ⟨S10000x8, .f32⟩
  | .hbm, ⟨11, _⟩ => ⟨S50x200x8, .f32⟩
  | .hbm, ⟨12, _⟩ => ⟨S53x128, .f32⟩
  | .hbm, ⟨13, _⟩ => ⟨S_, .i32⟩
  | .hbm, ⟨14, _⟩ => ⟨S_, .f32⟩
  | .hbm, ⟨15, _⟩ => ⟨S64x128, .f32⟩
  | .hbm, ⟨16, _⟩ => ⟨S53x128, .f32⟩
  | .hbm, ⟨17, _⟩ => ⟨S_, .i32⟩
  | .hbm, ⟨18, _⟩ => ⟨S_, .f32⟩
  | .hbm, ⟨19, _⟩ => ⟨S64x128, .f32⟩
  | .hbm, ⟨20, _⟩ => ⟨S128x128, .f32⟩
  | .hbm, ⟨21, _⟩ => ⟨S1x128, .f32⟩
  | .hbm, ⟨22, _⟩ => ⟨S50x200x8, .i32⟩
  | .hbm, ⟨23, _⟩ => ⟨S50x200x128, .f32⟩
  | .hbm, ⟨24, _⟩ => ⟨S8x128, .f32⟩
  | .local _ .vmem, ⟨0, _⟩ => ⟨S5x200x8, .f32⟩
  | .local _ .vmem, ⟨1, _⟩ => ⟨S5x200x8, .f32⟩
  | .local _ .vmem, ⟨2, _⟩ => ⟨S5x200x64, .f32⟩
  | .local _ .vmem, ⟨3, _⟩ => ⟨S5x200x64, .f32⟩
  | .local _ .vmem, ⟨4, _⟩ => ⟨S128x128, .f32⟩
  | .local _ .vmem, ⟨5, _⟩ => ⟨S1x128, .f32⟩
  | .local _ .vmem, ⟨6, _⟩ => ⟨S5x200x8, .i32⟩
  | .local _ .vmem, ⟨7, _⟩ => ⟨S5x200x8, .i32⟩
  | .local _ .vmem, ⟨8, _⟩ => ⟨S5x200x128, .f32⟩
  | .local _ .vmem, ⟨9, _⟩ => ⟨S5x200x128, .f32⟩
  | .local _ .vmem, ⟨10, _⟩ => ⟨S8x128, .f32⟩
  | _, _ => ⟨S10000x53, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_call3_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5x200x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5x200x8 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5x200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S10000x53 : Shape := ⟨2, ![10000, 53]⟩
abbrev S10000x3 : Shape := ⟨2, ![10000, 3]⟩
abbrev S106x128 : Shape := ⟨2, ![106, 128]⟩
abbrev S128 : Shape := ⟨1, ![128]⟩
abbrev S50x200x3 : Shape := ⟨3, ![50, 200, 3]⟩
abbrev S_ : Shape := ⟨0, ![]⟩
abbrev S50x200 : Shape := ⟨2, ![50, 200]⟩
abbrev S50x200x1 : Shape := ⟨3, ![50, 200, 1]⟩
abbrev S50x1x200 : Shape := ⟨3, ![50, 1, 200]⟩
abbrev S50x200x200 : Shape := ⟨3, ![50, 200, 200]⟩
abbrev S200x200 : Shape := ⟨2, ![200, 200]⟩
abbrev S1x200x200 : Shape := ⟨3, ![1, 200, 200]⟩
abbrev S50x200x4 : Shape := ⟨3, ![50, 200, 4]⟩
abbrev S50x200x53 : Shape := ⟨3, ![50, 200, 53]⟩
abbrev S50 : Shape := ⟨1, ![50]⟩
abbrev S50x1x1 : Shape := ⟨3, ![50, 1, 1]⟩
abbrev S50x200x4x1 : Shape := ⟨4, ![50, 200, 4, 1]⟩
abbrev S50x200x4x2 : Shape := ⟨4, ![50, 200, 4, 2]⟩
abbrev S50x200x4x53 : Shape := ⟨4, ![50, 200, 4, 53]⟩
abbrev S50x200x1x53 : Shape := ⟨4, ![50, 200, 1, 53]⟩
abbrev S50x200x4x106 : Shape := ⟨4, ![50, 200, 4, 106]⟩
abbrev S50x200x4x128 : Shape := ⟨4, ![50, 200, 4, 128]⟩
abbrev S1x1x1x128 : Shape := ⟨4, ![1, 1, 1, 128]⟩
abbrev S1x128 : Shape := ⟨2, ![1, 128]⟩
abbrev S5x128 : Shape := ⟨2, ![5, 128]⟩
abbrev S8x128 : Shape := ⟨2, ![8, 128]⟩
abbrev S50x200x8 : Shape := ⟨3, ![50, 200, 8]⟩
abbrev S50x200x128 : Shape := ⟨3, ![50, 200, 128]⟩

abbrev nBuf : Space → Nat
  | .hbm => 85
  | .vmem => 0
  | .smem => 0
  | _ => 0

abbrev bufTy : (tb : Table) → Fin (tcTables nBuf tb) → BufTy
  | .hbm, ⟨0, _⟩ => ⟨S10000x53, .f32⟩
  | .hbm, ⟨1, _⟩ => ⟨S10000x3, .f32⟩
  | .hbm, ⟨2, _⟩ => ⟨S106x128, .f32⟩
  | .hbm, ⟨3, _⟩ => ⟨S128, .f32⟩
  | .hbm, ⟨4, _⟩ => ⟨S50x200x3, .f32⟩
  | .hbm, ⟨5, _⟩ => ⟨S50x200x3, .f32⟩
  | .hbm, ⟨6, _⟩ => ⟨S_, .f32⟩
  | .hbm, ⟨7, _⟩ => ⟨S50x200, .f32⟩
  | .hbm, ⟨8, _⟩ => ⟨S50x200x1, .f32⟩
  | .hbm, ⟨9, _⟩ => ⟨S50x1x200, .f32⟩
  | .hbm, ⟨10, _⟩ => ⟨S50x200x200, .f32⟩
  | .hbm, ⟨11, _⟩ => ⟨S50x200x200, .f32⟩
  | .hbm, ⟨12, _⟩ => ⟨S50x200x200, .f32⟩
  | .hbm, ⟨13, _⟩ => ⟨S50x200x200, .f32⟩
  | .hbm, ⟨14, _⟩ => ⟨S_, .f32⟩
  | .hbm, ⟨15, _⟩ => ⟨S50x200x200, .f32⟩
  | .hbm, ⟨16, _⟩ => ⟨S50x200x200, .f32⟩
  | .hbm, ⟨17, _⟩ => ⟨S50x200x200, .f32⟩
  | .hbm, ⟨18, _⟩ => ⟨S200x200, .i32⟩
  | .hbm, ⟨19, _⟩ => ⟨S200x200, .i32⟩
  | .hbm, ⟨20, _⟩ => ⟨S_, .i32⟩
  | .hbm, ⟨21, _⟩ => ⟨S200x200, .i32⟩
  | .hbm, ⟨22, _⟩ => ⟨S200x200, .i32⟩
  | .hbm, ⟨23, _⟩ => ⟨S200x200, .i1⟩
  | .hbm, ⟨24, _⟩ => ⟨S200x200, .f32⟩
  | .hbm, ⟨25, _⟩ => ⟨S_, .f32⟩
  | .hbm, ⟨26, _⟩ => ⟨S200x200, .f32⟩
  | .hbm, ⟨27, _⟩ => ⟨S200x200, .f32⟩
  | .hbm, ⟨28, _⟩ => ⟨S1x200x200, .f32⟩
  | .hbm, ⟨29, _⟩ => ⟨S50x200x200, .f32⟩
  | .hbm, ⟨30, _⟩ => ⟨S50x200x200, .f32⟩
  | .hbm, ⟨31, _⟩ => ⟨S50x200x200, .f32⟩
  | .hbm, ⟨32, _⟩ => ⟨S50x200x4, .f32⟩
  | .hbm, ⟨33, _⟩ => ⟨S50x200x4, .i32⟩
  | .hbm, ⟨34, _⟩ => ⟨S50x200x53, .f32⟩
  | .hbm, ⟨35, _⟩ => ⟨S50, .i32⟩
  | .hbm, ⟨36, _⟩ => ⟨S50x1x1, .i32⟩
  | .hbm, ⟨37, _⟩ => ⟨S_, .i32⟩
  | .hbm, ⟨38, _⟩ => ⟨S50x1x1, .i32⟩
  | .hbm, ⟨39, _⟩ => ⟨S50x1x1, .i1⟩
  | .hbm, ⟨40, _⟩ => ⟨S_, .i32⟩
  | .hbm, ⟨41, _⟩ => ⟨S50x1x1, .i32⟩
  | .hbm, ⟨42, _⟩ => ⟨S50x1x1, .i32⟩
  | .hbm, ⟨43, _⟩ => ⟨S50x1x1, .i32⟩
  | .hbm, ⟨44, _⟩ => ⟨S_, .i32⟩
  | .hbm, ⟨45, _⟩ => ⟨S50x200x4, .i32⟩
  | .hbm, ⟨46, _⟩ => ⟨S50x200x4, .i1⟩
  | .hbm, ⟨47, _⟩ => ⟨S_, .i32⟩
  | .hbm, ⟨48, _⟩ => ⟨S50x200x4, .i32⟩
  | .hbm, ⟨49, _⟩ => ⟨S50x200x4, .i32⟩
  | .hbm, ⟨50, _⟩ => ⟨S50x200x4, .i32⟩
  | .hbm, ⟨51, _⟩ => ⟨S50x200x4, .i32⟩
  | .hbm, ⟨52, _⟩ => ⟨S50x200x4x1, .i32⟩
  | .hbm, ⟨53, _⟩ => ⟨S50x200x4x1, .i32⟩
  | .hbm, ⟨54, _⟩ => ⟨S50x200x4x2, .i32⟩
  | .hbm, ⟨55, _⟩ => ⟨S50x200x4x53, .f32⟩
  | .hbm, ⟨56, _⟩ => ⟨S50x200x1x53, .f32⟩
  | .hbm, ⟨57, _⟩ => ⟨S50x200x4x53, .f32⟩
  | .hbm, ⟨58, _⟩ => ⟨S50x200x4x53, .f32⟩
  | .hbm, ⟨59, _⟩ => ⟨S50x200x4x106, .f32⟩
  | .hbm, ⟨60, _⟩ => ⟨S50x200x4x128, .f32⟩
  | .hbm, ⟨61, _⟩ => ⟨S1x1x1x128, .f32⟩
  | .hbm, ⟨62, _⟩ => ⟨S50x200x4x128, .f32⟩
  | .hbm, ⟨63, _⟩ => ⟨S50x200x4x128, .f32⟩
  | .hbm, ⟨64, _⟩ => ⟨S_, .f32⟩
  | .hbm, ⟨65, _⟩ => ⟨S50x200x4x128, .f32⟩
  | .hbm, ⟨66, _⟩ => ⟨S50x200x4x128, .f32⟩
  | .hbm, ⟨67, _⟩ => ⟨S_, .f32⟩
  | .hbm, ⟨68, _⟩ => ⟨S128, .f32⟩
  | .hbm, ⟨69, _⟩ => ⟨S50x200x4x128, .f32⟩
  | .hbm, ⟨70, _⟩ => ⟨S_, .f32⟩
  | .hbm, ⟨71, _⟩ => ⟨S128, .f32⟩
  | .hbm, ⟨72, _⟩ => ⟨S1x128, .f32⟩
  | .hbm, ⟨73, _⟩ => ⟨S1x128, .f32⟩
  | .hbm, ⟨74, _⟩ => ⟨S_, .f32⟩
  | .hbm, ⟨75, _⟩ => ⟨S1x128, .f32⟩
  | .hbm, ⟨76, _⟩ => ⟨S_, .f32⟩
  | .hbm, ⟨77, _⟩ => ⟨S5x128, .f32⟩
  | .hbm, ⟨78, _⟩ => ⟨S1x128, .f32⟩
  | .hbm, ⟨79, _⟩ => ⟨S8x128, .f32⟩
  | .hbm, ⟨80, _⟩ => ⟨S_, .i32⟩
  | .hbm, ⟨81, _⟩ => ⟨S_, .i32⟩
  | .hbm, ⟨82, _⟩ => ⟨S50x200x8, .i32⟩
  | .hbm, ⟨83, _⟩ => ⟨S_, .f32⟩
  | .hbm, ⟨84, _⟩ => ⟨S50x200x128, .f32⟩
  | _, _ => ⟨S10000x53, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_values : Ref sig .tc := ⟨.hbm, 32, rfl⟩
abbrev main_indices : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_v27 : Ref sig .tc := ⟨.hbm, 38, rfl⟩
abbrev main_v28 : Ref sig .tc := ⟨.hbm, 39, rfl⟩
abbrev main_c_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_4 : Ref sig .tc := ⟨.hbm, 44, rfl⟩
abbrev main_v32 : Ref sig .tc := ⟨.hbm, 45, rfl⟩
abbrev main_v33 : Ref sig .tc := ⟨.hbm, 46, rfl⟩
abbrev main_c_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_call0_cst : Ref sig .tc := ⟨.hbm, 64, rfl⟩
abbrev main_call0_v0 : Ref sig .tc := ⟨.hbm, 65, rfl⟩
abbrev main_v50 : Ref sig .tc := ⟨.hbm, 66, rfl⟩
abbrev main_cst_6 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_10 : Ref sig .tc := ⟨.hbm, 80, rfl⟩
abbrev main_call1_v0 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== Proof.Body.lean ====
/- One graph of a pooling body, for any numbers of nodes and features: `n` nodes of which `q` are kept, `d` features in, `o`
   features out, four edges a node. The steps are a program's own (`Steps`); here they are put together, once for the bodies of
   all programs. -/
module

public import Idealize.ShloMosaic.Lib.Pointwise

@[expose] public section

noncomputable section

namespace Cert.Body

open Idealize.ShloMosaic

/-- Matrices and stacks of matrices, of floats. -/
abbrev Mat (F : FTy → Type) (a b : ℕ) : Type := FVec F ⟨2, ![a, b]⟩ .f32
abbrev Stack (F : FTy → Type) (g a b : ℕ) : Type := FVec F ⟨3, ![g, a, b]⟩ .f32
/-- A stack of matrices of words. -/
abbrev Nums (g a b : ℕ) : Type := IVec ⟨3, ![g, a, b]⟩ 32

/-- The steps of a body, as the program computes them. -/
structure Steps (F : FTy → Type) (n q d o : ℕ) where
  /-- The batch norm's factor and offset, from the three rows of sums and the parameters. -/
  scale : Mat F 1 d → Mat F 1 d → Mat F 1 d → Mat F 1 d → Mat F 1 d
  shift : Mat F 1 d → Mat F 1 d → Mat F 1 d → Mat F 1 d → Mat F 1 d → Mat F 1 d
  /-- The nodes' features, their scores, and how many nodes go before each. -/
  feat : Mat F 1 d → Mat F 1 d → Stack F 1 n 8 → Stack F 1 n d → Mat F n d
  sco : Mat F 1 d → Mat F 1 d → Mat F d 128 → Stack F 1 n 8 → Stack F 1 n d → Mat F n 1
  rnk : Mat F 1 d → Mat F 1 d → Mat F d 128 → Stack F 1 n 8 → Stack F 1 n d → FVec F ⟨1, ![n]⟩ .f32
  /-- From these: the new numbers, -1 for a dropped node; the matrix that takes the kept nodes; their features times their scores. -/
  nid : FVec F ⟨1, ![n]⟩ .f32 → Mat F n 1
  take : FVec F ⟨1, ![n]⟩ .f32 → Mat F q n
  xnew : Mat F n d → Mat F n 1 → FVec F ⟨1, ![n]⟩ .f32 → Mat F q d
  /-- The new numbers of the sources of all edges. -/
  snid : Mat F n 1 → Nums 1 n 8 → Mat F (4 * n) 1
  /-- The kept nodes' edges: their mask, their sources, and the matrix that takes the sources. -/
  msk : Mat F q n → Mat F (4 * n) 1 → Stack F 1 n 8 → Mat F q 4
  src : Mat F q n → Mat F (4 * n) 1 → Stack F 1 n 8 → IVec ⟨2, ![q, 4]⟩ 32
  takeSrc : Mat F q n → Mat F (4 * n) 1 → Stack F 1 n 8 → FVec F ⟨2, ![4 * q, q]⟩ .bf16
  /-- The edges' features before and after the mask. -/
  edg : Mat F (2 * d) o → Mat F 1 o → Mat F q d → FVec F ⟨2, ![4 * q, q]⟩ .bf16 → Mat F (4 * q) o
  med : Mat F (2 * d) o → Mat F 1 o → Mat F q d → Mat F q 4 → FVec F ⟨2, ![4 * q, q]⟩ .bf16 → Mat F (4 * q) o
  /-- What is stored for the graph. -/
  outSum : Mat F (2 * d) o → Mat F 1 o → Mat F q d → Mat F q 4 → FVec F ⟨2, ![4 * q, q]⟩ .bf16 → Stack F 1 q o
  outCnt : Mat F q 4 → Stack F 1 q 8
  outSrc : IVec ⟨2, ![q, 4]⟩ 32 → Nums 1 q 8
  outMsk : Mat F q 4 → Stack F 1 q 8
  /-- The running sums of a block of graphs: where they start, and with a graph more. -/
  sum0 : Mat F 1 o
  sq0 : Mat F 1 o
  num0 : Mat F 1 1
  sumOn : Mat F (2 * d) o → Mat F 1 o → Mat F q d → Mat F q 4 → FVec F ⟨2, ![4 * q, q]⟩ .bf16 → Mat F 1 o → Mat F 1 o
  sqOn : Mat F (2 * d) o → Mat F 1 o → Mat F q d → Mat F q 4 → FVec F ⟨2, ![4 * q, q]⟩ .bf16 → Mat F 1 o → Mat F 1 o
  numOn : Mat F q 4 → Mat F 1 1 → Mat F 1 1
  /-- The array of sums: where it starts, and with a block's sums. -/
  stats0 : Mat F 8 o
  statsOn : Mat F 1 o → Mat F 1 o → Mat F 1 1 → Mat F 8 o → Mat F 8 o

variable {F : FTy → Type} {n q d o : ℕ}

/-- Row `r` of the sums for the batch norm. -/
def strow (st : Mat F 8 d) (r : Fin 8) : Mat F 1 d := fun y => st (ix2 r (y 1))

/-- Graph `g` of a block of five, and of all fifty. -/
def gr {a b : ℕ} {α : Type} (x : (⟨3, ![5, a, b]⟩ : Shape).Idx → α) (g : Fin 5) : (⟨3, ![1, a, b]⟩ : Shape).Idx → α := fun y => x (ix3 g (y 1) (y 2))
def grf {a b : ℕ} {α : Type} (x : (⟨3, ![50, a, b]⟩ : Shape).Idx → α) (g : Fin 50) : (⟨3, ![1, a, b]⟩ : Shape).Idx → α := fun y => x (ix3 g (y 1) (y 2))

/-- A vector as one row. -/
def rowOf {a : ℕ} (x : FVec F ⟨1, ![a]⟩ .f32) : Mat F 1 a := fun y => x (ix1 (y 1))

variable (B : Steps F n q d o)

/-- The batch norm's factor and offset, from the array of sums. -/
def scale (st : Mat F 8 d) (g : Mat F 1 d) : Mat F 1 d := B.scale (strow st 0) (strow st 1) (strow st 2) g
def shift (st : Mat F 8 d) (g be : Mat F 1 d) : Mat F 1 d := B.shift (strow st 0) (strow st 1) (strow st 2) g be

section one
variable (A D : Mat F 1 d) (pw : Mat F d 128) (W : Mat F (2 * d) o) (b : Mat F 1 o)
variable (cnt : Stack F 1 n 8) (ns : Stack F 1 n d) (nb : Nums 1 n 8) (mk : Stack F 1 n 8)

def nid : Mat F n 1 := B.nid (B.rnk A D pw cnt ns)
def take : Mat F q n := B.take (B.rnk A D pw cnt ns)
def xnew : Mat F q d := B.xnew (B.feat A D cnt ns) (B.sco A D pw cnt ns) (B.rnk A D pw cnt ns)
def snid : Mat F (4 * n) 1 := B.snid (nid B A D pw cnt ns) nb
def msk : Mat F q 4 := B.msk (take B A D pw cnt ns) (snid B A D pw cnt ns nb) mk
def src : IVec ⟨2, ![q, 4]⟩ 32 := B.src (take B A D pw cnt ns) (snid B A D pw cnt ns nb) mk
def takeSrc : FVec F ⟨2, ![4 * q, q]⟩ .bf16 := B.takeSrc (take B A D pw cnt ns) (snid B A D pw cnt ns nb) mk

/-- The sum over the edges into each kept node, their number, their sources and their mask, as stored. -/
def outSum : Stack F 1 q o := B.outSum W b (xnew B A D pw cnt ns) (msk B A D pw cnt ns nb mk) (takeSrc B A D pw cnt ns nb mk)
def outCnt : Stack F 1 q 8 := B.outCnt (msk B A D pw cnt ns nb mk)
def outSrc : Nums 1 q 8 := B.outSrc (src B A D pw cnt ns nb mk)
def outMsk : Stack F 1 q 8 := B.outMsk (msk B A D pw cnt ns nb mk)

/-- The running sums over all edges, with this graph's. -/
def sumOn (acc : Mat F 1 o) : Mat F 1 o := B.sumOn W b (xnew B A D pw cnt ns) (msk B A D pw cnt ns nb mk) (takeSrc B A D pw cnt ns nb mk) acc
def sqOn (acc : Mat F 1 o) : Mat F 1 o := B.sqOn W b (xnew B A D pw cnt ns) (msk B A D pw cnt ns nb mk) (takeSrc B A D pw cnt ns nb mk) acc
def numOn (acc : Mat F 1 1) : Mat F 1 1 := B.numOn (msk B A D pw cnt ns nb mk) acc

end one

section five
variable (A D : Mat F 1 d) (pw : Mat F d 128) (W : Mat F (2 * d) o) (b : Mat F 1 o)
variable (cnt : Stack F 5 n 8) (ns : Stack F 5 n d) (nb : Nums 5 n 8) (mk : Stack F 5 n 8)

/-- The sums over all edges of the block's first `r` graphs. -/
def sums : (r : ℕ) → r ≤ 5 → Mat F 1 o
  | 0, _ => B.sum0
  | r + 1, h => sumOn B A D pw W b (gr cnt ⟨r, h⟩) (gr ns ⟨r, h⟩) (gr nb ⟨r, h⟩) (gr mk ⟨r, h⟩) (sums r (Nat.le_of_succ_le h))
def sqs : (r : ℕ) → r ≤ 5 → Mat F 1 o
  | 0, _ => B.sq0
  | r + 1, h => sqOn B A D pw W b (gr cnt ⟨r, h⟩) (gr ns ⟨r, h⟩) (gr nb ⟨r, h⟩) (gr mk ⟨r, h⟩) (sqs r (Nat.le_of_succ_le h))
def nums : (r : ℕ) → r ≤ 5 → Mat F 1 1
  | 0, _ => B.num0
  | r + 1, h => numOn B A D pw (gr cnt ⟨r, h⟩) (gr ns ⟨r, h⟩) (gr nb ⟨r, h⟩) (gr mk ⟨r, h⟩) (nums r (Nat.le_of_succ_le h))

/-- The sums for the next batch norm, with this block's. -/
def statsOn (prev : Mat F 8 o) : Mat F 8 o :=
  B.statsOn (sums B A D pw W b cnt ns nb mk 5 le_rfl) (sqs B A D pw W b cnt ns nb mk 5 le_rfl) (nums B A D pw cnt ns nb mk 5 le_rfl) prev

end five

end Cert.Body
-- ==== Proof.Graph.lean ====
/- The steps of the second pooling's body: 160 nodes to 128, 256 features to 512. -/
module

public import proofs.«01_k».proof.Proof.Gen.KernelIdeal.Skeleton
public import proofs.«01_k».proof.Proof.Body

@[expose] public section

set_option maxRecDepth 16384

noncomputable section

namespace Cert.KernelIdeal.Graph

open Gen Cert.Body
open Idealize.ShloMosaic Idealize.ShloMosaic.TcCoe

variable {F : FTy → Type} [FloatOps F]

/-- The body's steps. -/
def steps : Steps F 160 128 256 512 where
  scale := k0_pay4
  shift := k0_pay5
  feat := k0_pay13
  sco A D pw := k0_pay14 A D (k0_pay6 pw) (k0_pay7 pw)
  rnk A D pw := k0_pay15 A D (k0_pay6 pw) (k0_pay7 pw) (iota .tc S160x160 32 [0] iota_S160x160_d0_w32) (iota .tc S160x160 32 [1] iota_S160x160_d1_w32)
  nid := k0_pay16 k0_pay9
  take := k0_pay17 k0_pay9
  xnew := k0_pay18 k0_pay9
  snid r nb := k0_pay20 (iota .tc S160x160 32 [1] iota_S160x160_d1_w32) r (k0_pay19 (F := F) nb) nb nb nb
  msk t s mk := k0_pay25 t s (k0_pay21 mk) (k0_pay22 mk) (k0_pay23 mk) mk
  src t s mk := k0_pay26 t s (k0_pay21 mk) (k0_pay22 mk) (k0_pay23 mk) mk
  takeSrc t s mk := k0_pay31 (iota .tc S128x128 32 [1] iota_S128x128_d1_w32) t s (k0_pay21 mk) (k0_pay22 mk) (k0_pay23 mk) mk
  edg W b x := k0_pay32 W (k0_pay8 b) x (k0_pay27 x) (k0_pay29 x) (k0_pay30 x)
  med W b x k := k0_pay34 W (k0_pay8 b) x k (k0_pay27 x) (k0_pay29 x) (k0_pay30 x)
  outSum W b x k := k0_pay39 W (k0_pay8 b) x k (k0_pay27 x) (k0_pay29 x) (k0_pay30 x)
  outCnt k := k0_pay40 (k0_pay35 k)
  outSrc := k0_pay41
  outMsk := k0_pay42
  sum0 := k0_pay10
  sq0 := k0_pay11
  num0 := k0_pay12 (Scalar.ofBits .f32 0x00000000#32)
  sumOn W b x k t acc := k0_pay36 W (k0_pay8 b) acc x k (k0_pay27 x) (k0_pay29 x) (k0_pay30 x) t
  sqOn W b x k t acc := k0_pay37 W (k0_pay8 b) acc x k (k0_pay27 x) (k0_pay29 x) (k0_pay30 x) t
  numOn k acc := k0_pay38 acc k
  stats0 := k0_pay149
  statsOn s2 q2 n2 := k0_pay1 s2 q2 (k0_pay150 n2) (Scalar.ofBits .f32 0x00000000#32)

end Cert.KernelIdeal.Graph
-- ==== Proof.Blocks.lean ====
/- All fifty graphs of a pooling body, in ten blocks of five: the body's arguments, and the arrays that it leaves, from the
   functions of one graph and of one block. Also what the loads and stores of a block come to. -/
module

public import proofs.«01_k».proof.Proof.Body
public import Idealize.ShloMosaic.Lib.Pipeline.ValueKit

@[expose] public section

noncomputable section

namespace Cert.Body

open Idealize.ShloMosaic

variable {F : FTy → Type} [FloatOps F]

/-! ## Loads and indices of a block -/

/-- A load of one row of the batch norm sums. -/
theorem ld_strow {d : ℕ} (st : Vec F ⟨2, ![8, d]⟩ .f32) (r : ℕ) (inb : ∀ a, (![r, 0] : Fin 2 → ℕ) a + (![1, d] : Fin 2 → ℕ) a ≤ (⟨2, ![8, d]⟩ : Shape).size a) :
    View.ld (Val := Elt F) (e' := .f32) st (Rect.unit (s := ⟨2, ![8, d]⟩) ![r, 0] ![1, d] inb) = strow (F := F) st ⟨r, inb 0⟩ := by
  funext y
  show st _ = st _
  congr 1
  funext a
  apply Fin.ext
  have h0 : (y 0).val < 1 := (y 0).isLt
  match a with
  | ⟨0, _⟩ => show r + 1 * (y 0).val = r; omega
  | ⟨1, _⟩ => show 0 + 1 * (y 1).val = (y 1).val; omega

/-- A load of one graph of a block. -/
theorem ld_gr {n q : ℕ} {e : EltTy} (x : Vec F ⟨3, ![5, n, q]⟩ e) (r : ℕ)
    (inb : ∀ a, (![r, 0, 0] : Fin 3 → ℕ) a + (![1, n, q] : Fin 3 → ℕ) a ≤ (⟨3, ![5, n, q]⟩ : Shape).size a) :
    View.ld (Val := Elt F) (e' := e) x (Rect.unit (s := ⟨3, ![5, n, q]⟩) ![r, 0, 0] ![1, n, q] inb) = gr x ⟨r, inb 0⟩ := by
  funext y
  show x _ = x _
  congr 1
  funext a
  apply Fin.ext
  have h0 : (y 0).val < 1 := (y 0).isLt
  match a with
  | ⟨0, _⟩ => show r + 1 * (y 0).val = r; omega
  | ⟨1, _⟩ => show 0 + 1 * (y 1).val = (y 1).val; omega
  | ⟨2, _⟩ => show 0 + 1 * (y 2).val = (y 2).val; omega

/-- The index within a graph that a block index lies at. -/
theorem ix3_of {n q : ℕ} (x : (⟨3, ![1, n, q]⟩ : Shape).Idx) (y : (⟨3, ![5, n, q]⟩ : Shape).Idx) (h1 : (y 1).val = (x 1).val) (h2 : (y 2).val = (x 2).val) :
    x = ix3 0 (y 1) (y 2) := by
  have h0 : (x 0).val < 1 := (x 0).isLt
  funext a
  apply Fin.ext
  match a with
  | ⟨0, _⟩ => show (x 0).val = 0; omega
  | ⟨1, _⟩ => exact h1.symm
  | ⟨2, _⟩ => exact h2.symm

/-- A block index lies in one of the five graphs. -/
theorem graph_eq {y : Fin 5} {x g : ℕ} (h : y.val = g + x) (hx : x < 1) (hg : g < 5) : y = ⟨g, hg⟩ :=
  Fin.ext (show y.val = g by omega)

/-- A matrix of one row is its row. -/
theorem eq_rowOf {n : ℕ} (X : Vec F ⟨2, ![1, n]⟩ .f32) (x : Vec F ⟨1, ![n]⟩ .f32) (h : ∀ j, X (ix2 0 j) = x (ix1 j)) : X = rowOf (F := F) x := by
  funext y
  have hy : y = ix2 0 (y 1) := by
    funext a
    match a with
    | ⟨0, _⟩ => exact Subsingleton.elim (α := Fin 1) _ _
    | ⟨1, _⟩ => rfl
  rw [hy]
  exact h (y 1)

/-! ## The arguments, and the arrays from them -/

/-- A body's ten arguments: the edges' sums, numbers, sources and masks, the sums for the batch norm and its two parameters,
    the scores' direction, and the edge convolution's weights and offset. -/
structure Args (F : FTy → Type) (n d o : ℕ) where
  ns : Stack F 50 n d
  cnt : Stack F 50 n 8
  nb : Nums 50 n 8
  mask : Stack F 50 n 8
  st : Mat F 8 d
  g : FVec F ⟨1, ![d]⟩ .f32
  be : FVec F ⟨1, ![d]⟩ .f32
  dir : FVec F ⟨1, ![d]⟩ .f32
  W : Mat F (2 * d) o
  b : FVec F ⟨1, ![o]⟩ .f32

/-- Graph `g` of block `t`, and the block of an array. -/
def gAt (t : Fin 10) (g : Fin 5) : Fin 50 := ⟨5 * t.val + g.val, by omega⟩
def blk {a b : ℕ} {α : Type} (x : (⟨3, ![50, a, b]⟩ : Shape).Idx → α) (t : Fin 10) : (⟨3, ![5, a, b]⟩ : Shape).Idx → α :=
  fun y => x (ix3 (gAt t (y 0)) (y 1) (y 2))

theorem gr_blk {a b : ℕ} {α : Type} (x : (⟨3, ![50, a, b]⟩ : Shape).Idx → α) (t : Fin 10) (g : Fin 5) : gr (blk x t) g = grf x (gAt t g) := rfl

/-- An array of fifty graphs from its graphs' entries. -/
def arrOf {a b : ℕ} {α : Type} (G : Fin 50 → (⟨3, ![1, a, b]⟩ : Shape).Idx → α) : (⟨3, ![50, a, b]⟩ : Shape).Idx → α :=
  fun i => G (i 0) (ix3 0 (i 1) (i 2))

variable {n q d o : ℕ} (B : Steps F n q d o) (x : Args F n d o) (pw : Mat F d 128)

/-- The batch norm's factor and offset. -/
def sc : Mat F 1 d := scale B x.st (rowOf x.g)
def sh : Mat F 1 d := shift B x.st (rowOf x.g) (rowOf x.be)

/-- The four arrays' entries of a graph. -/
def sumG (b : Fin 50) : Stack F 1 q o := outSum B (sc B x) (sh B x) pw x.W (rowOf x.b) (grf x.cnt b) (grf x.ns b) (grf x.nb b) (grf x.mask b)
def cntG (b : Fin 50) : Stack F 1 q 8 := outCnt B (sc B x) (sh B x) pw (grf x.cnt b) (grf x.ns b) (grf x.nb b) (grf x.mask b)
def srcG (b : Fin 50) : Nums 1 q 8 := outSrc B (sc B x) (sh B x) pw (grf x.cnt b) (grf x.ns b) (grf x.nb b) (grf x.mask b)
def mskG (b : Fin 50) : Stack F 1 q 8 := outMsk B (sc B x) (sh B x) pw (grf x.cnt b) (grf x.ns b) (grf x.nb b) (grf x.mask b)

/-- The array of sums, with block `t`'s. -/
def statsAt (t : Fin 10) (prev : Mat F 8 o) : Mat F 8 o :=
  statsOn B (sc B x) (sh B x) pw x.W (rowOf x.b) (blk x.cnt t) (blk x.ns t) (blk x.nb t) (blk x.mask t) prev

/-- The array of sums after block `k`. -/
def statsTo : (k : ℕ) → k < 10 → Mat F 8 o
  | 0, h => statsAt B x pw ⟨0, h⟩ B.stats0
  | k + 1, h => statsAt B x pw ⟨k + 1, h⟩ (statsTo k (Nat.lt_of_succ_lt h))

end Cert.Body
-- ==== Proof.Pieces.lean ====
/- What a grid point of the second pooling leaves in each output block, as the functions of one graph (`Body.outSum` …): graph `g` of the block is
   that function of graph `g` of the input blocks. -/
module

public import proofs.«01_k».proof.Proof.Gen.KernelIdeal.Value
public import proofs.«01_k».proof.Proof.Graph
public import proofs.«01_k».proof.Proof.Blocks
public import Idealize.ShloMosaic.Lib.Pipeline.ValueKit

@[expose] public section

set_option maxRecDepth 16384

noncomputable section

namespace Cert.KernelIdeal.Pieces

open Value Gen Graph Cert.Body
open Idealize.ShloMosaic Idealize.ShloMosaic.TcCoe

variable {F : FTy → Type} [FloatOps F]

variable (c : Dev nD) (i : grid0.Coords)
variable (arg1 : Memref sig .tc .vmem S5x160x256 .f32) (harg1 : arg1.IsWhole)
variable (arg2 : Memref sig .tc .vmem S5x160x8 .f32) (harg2 : arg2.IsWhole)
variable (arg3 : Memref sig .tc .vmem S5x160x8 .i32) (harg3 : arg3.IsWhole)
variable (arg4 : Memref sig .tc .vmem S5x160x8 .f32) (harg4 : arg4.IsWhole)
variable (arg5 : Memref sig .tc .vmem S8x256 .f32) (harg5 : arg5.IsWhole)
variable (arg6 : Memref sig .tc .vmem S1x256 .f32) (harg6 : arg6.IsWhole)
variable (arg7 : Memref sig .tc .vmem S1x256 .f32) (harg7 : arg7.IsWhole)
variable (arg8 : Memref sig .tc .vmem S256x128 .f32) (harg8 : arg8.IsWhole)
variable (arg9 : Memref sig .tc .vmem S512x512 .f32) (harg9 : arg9.IsWhole)
variable (arg10 : Memref sig .tc .vmem S1x512 .f32) (harg10 : arg10.IsWhole)
variable (arg11 : Memref sig .tc .vmem S5x128x512 .f32) (harg11 : arg11.IsWhole)
variable (arg12 : Memref sig .tc .vmem S5x128x8 .f32) (harg12 : arg12.IsWhole)
variable (arg13 : Memref sig .tc .vmem S5x128x8 .i32) (harg13 : arg13.IsWhole)
variable (arg14 : Memref sig .tc .vmem S5x128x8 .f32) (harg14 : arg14.IsWhole)
variable (arg15 : Memref sig .tc .vmem S8x512 .f32) (harg15 : arg15.IsWhole)
variable (x0 : Vec F S5x160x256 .f32) (x1 : Vec F S5x160x8 .f32) (x2 : Vec F S5x160x8 .i32) (x3 : Vec F S5x160x8 .f32) (x4 : Vec F S8x256 .f32) (x5 : Vec F S1x256 .f32) (x6 : Vec F S1x256 .f32) (x7 : Vec F S256x128 .f32) (x8 : Vec F S512x512 .f32) (x9 : Vec F S1x512 .f32)

/-- The block of sums, case A. -/
theorem out_A_10 (hc0 : cond0_0 i) (y : S5x128x512.Idx) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y
      = outSum steps (scale steps x4 x5) (shift steps x4 x5 x6) x7 x8 x9 (gr x1 (y 0)) (gr x0 (y 0)) (gr x2 (y 0)) (gr x3 (y 0)) (ix3 0 (y 1) (y 2)) := by
  frame_out
  canon_tiles x h
  all_goals
    rw [ix3_of x y h1 h2]
    simp only [ld_strow, ld_gr]
    first
    | rw [graph_eq (y := y 0) (g := 0) (h0.trans (Nat.zero_add _).symm) x0_lt (by decide)]; rfl
    | rw [graph_eq (y := y 0) h0 x0_lt (by decide)]; rfl

/-- The block of numbers of edges, case A. -/
theorem out_A_11 (hc0 : cond0_0 i) (y : S5x128x8.Idx) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y
      = outCnt steps (scale steps x4 x5) (shift steps x4 x5 x6) x7 (gr x1 (y 0)) (gr x0 (y 0)) (gr x2 (y 0)) (gr x3 (y 0)) (ix3 0 (y 1) (y 2)) := by
  frame_out
  canon_tiles x h
  all_goals
    rw [ix3_of x y h1 h2]
    simp only [ld_strow, ld_gr]
    first
    | rw [graph_eq (y := y 0) (g := 0) (h0.trans (Nat.zero_add _).symm) x0_lt (by decide)]; rfl
    | rw [graph_eq (y := y 0) h0 x0_lt (by decide)]; rfl

/-- The block of sources, case A. -/
theorem out_A_12 (hc0 : cond0_0 i) (y : S5x128x8.Idx) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y
      = outSrc steps (scale steps x4 x5) (shift steps x4 x5 x6) x7 (gr x1 (y 0)) (gr x0 (y 0)) (gr x2 (y 0)) (gr x3 (y 0)) (ix3 0 (y 1) (y 2)) := by
  frame_out
  canon_tiles x h
  all_goals
    rw [ix3_of x y h1 h2]
    simp only [ld_strow, ld_gr]
    first
    | rw [graph_eq (y := y 0) (g := 0) (h0.trans (Nat.zero_add _).symm) x0_lt (by decide)]; rfl
    | rw [graph_eq (y := y 0) h0 x0_lt (by decide)]; rfl

/-- The block of masks, case A. -/
theorem out_A_13 (hc0 : cond0_0 i) (y : S5x128x8.Idx) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y
      = outMsk steps (scale steps x4 x5) (shift steps x4 x5 x6) x7 (gr x1 (y 0)) (gr x0 (y 0)) (gr x2 (y 0)) (gr x3 (y 0)) (ix3 0 (y 1) (y 2)) := by
  frame_out
  canon_tiles x h
  all_goals
    rw [ix3_of x y h1 h2]
    simp only [ld_strow, ld_gr]
    first
    | rw [graph_eq (y := y 0) (g := 0) (h0.trans (Nat.zero_add _).symm) x0_lt (by decide)]; rfl
    | rw [graph_eq (y := y 0) h0 x0_lt (by decide)]; rfl

/-- The block of sums, case B. -/
theorem out_B_10 (hc0 : ¬cond0_0 i) (xo14 : Vec F S8x512 .f32) (y : S5x128x512.Idx) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo14 y
      = outSum steps (scale steps x4 x5) (shift steps x4 x5 x6) x7 x8 x9 (gr x1 (y 0)) (gr x0 (y 0)) (gr x2 (y 0)) (gr x3 (y 0)) (ix3 0 (y 1) (y 2)) := by
  frame_out
  canon_tiles x h
  all_goals
    rw [ix3_of x y h1 h2]
    simp only [ld_strow, ld_gr]
    first
    | rw [graph_eq (y := y 0) (g := 0) (h0.trans (Nat.zero_add _).symm) x0_lt (by decide)]; rfl
    | rw [graph_eq (y := y 0) h0 x0_lt (by decide)]; rfl

/-- The block of numbers of edges, case B. -/
theorem out_B_11 (hc0 : ¬cond0_0 i) (xo14 : Vec F S8x512 .f32) (y : S5x128x8.Idx) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo14 y
      = outCnt steps (scale steps x4 x5) (shift steps x4 x5 x6) x7 (gr x1 (y 0)) (gr x0 (y 0)) (gr x2 (y 0)) (gr x3 (y 0)) (ix3 0 (y 1) (y 2)) := by
  frame_out
  canon_tiles x h
  all_goals
    rw [ix3_of x y h1 h2]
    simp only [ld_strow, ld_gr]
    first
    | rw [graph_eq (y := y 0) (g := 0) (h0.trans (Nat.zero_add _).symm) x0_lt (by decide)]; rfl
    | rw [graph_eq (y := y 0) h0 x0_lt (by decide)]; rfl

/-- The block of sources, case B. -/
theorem out_B_12 (hc0 : ¬cond0_0 i) (xo14 : Vec F S8x512 .f32) (y : S5x128x8.Idx) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo14 y
      = outSrc steps (scale steps x4 x5) (shift steps x4 x5 x6) x7 (gr x1 (y 0)) (gr x0 (y 0)) (gr x2 (y 0)) (gr x3 (y 0)) (ix3 0 (y 1) (y 2)) := by
  frame_out
  canon_tiles x h
  all_goals
    rw [ix3_of x y h1 h2]
    simp only [ld_strow, ld_gr]
    first
    | rw [graph_eq (y := y 0) (g := 0) (h0.trans (Nat.zero_add _).symm) x0_lt (by decide)]; rfl
    | rw [graph_eq (y := y 0) h0 x0_lt (by decide)]; rfl

/-- The block of masks, case B. -/
theorem out_B_13 (hc0 : ¬cond0_0 i) (xo14 : Vec F S8x512 .f32) (y : S5x128x8.Idx) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo14 y
      = outMsk steps (scale steps x4 x5) (shift steps x4 x5 x6) x7 (gr x1 (y 0)) (gr x0 (y 0)) (gr x2 (y 0)) (gr x3 (y 0)) (ix3 0 (y 1) (y 2)) := by
  frame_out
  canon_tiles x h
  all_goals
    rw [ix3_of x y h1 h2]
    simp only [ld_strow, ld_gr]
    first
    | rw [graph_eq (y := y 0) (g := 0) (h0.trans (Nat.zero_add _).symm) x0_lt (by decide)]; rfl
    | rw [graph_eq (y := y 0) h0 x0_lt (by decide)]; rfl

/-- The sums for the next batch norm, case A. -/
theorem out_A_14 (hc0 : cond0_0 i) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
      = statsOn steps (scale steps x4 x5) (shift steps x4 x5 x6) x7 x8 x9 x1 x0 x2 x3 steps.stats0 := by
  frame_out
  simp only [ld_strow, ld_gr]
  rfl

/-- The sums for the next batch norm, case B. -/
theorem out_B_14 (hc0 : ¬cond0_0 i) (xo14 : Vec F S8x512 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo14
      = statsOn steps (scale steps x4 x5) (shift steps x4 x5 x6) x7 x8 x9 x1 x0 x2 x3 xo14 := by
  frame_out
  simp only [ld_strow, ld_gr]
  rfl

end Cert.KernelIdeal.Pieces
-- ==== Proof.Grid.lean ====
/- The second pooling: the kernel's arrays after its run are the arrays of `Proof/Blocks.lean`, from the kernel's arguments. -/
module

public import proofs.«01_k».proof.Proof.Pieces
public import Idealize.ShloMosaic.Lib.Claim
public import Idealize.ShloMosaic.Lib.StableHlo.ReadAt

@[expose] public section

set_option maxRecDepth 16384

noncomputable section

namespace Cert.KernelIdeal.Grid

open Cert.KernelIdeal Gen Graph Pieces Cert.Body
open Idealize.ShloMosaic Idealize.ShloMosaic.TcCoe
open Idealize.ShloMosaic.Pipeline (Dat)

variable {F : FTy → Type} [FloatOps F]
variable (m : (ℓ : Loc nD τ sig) → Buf (Elt F) ℓ) (c : Dev nD)

/-- The kernel's arguments, and the scores' direction as it passes it on. -/
def args : Args F 160 256 512 where
  ns := m ((c : Thread nD τ).loc main_arg0)
  cnt := m ((c : Thread nD τ).loc main_arg1)
  nb := m ((c : Thread nD τ).loc main_arg2)
  mask := m ((c : Thread nD τ).loc main_arg3)
  st := m ((c : Thread nD τ).loc main_arg4)
  g := m ((c : Thread nD τ).loc main_arg5)
  be := m ((c : Thread nD τ).loc main_arg6)
  dir := m ((c : Thread nD τ).loc main_arg7)
  W := m ((c : Thread nD τ).loc main_arg8)
  b := m ((c : Thread nD τ).loc main_arg9)
def pad : Mat F 256 128 := V m c main_v3

/-- Where the windows' blocks stand. -/
theorem idxs : ∀ t : Fin cfg0.N, (win0_0.index t = ![t.val, 0, 0] ∧ win0_1.index t = ![t.val, 0, 0] ∧ win0_2.index t = ![t.val, 0, 0]
    ∧ win0_3.index t = ![t.val, 0, 0]) ∧ (win0_4.index t = ![0, 0] ∧ win0_5.index t = ![0, 0] ∧ win0_6.index t = ![0, 0]
    ∧ win0_7.index t = ![0, 0] ∧ win0_8.index t = ![0, 0] ∧ win0_9.index t = ![0, 0]) ∧ (win0_10.index t = ![t.val, 0, 0]
    ∧ win0_11.index t = ![t.val, 0, 0] ∧ win0_12.index t = ![t.val, 0, 0] ∧ win0_13.index t = ![t.val, 0, 0] ∧ win0_14.index t = ![0, 0]) := by
  decide +kernel

section blocks
variable (t : Fin cfg0.N)

theorem blk0 : (iblk m c 0 t : Vec F S5x160x256 .f32) = blk (args m c).ns t := by
  funext y
  unfold blk gAt args
  blk_ext [iblk, V, (idxs t).1.1]

theorem blk1 : (iblk m c 1 t : Vec F S5x160x8 .f32) = blk (args m c).cnt t := by
  funext y
  unfold blk gAt args
  blk_ext [iblk, V, (idxs t).1.2.1]

theorem blk2 : (iblk m c 2 t : Vec F S5x160x8 .i32) = blk (args m c).nb t := by
  funext y
  unfold blk gAt args
  blk_ext [iblk, V, (idxs t).1.2.2.1]

theorem blk3 : (iblk m c 3 t : Vec F S5x160x8 .f32) = blk (args m c).mask t := by
  funext y
  unfold blk gAt args
  blk_ext [iblk, V, (idxs t).1.2.2.2]

theorem blk4 : (iblk m c 4 t : Vec F S8x256 .f32) = (args m c).st := by
  funext y
  unfold args
  blk_ext [iblk, V, (idxs t).2.1.1]

theorem blk8 : (iblk m c 8 t : Vec F S512x512 .f32) = (args m c).W := by
  funext y
  unfold args
  blk_ext [iblk, V, (idxs t).2.1.2.2.2.2.1]

theorem entry_v0 (j : Fin 256) : V m c main_v0 (ix2 0 j) = m ((c : Thread nD τ).loc main_arg5) (ix1 j) := by
  unfold V
  dsimp only [hostOps0, hostOps0_1, hostOps0_2, List.flatten, List.append]
  after_reads_at

theorem entry_v1 (j : Fin 256) : V m c main_v1 (ix2 0 j) = m ((c : Thread nD τ).loc main_arg6) (ix1 j) := by
  unfold V
  dsimp only [hostOps0, hostOps0_1, hostOps0_2, List.flatten, List.append]
  after_reads_at

theorem entry_v4 (j : Fin 512) : V m c main_v4 (ix2 0 j) = m ((c : Thread nD τ).loc main_arg9) (ix1 j) := by
  unfold V
  dsimp only [hostOps0, hostOps0_1, hostOps0_2, List.flatten, List.append]
  after_reads_at

/-- The first column passed on is the scores' direction. -/
theorem pad_apply (f : Fin 256) : pad m c (ix2 f 0) = (args m c).dir (ix1 f) := by
  unfold pad args V
  dsimp only [hostOps0, hostOps0_1, hostOps0_2, List.flatten, List.append]
  after_reads_at

theorem blk5 : (iblk m c 5 t : Vec F S1x256 .f32) = rowOf (F := F) (args m c).g := by
  have e : (iblk m c 5 t : Vec F S1x256 .f32) = V m c main_v0 := by
    funext y
    blk_ext [iblk, (idxs t).2.1.2.1]
  rw [e]
  exact eq_rowOf _ _ (entry_v0 m c)

theorem blk6 : (iblk m c 6 t : Vec F S1x256 .f32) = rowOf (F := F) (args m c).be := by
  have e : (iblk m c 6 t : Vec F S1x256 .f32) = V m c main_v1 := by
    funext y
    blk_ext [iblk, (idxs t).2.1.2.2.1]
  rw [e]
  exact eq_rowOf _ _ (entry_v1 m c)

theorem blk7 : (iblk m c 7 t : Vec F S256x128 .f32) = pad m c := by
  funext y
  unfold pad
  blk_ext [iblk, (idxs t).2.1.2.2.2.1]

theorem blk9 : (iblk m c 9 t : Vec F S1x512 .f32) = rowOf (F := F) (args m c).b := by
  have e : (iblk m c 9 t : Vec F S1x512 .f32) = V m c main_v4 := by
    funext y
    blk_ext [iblk, (idxs t).2.1.2.2.2.2.2]
  rw [e]
  exact eq_rowOf _ _ (entry_v4 m c)

end blocks

section points
variable (t : Fin cfg0.N)

theorem point10 (y : S5x128x512.Idx) : (outsAt0 m c t.val t.isLt).1 y = sumG steps (args m c) (pad m c) (gAt t (y 0)) (ix3 0 (y 1) (y 2)) := by
  by_cases h0 : t.val % 10 = 0
  · rw [outsAt0_A m c t h0]; dsimp only; rw [out_A_10, blk0, blk1, blk2, blk3, blk4, blk5, blk6, blk7, blk8, blk9]; rfl
  · rw [outsAt0_B m c t h0]; dsimp only; rw [out_B_10, blk0, blk1, blk2, blk3, blk4, blk5, blk6, blk7, blk8, blk9]; rfl

theorem point11 (y : S5x128x8.Idx) : (outsAt0 m c t.val t.isLt).2.1 y = cntG steps (args m c) (pad m c) (gAt t (y 0)) (ix3 0 (y 1) (y 2)) := by
  by_cases h0 : t.val % 10 = 0
  · rw [outsAt0_A m c t h0]; dsimp only; rw [out_A_11, blk0, blk1, blk2, blk3, blk4, blk5, blk6, blk7]; rfl
  · rw [outsAt0_B m c t h0]; dsimp only; rw [out_B_11, blk0, blk1, blk2, blk3, blk4, blk5, blk6, blk7]; rfl

theorem point12 (y : S5x128x8.Idx) : (outsAt0 m c t.val t.isLt).2.2.1 y = srcG steps (args m c) (pad m c) (gAt t (y 0)) (ix3 0 (y 1) (y 2)) := by
  by_cases h0 : t.val % 10 = 0
  · rw [outsAt0_A m c t h0]; dsimp only; rw [out_A_12, blk0, blk1, blk2, blk3, blk4, blk5, blk6, blk7]; rfl
  · rw [outsAt0_B m c t h0]; dsimp only; rw [out_B_12, blk0, blk1, blk2, blk3, blk4, blk5, blk6, blk7]; rfl

theorem point13 (y : S5x128x8.Idx) : (outsAt0 m c t.val t.isLt).2.2.2.1 y = mskG steps (args m c) (pad m c) (gAt t (y 0)) (ix3 0 (y 1) (y 2)) := by
  by_cases h0 : t.val % 10 = 0
  · rw [outsAt0_A m c t h0]; dsimp only; rw [out_A_13, blk0, blk1, blk2, blk3, blk4, blk5, blk6, blk7]; rfl
  · rw [outsAt0_B m c t h0]; dsimp only; rw [out_B_13, blk0, blk1, blk2, blk3, blk4, blk5, blk6, blk7]; rfl

theorem point14_A (h0 : t.val % 10 = 0) : (outsAt0 m c t.val t.isLt).2.2.2.2 = statsAt steps (args m c) (pad m c) t steps.stats0 := by
  rw [outsAt0_A m c t h0]
  dsimp only
  rw [out_A_14, blk0, blk1, blk2, blk3, blk4, blk5, blk6, blk7, blk8, blk9]
  rfl

theorem point14_B (h0 : ¬t.val % 10 = 0) : (outsAt0 m c t.val t.isLt).2.2.2.2
    = statsAt steps (args m c) (pad m c) t (outsAt0 m c (t.val - 1) (Nat.lt_of_le_of_lt (Nat.sub_le _ _) t.isLt)).2.2.2.2 := by
  rw [outsAt0_B m c t h0]
  dsimp only
  rw [out_B_14, blk0, blk1, blk2, blk3, blk4, blk5, blk6, blk7, blk8, blk9]
  rfl

/-- The array of sums after each point. -/
theorem stats_to : ∀ (k : ℕ) (h : k < 10), (outsAt0 m c k h).2.2.2.2 = statsTo steps (args m c) (pad m c) k h
  | 0, h => point14_A m c ⟨0, h⟩ rfl
  | k + 1, h => by
    refine (point14_B m c ⟨k + 1, h⟩ (by show ¬(k + 1) % 10 = 0; omega)).trans ?_
    exact congrArg (statsAt steps (args m c) (pad m c) ⟨k + 1, h⟩) (stats_to k (Nat.lt_of_succ_lt h))

end points

/-! ## The arrays -/

theorem arr10 : (dats m 0 c).arrAt 10 cfg0.N = arrOf (sumG steps (args m c) (pad m c)) := by
  refine (dats m 0 c).arrAt_eq_of_covers 10 _ (by decide +kernel) fun t hf y => ?_
  blk_simp
  rw [after0_10, point10]
  have e : (win0_10.blk t).view.emb y = ix3 (gAt t (y 0)) (y 1) (y 2) := by
    unfold gAt
    blk_ext [(idxs t).2.2.1]
  rw [e]
  rfl

theorem arr11 : (dats m 0 c).arrAt 11 cfg0.N = arrOf (cntG steps (args m c) (pad m c)) := by
  refine (dats m 0 c).arrAt_eq_of_covers 11 _ (by decide +kernel) fun t hf y => ?_
  blk_simp
  rw [after0_11, point11]
  have e : (win0_11.blk t).view.emb y = ix3 (gAt t (y 0)) (y 1) (y 2) := by
    unfold gAt
    blk_ext [(idxs t).2.2.2.1]
  rw [e]
  rfl

theorem arr12 : (dats m 0 c).arrAt 12 cfg0.N = arrOf (srcG steps (args m c) (pad m c)) := by
  refine (dats m 0 c).arrAt_eq_of_covers 12 _ (by decide +kernel) fun t hf y => ?_
  blk_simp
  rw [after0_12, point12]
  have e : (win0_12.blk t).view.emb y = ix3 (gAt t (y 0)) (y 1) (y 2) := by
    unfold gAt
    blk_ext [(idxs t).2.2.2.2.1]
  rw [e]
  rfl

theorem arr13 : (dats m 0 c).arrAt 13 cfg0.N = arrOf (mskG steps (args m c) (pad m c)) := by
  refine (dats m 0 c).arrAt_eq_of_covers 13 _ (by decide +kernel) fun t hf y => ?_
  blk_simp
  rw [after0_13, point13]
  have e : (win0_13.blk t).view.emb y = ix3 (gAt t (y 0)) (y 1) (y 2) := by
    unfold gAt
    blk_ext [(idxs t).2.2.2.2.2.1]
  rw [e]
  rfl

/-- The sums are what the last point leaves. -/
theorem arr14 : (dats m 0 c).arrAt 14 cfg0.N = statsTo steps (args m c) (pad m c) 9 (by norm_num) := by
  rw [← stats_to m c 9 (by decide)]
  refine (dats m 0 c).arrAt_eq_of_after_last 14 t0_9 (by decide +kernel) _ fun y => ?_
  blk_simp
  rw [after0_14]
  rfl

end Cert.KernelIdeal.Grid
-- ==== Proof.Select.lean ====
/- Keeping the `k` best-scored of `n` nodes: the nodes ordered by score, equal scores by position. The number of nodes
   before a node is its RANK; a node is KEPT when its rank is below `k`. There are exactly `k` kept nodes, and `sel` lists
   them in increasing position. A stable sort by score puts the kept nodes first; the sorted list of their positions is
   `sel`. The number of kept nodes before a kept node is its place in `sel`. -/
module

public import Idealize.ShloMosaic.Lib.SortPrefix
public import Mathlib.Data.Finset.Sort
public import Mathlib.Data.EReal.Basic

@[expose] public section

noncomputable section

namespace Cert.Pool

open Idealize.ShloMosaic

variable {n : ℕ}

/-- How many positions `B` puts before `i`. -/
def rankOf (B : Fin n → Fin n → Bool) (i : Fin n) : ℕ := (Finset.univ.filter fun j => B j i = true).card

/-- The `r`-th position of a sort under a strict total order has `r` positions before it. -/
theorem rankOf_sortedFrom {B : Fin n → Fin n → Bool} (hB : StrictTotalBefore B) (r : Fin n) :
    rankOf B (sortedFrom B r) = r.val := by
  have hlt : ∀ s t : Fin n, s < t → B (sortedFrom B s) (sortedFrom B t) = true := by
    intro s t hst
    have h1 := sortedFrom_noInversion B B (fun a b h => hB.asymm a b h) (fun _ _ h => h) hB.negTrans s t hst
    rcases hB.total _ _ (fun e => hst.ne (sortedFrom_injective B e)) with h | h
    · exact h
    · rw [h1] at h; exact absurd h (by decide)
  have hset : (Finset.univ.filter fun j => B j (sortedFrom B r) = true)
      = (Finset.univ.filter fun s : Fin n => s < r).image (sortedFrom B) := by
    ext j
    simp only [Finset.mem_filter, Finset.mem_univ, true_and, Finset.mem_image]
    constructor
    · intro hj
      obtain ⟨s, rfl⟩ := sortedFrom_surjective B j
      refine ⟨s, ?_, rfl⟩
      rcases lt_trichotomy s r with h | h | h
      · exact h
      · subst h; rw [hB.irrefl] at hj; exact absurd hj (by decide)
      · rw [hB.asymm _ _ (hlt r s h)] at hj; exact absurd hj (by decide)
    · rintro ⟨s, hs, rfl⟩; exact hlt s r hs
  unfold rankOf
  rw [hset, Finset.card_image_of_injective _ (sortedFrom_injective B)]
  have : (Finset.univ.filter fun s : Fin n => s < r) = Finset.Iio r := by ext; simp
  rw [this, Fin.card_Iio]

/-- A stable sort of an increasing list looks only at whether a later entry goes before an earlier one. -/
theorem stableSort_later (R B : Fin n → Fin n → Bool) (h : ∀ a b, a < b → R b a = B b a) (l : List (Fin n))
    (hl : l.Pairwise (· < ·)) : stableSort R l = stableSort B l := by
  induction l with
  | nil => rfl
  | cons a l ih =>
    obtain ⟨ha, hl⟩ := List.pairwise_cons.1 hl
    show insertBefore R a (stableSort R l) = insertBefore B a (stableSort B l)
    rw [ih hl]
    exact insertBefore_congr R B a _ fun b hb => h a b (ha b ((perm_stableSort B l).mem_iff.1 hb))

/-- The same for the positions of a fiber. -/
theorem sortedFrom_later (R B : Fin n → Fin n → Bool) (h : ∀ a b, a < b → R b a = B b a) : sortedFrom R = sortedFrom B := by
  funext k
  unfold sortedFrom
  have e : sortPositions n R = sortPositions n B := stableSort_later R B h _ (List.pairwise_lt_finRange n)
  rw [List.get_of_eq e]
  rfl

/-- Node `j` goes before node `i`: a higher score, or the same score at an earlier position. -/
def before (sc : Fin n → EReal) (j i : Fin n) : Bool :=
  decide (sc i < sc j) || (decide (sc j = sc i) && decide (j < i))

/-- `before` is a strict total order. -/
theorem before_total (sc : Fin n → EReal) : StrictTotalBefore (before sc) := by
  classical
  exact StrictTotalBefore.of_key_then_position (fun a b : EReal => decide (b < a)) sc (fun a => by simp)
    (fun a b c hab hbc => by simp only [decide_eq_true_eq] at *; exact hbc.trans hab)
    (fun a b => by
      rcases lt_trichotomy a b with h | h | h
      · exact Or.inr (Or.inr (decide_eq_true h))
      · exact Or.inr (Or.inl h)
      · exact Or.inl (decide_eq_true h))

/-- A stable sort by descending score is the sort under `before`. -/
theorem sortedFrom_score (sc : Fin n → EReal) :
    sortedFrom (fun a b => decide (sc b < sc a)) = sortedFrom (before sc) :=
  sortedFrom_later _ _ fun a b hab => by
    have : ¬ b < a := not_lt.2 hab.le
    simp [before, this]

/-- The nodes whose rank is below `k`. -/
def kept (k : ℕ) (sc : Fin n → EReal) : Finset (Fin n) := Finset.univ.filter fun i => rankOf (before sc) i < k

theorem mem_kept (k : ℕ) (sc : Fin n → EReal) (i : Fin n) : i ∈ kept k sc ↔ rankOf (before sc) i < k := by simp [kept]

variable {k : ℕ} (hk : k ≤ n) (sc : Fin n → EReal)

/-- The first `k` positions of the sort are the kept ones. -/
theorem kept_eq_image : kept k sc = Finset.univ.image fun r : Fin k => sortedFrom (before sc) (r.castLE hk) := by
  ext i
  rw [mem_kept, Finset.mem_image]
  constructor
  · intro h
    obtain ⟨r, rfl⟩ := sortedFrom_surjective (before sc) i
    rw [rankOf_sortedFrom (before_total sc)] at h
    exact ⟨⟨r.val, h⟩, Finset.mem_univ _, rfl⟩
  · rintro ⟨r, -, rfl⟩
    rw [rankOf_sortedFrom (before_total sc)]
    exact r.isLt

include hk in
/-- There are `k` of them. -/
theorem card_kept : (kept k sc).card = k := by
  rw [kept_eq_image hk, Finset.card_image_of_injective, Finset.card_univ, Fintype.card_fin]
  exact fun a b h => Fin.castLE_injective hk (sortedFrom_injective _ h)

/-- The kept nodes in increasing position. -/
def sel (p : Fin k) : Fin n := (kept k sc).orderEmbOfFin (card_kept hk sc) p

theorem sel_strictMono : StrictMono (sel hk sc) := fun _ _ h => ((kept k sc).orderEmbOfFin _).strictMono h

theorem sel_injective : Function.Injective (sel hk sc) := (sel_strictMono hk sc).injective

theorem sel_mem (p : Fin k) : sel hk sc p ∈ kept k sc := Finset.orderEmbOfFin_mem _ _ p

/-- A kept node is listed. -/
theorem exists_sel {i : Fin n} (h : i ∈ kept k sc) : ∃ p, sel hk sc p = i := by
  have : i ∈ Set.range ((kept k sc).orderEmbOfFin (card_kept hk sc)) := by rw [Finset.range_orderEmbOfFin]; exact h
  exact this

/-- How many kept nodes come before `i`. -/
def place (k : ℕ) (sc : Fin n → EReal) (i : Fin n) : ℕ := ((kept k sc).filter fun j => j < i).card

/-- How many kept nodes come up to and including `i`. -/
def upTo (k : ℕ) (sc : Fin n → EReal) (i : Fin n) : ℕ := ((kept k sc).filter fun j => j ≤ i).card

theorem place_sel (p : Fin k) : place k sc (sel hk sc p) = p.val := by
  have : ((kept k sc).filter fun j => j < sel hk sc p) = (Finset.Iio p).image (sel hk sc) := by
    ext j
    simp only [Finset.mem_filter, Finset.mem_image, Finset.mem_Iio]
    constructor
    · rintro ⟨hj, hlt⟩
      obtain ⟨q, rfl⟩ := exists_sel hk sc hj
      exact ⟨q, (sel_strictMono hk sc).lt_iff_lt.1 hlt, rfl⟩
    · rintro ⟨q, hq, rfl⟩; exact ⟨sel_mem hk sc q, sel_strictMono hk sc hq⟩
  rw [place, this, Finset.card_image_of_injective _ (sel_injective hk sc), Fin.card_Iio]

theorem upTo_of_mem {i : Fin n} (h : i ∈ kept k sc) : upTo k sc i = place k sc i + 1 := by
  have : ((kept k sc).filter fun j => j ≤ i) = insert i ((kept k sc).filter fun j => j < i) := by
    ext j
    simp only [Finset.mem_filter, Finset.mem_insert]
    constructor
    · rintro ⟨hj, hle⟩
      rcases hle.lt_or_eq with h | h
      · exact Or.inr ⟨hj, h⟩
      · exact Or.inl h
    · rintro (rfl | ⟨hj, hlt⟩)
      · exact ⟨h, le_refl _⟩
      · exact ⟨hj, hlt.le⟩
  rw [upTo, this, Finset.card_insert_of_notMem (by simp)]
  rfl

/-- A node is the `p`-th kept one exactly when it is kept and `p` kept nodes come before it. -/
theorem sel_eq_iff (p : Fin k) (i : Fin n) : sel hk sc p = i ↔ i ∈ kept k sc ∧ place k sc i = p.val := by
  constructor
  · rintro rfl; exact ⟨sel_mem hk sc p, place_sel hk sc p⟩
  · rintro ⟨h, e⟩
    obtain ⟨q, rfl⟩ := exists_sel hk sc h
    rw [place_sel] at e
    rw [Fin.ext e]

/-- Sorting the positions of the first `k` of the sort by score gives `sel`. -/
theorem sel_eq_sorted (f : Fin k → Fin n) (hf : ∀ r, f r = sortedFrom (before sc) (r.castLE hk)) (p : Fin k) :
    f (sortedFrom (fun a b : Fin k => decide (f a < f b)) p) = sel hk sc p := by
  have hinj : Function.Injective f := fun a b h => by
    rw [hf, hf] at h; exact Fin.castLE_injective hk (sortedFrom_injective _ h)
  have hB : StrictTotalBefore fun a b : Fin k => decide (f a < f b) :=
    ⟨fun a => by simp, fun a b c hab hbc => by simp only [decide_eq_true_eq] at *; exact hab.trans hbc,
      fun a b hne => by simp only [decide_eq_true_eq]; exact lt_or_gt_of_ne fun e => hne (hinj e)⟩
  have hmono : StrictMono fun p => f (sortedFrom (fun a b : Fin k => decide (f a < f b)) p) := by
    intro s t hst
    have h1 := sortedFrom_noInversion _ _ (fun a b h => hB.asymm a b h) (fun _ _ h => h) hB.negTrans s t hst
    simp only [decide_eq_false_iff_not, not_lt] at h1
    exact lt_of_le_of_ne h1 fun e => hst.ne (sortedFrom_injective _ (hinj e))
  have hmem : ∀ x, f (sortedFrom (fun a b : Fin k => decide (f a < f b)) x) ∈ kept k sc := by
    intro x
    rw [kept_eq_image hk, Finset.mem_image]
    exact ⟨_, Finset.mem_univ _, (hf _).symm⟩
  exact congrFun (Finset.orderEmbOfFin_unique (card_kept hk sc) hmem hmono) p

end Cert.Pool

end
-- ==== Proof.Layer.lean ====
/- One graph of the pooling layer, in extended reals: the nodes' scores, the kept nodes' features and edges, and what the
   layer gives for each kept node. `n` nodes of which `k` are kept, `q` features in, `c` features out, four edges a node. -/
module

public import proofs.«01_k».proof.Proof.Select
public import Idealize.ShloMosaic.Lib.Pointwise

@[expose] public section

noncomputable section

namespace Cert.Pool

open Idealize.ShloMosaic

variable {n k q c : ℕ}

/-- A node's score: its features along the score's direction, over the direction's length. -/
def score (h : Fin n → Fin q → EReal) (w : Fin q → EReal) (i : Fin n) : EReal :=
  Ideal.tanh (Ideal.div (∑ f, h i f * w f) (Ideal.sqrt (∑ f, w f * w f)))

theorem place_lt (hk : k ≤ n) (sc : Fin n → EReal) {i : Fin n} (h : i ∈ kept k sc) : place k sc i < k := by
  obtain ⟨p, rfl⟩ := exists_sel hk sc h
  rw [place_sel]; exact p.isLt

section graph
variable (hk : k ≤ n) [NeZero k] (h : Fin n → Fin q → EReal) (sc : Fin n → EReal) (N : Fin n → Fin 4 → Fin n) (M : Fin n → Fin 4 → EReal)
variable (Wt Wb : Fin q → Fin c → EReal) (b : Fin c → EReal)

/-- A kept node's features times its score. -/
def newx (p : Fin k) (f : Fin q) : EReal := h (sel hk sc p) f * sc (sel hk sc p)

/-- A node's new number: the kept nodes before it are counted. Dropped nodes have the number zero. -/
def number (i : Fin n) : Fin k := if e : i ∈ kept k sc then ⟨place k sc i, place_lt hk sc e⟩ else 0

/-- The source of a kept node's edge, in the new numbers. -/
def newsrc (p : Fin k) (e : Fin 4) : Fin k := number hk sc (N (sel hk sc p) e)

/-- An edge's mask: its own, where its source is kept. -/
def newmask (p : Fin k) (e : Fin 4) : EReal := M (sel hk sc p) e * if N (sel hk sc p) e ∈ kept k sc then 1 else 0

/-- An edge's features, before the mask. -/
def edge (p : Fin k) (e : Fin 4) (j : Fin c) : EReal :=
  max (∑ f, newx hk h sc p f * Wt f j + ∑ f, (newx hk h sc (newsrc hk sc N p e) f - newx hk h sc p f) * Wb f j + b j) 0

/-- An edge's features. -/
def medge (p : Fin k) (e : Fin 4) (j : Fin c) : EReal := edge hk h sc N Wt Wb b p e j * newmask hk sc N M p e

end graph

end Cert.Pool
-- ==== Proof.Words.lean ====
/- Words that carry truth values and small numbers, and what they become as extended reals. -/
module

public import Idealize.ShloMosaic.Lib.Pointwise

@[expose] public section

namespace Cert.Words

open Idealize.ShloMosaic

/-- A truth value as a number. -/
theorem sitofp_bit (b : Bool) :
    (FloatOps.sitofp (F := Ideal) FTy.f32 (BitVec.setWidth 32 (BitVec.ofBool b)) : EReal) = if b then 1 else 0 := by
  show (((BitVec.setWidth 32 (BitVec.ofBool b)).toInt : ℝ) : EReal) = _
  cases b
  · rw [show (BitVec.setWidth 32 (BitVec.ofBool false)).toInt = 0 by decide]; simp
  · rw [show (BitVec.setWidth 32 (BitVec.ofBool true)).toInt = 1 by decide]; simp

/-- Two small numbers' words are equal when the numbers are. -/
theorem cmpi_eq {x y : ℕ} (hx : x < 2 ^ 31) (hy : y < 2 ^ 31) :
    IntOp.cmpi .eq (BitVec.ofNat 32 x) (BitVec.ofNat 32 y) = BitVec.ofBool (decide (x = y)) := by
  unfold IntOp.cmpi
  congr 1
  rw [Bool.eq_iff_iff, beq_iff_eq, decide_eq_true_iff]
  constructor
  · intro h
    have := congrArg BitVec.toNat h
    rwa [BitVec.toNat_ofNat, BitVec.toNat_ofNat, Nat.mod_eq_of_lt (by omega), Nat.mod_eq_of_lt (by omega)] at this
  · rintro rfl; rfl

theorem toInt_small {x : ℕ} (hx : x < 2 ^ 31) : (BitVec.ofNat 32 x).toInt = x := by
  rw [BitVec.toInt_eq_toNat_of_lt (by rw [BitVec.toNat_ofNat]; omega), BitVec.toNat_ofNat, Nat.mod_eq_of_lt (by omega)]

/-- The signed order of two small numbers' words. -/
theorem cmpi_slt {x y : ℕ} (hx : x < 2 ^ 31) (hy : y < 2 ^ 31) :
    IntOp.cmpi .slt (BitVec.ofNat 32 x) (BitVec.ofNat 32 y) = BitVec.ofBool (decide (x < y)) := by
  unfold IntOp.cmpi
  congr 1
  rw [Bool.eq_iff_iff, BitVec.slt_iff_toInt_lt, toInt_small hx, toInt_small hy, decide_eq_true_iff, Int.ofNat_lt]

theorem cmpi_sle {x y : ℕ} (hx : x < 2 ^ 31) (hy : y < 2 ^ 31) :
    IntOp.cmpi .sle (BitVec.ofNat 32 x) (BitVec.ofNat 32 y) = BitVec.ofBool (decide (x ≤ y)) := by
  unfold IntOp.cmpi
  congr 1
  rw [Bool.eq_iff_iff, BitVec.sle_iff_toInt_le, toInt_small hx, toInt_small hy, decide_eq_true_iff, Int.ofNat_le]

/-- A small number's word is not negative. -/
theorem not_slt_zero {x : ℕ} (hx : x < 2 ^ 31) : IntOp.cmpi .slt (BitVec.ofNat 32 x) 0#32 = 0#1 := by
  rw [show (0#32) = BitVec.ofNat 32 0 from rfl, cmpi_slt hx (by norm_num)]
  simp

theorem andi_bit (a b : Bool) : IntOp.andi (BitVec.ofBool a) (BitVec.ofBool b) = BitVec.ofBool (a && b) := by
  cases a <;> cases b <;> rfl

theorem ori_bit (a b : Bool) : IntOp.ori (BitVec.ofBool a) (BitVec.ofBool b) = BitVec.ofBool (a || b) := by
  cases a <;> cases b <;> rfl

theorem select_bit {α : Type} (b : Bool) (x y : α) : Scalar.select (BitVec.ofBool b) x y = if b then x else y := by
  cases b <;> rfl

/-- Adding up truth values counts. -/
theorem sum_bits {n : ℕ} (p : Fin n → Bool) :
    (∑ x, if p x then (1 : EReal) else 0) = ((Finset.univ.filter fun x => p x = true).card : EReal) :=
  (Finset.natCast_card_filter _ _).symm

/-- A row of a one-hot matrix times a column takes one entry of the column. -/
theorem sum_take {n : ℕ} (p : Fin n → Bool) (z : Fin n → EReal) (i : Fin n) (h : ∀ x, p x = true ↔ x = i) :
    (∑ x, (if p x then (1 : EReal) else 0) * z x) = z i := by
  rw [Finset.sum_eq_single i]
  · rw [if_pos ((h i).2 rfl), one_mul]
  · intro x _ hx
    rw [if_neg (fun e => hx ((h x).1 e)), zero_mul]
  · intro h; exact absurd (Finset.mem_univ _) h

/-- Selecting one entry and adding up. -/
theorem sum_pick {n : ℕ} (z : Fin n → EReal) (i : Fin n) (hn : n < 2 ^ 31) :
    (∑ x : Fin n, Scalar.select (IntOp.cmpi .eq (BitVec.ofNat 32 x.val) (BitVec.ofNat 32 i.val)) (z x) 0) = z i := by
  rw [Finset.sum_eq_single i]
  · rw [cmpi_eq (by omega) (by omega), select_bit]; simp
  · intro x _ hx
    rw [cmpi_eq (by omega) (by omega), select_bit, if_neg]
    simpa using fun e => hx (Fin.ext e)
  · intro h; exact absurd (Finset.mem_univ _) h

/-- A small whole number as a word. -/
theorem fptosi_nat {x : ℕ} (hx : x < 2 ^ 31) : (FloatOps.fptosi (F := Ideal) (φ := FTy.f32) 32 ((x : EReal) : EReal)) = BitVec.ofNat 32 x := by
  show Ideal.fptosi 32 (x : EReal) = _
  rw [show (x : EReal) = (((x : ℝ)) : EReal) by norm_cast, Ideal.fptosi, Ideal.toIntClamped_coe, if_pos (by positivity)]
  rw [Int.floor_natCast]
  rw [min_eq_right (by push_cast; omega), max_eq_right (by push_cast; omega)]
  exact BitVec.ofInt_ofNat ..

theorem ofBits_neg_one : Ideal.ofBits .f32 0xBF800000#32 = ((-1 : ℝ) : EReal) := by
  simp [Ideal.ofBits, Ideal.ieee, -EReal.coe_mul, -EReal.coe_neg]; norm_num

theorem ofBits_128 : Ideal.ofBits .f32 0x43000000#32 = ((128 : ℕ) : EReal) := by
  rw [show ((128 : ℕ) : EReal) = ((128 : ℝ) : EReal) by norm_cast]
  simp [Ideal.ofBits, Ideal.ieee, -EReal.coe_mul]; norm_num

theorem ofBits_160 : Ideal.ofBits .f32 0x43200000#32 = ((160 : ℕ) : EReal) := by
  rw [show ((160 : ℕ) : EReal) = ((160 : ℝ) : EReal) by norm_cast]
  simp [Ideal.ofBits, Ideal.ieee, -EReal.coe_mul]; norm_num

/-- Minus one as a word. -/
theorem fptosi_neg_one : (FloatOps.fptosi (F := Ideal) (φ := FTy.f32) 32 (((-1 : ℝ) : EReal) : EReal)) = BitVec.ofInt 32 (-1) := by
  show Ideal.fptosi 32 ((-1 : ℝ) : EReal) = _
  rw [Ideal.fptosi, Ideal.toIntClamped_coe, if_neg (by norm_num), show ((-1 : ℝ)) = ((-1 : ℤ) : ℝ) by norm_num, Int.ceil_intCast]
  rfl

/-- A small number's word is not that of minus one. -/
theorem cmpi_eq_neg_one {x : ℕ} (hx : x < 2 ^ 31) : IntOp.cmpi .eq (BitVec.ofNat 32 x) (BitVec.ofInt 32 (-1)) = BitVec.ofBool false := by
  unfold IntOp.cmpi
  congr 1
  rw [beq_eq_false_iff_ne]
  intro h
  have := congrArg BitVec.toInt h
  rw [toInt_small hx] at this
  rw [show (BitVec.ofInt 32 (-1)).toInt = -1 by decide] at this
  omega

end Cert.Words
-- ==== Proof.Laws.lean ====
/- What the steps of a pooling body give at an index, as equations (`Laws`): a program's own steps are shown to satisfy them,
   and what the body gives then follows once for all programs (Proof/BodyNodes.lean, Proof/BodyEdges.lean, Proof/BodyOuts.lean). -/
module

public import proofs.«01_k».proof.Proof.Body
public import proofs.«01_k».proof.Proof.Layer
public import proofs.«01_k».proof.Proof.Words

@[expose] public section

noncomputable section

namespace Cert.Body

open Cert.Pool Cert.Words
open Idealize.ShloMosaic

/-- Column `e` of the first four of eight, row `i` of piece `e` of four, and a row of the second half. -/
def lo (e : Fin 4) : Fin 8 := ⟨e.val, by omega⟩
def at4 {m : ℕ} (e : Fin 4) (i : Fin m) : Fin (4 * m) := ⟨m * e.val + i.val, by
  have := i.isLt
  have := e.isLt
  have : m * e.val ≤ m * 3 := Nat.mul_le_mul_left _ (by omega)
  omega⟩
def top {d : ℕ} (f : Fin d) : Fin (2 * d) := ⟨f.val, by omega⟩
def bot {d : ℕ} (f : Fin d) : Fin (2 * d) := ⟨d + f.val, by omega⟩

/-- An entry of four pieces laid one after another. -/
theorem cat4 {α : Type} {n : ℕ} (f : Fin 4 → Fin n → α) (e : Fin 4) (i : Fin n) (r : ℕ) (hr : r = n * e.val + i.val)
    (h4 : r - n - n - n < n) :
    (if h : r < n then f 0 ⟨r, h⟩ else if h : r - n < n then f 1 ⟨r - n, h⟩ else if h : r - n - n < n then f 2 ⟨r - n - n, h⟩
      else f 3 ⟨r - n - n - n, h4⟩) = f e i := by
  have hi := i.isLt
  fin_cases e
  · have hr : r = i.val := by simpa using hr
    rw [dif_pos (by omega)]; exact congrArg _ (Fin.ext hr)
  · have hr : r = n + i.val := by simpa using hr
    rw [dif_neg (by omega), dif_pos (by omega)]; exact congrArg _ (Fin.ext (show r - n = i.val by omega))
  · have hr : r = n * 2 + i.val := by simpa using hr
    rw [dif_neg (by omega), dif_neg (by omega), dif_pos (by omega)]; exact congrArg _ (Fin.ext (show r - n - n = i.val by omega))
  · have hr : r = n * 3 + i.val := by simpa using hr
    rw [dif_neg (by omega), dif_neg (by omega), dif_neg (by omega)]; exact congrArg _ (Fin.ext (show r - n - n - n = i.val by omega))

/-- A sum over the rows of four pieces. -/
theorem sum_at4 {m : ℕ} (z : Fin (4 * m) → EReal) : ∑ r, z r = ∑ p : Fin m, ∑ e : Fin 4, z (at4 e p) := by
  rw [← Equiv.sum_comp (finProdFinEquiv (m := 4) (n := m)) z, Fintype.sum_prod_type, Finset.sum_comm]
  refine Finset.sum_congr rfl fun p _ => Finset.sum_congr rfl fun e _ => congrArg z (Fin.ext ?_)
  show p.val + m * e.val = m * e.val + p.val
  omega

/-- The batch norm's factor of a feature, from the sums and the parameter. -/
def factor (s0 s1 s2 g : EReal) : EReal :=
  Ideal.div g (Ideal.sqrt (Ideal.div s1 (max s2 1) - Ideal.div s0 (max s2 1) * Ideal.div s0 (max s2 1) + Ideal.ofBits FTy.f32 925353388#32))

/-- The word of a comparison, as a number. -/
def bit (c : BitVec 1) : EReal := FloatOps.sitofp (F := Ideal) FTy.f32 (BitVec.setWidth 32 c)

/-- A sum of a column by a row's weights, its values in three parts: a value, its difference from itself, and that
    difference's difference from itself. -/
def threefold {m : ℕ} (t : Fin m → EReal) (z : Fin m → EReal) : EReal :=
  ∑ x, t x * z x + ∑ x, t x * (z x - z x) + ∑ x, t x * (z x - z x - (z x - z x))

section nodes
variable {n d : ℕ} (A D : Mat Ideal 1 d) (pw : Mat Ideal d 128) (cnt : Stack Ideal 1 n 8) (ns : Stack Ideal 1 n d)

/-- A node's features: the batch norm of the mean over the node's edges. -/
def H (i : Fin n) (f : Fin d) : EReal :=
  A (ix2 0 f) * Ideal.div (ns (ix3 0 i f)) (max (cnt (ix3 0 i 0)) 1) + D (ix2 0 f) * if 0 < cnt (ix3 0 i 0) then 1 else 0

/-- A node's score. -/
def S : Fin n → EReal := score (H A D cnt ns) fun f => pw (ix2 f 0)

end nodes

/-- What the steps give at an index. -/
structure Laws {n q d o : ℕ} (B : Steps Ideal n q d o) : Prop where
  le : q ≤ n
  small : n < 2 ^ 29
  scale : ∀ s0 s1 s2 g f, B.scale s0 s1 s2 g (ix2 0 f) = factor (s0 (ix2 0 f)) (s1 (ix2 0 f)) (s2 (ix2 0 f)) (g (ix2 0 f))
  shift : ∀ s0 s1 s2 g be f, B.shift s0 s1 s2 g be (ix2 0 f)
    = be (ix2 0 f) - Ideal.div (s0 (ix2 0 f)) (max (s2 (ix2 0 f)) 1) * factor (s0 (ix2 0 f)) (s1 (ix2 0 f)) (s2 (ix2 0 f)) (g (ix2 0 f))
  feat : ∀ A D cnt ns i f, B.feat A D cnt ns (ix2 i f) = H A D cnt ns i f
  sco : ∀ A D pw cnt ns i, B.sco A D pw cnt ns (ix2 i 0) = S A D pw cnt ns i
  rnk : ∀ A D pw cnt ns i, B.rnk A D pw cnt ns (ix1 i) = ((rankOf (before (S A D pw cnt ns)) i : ℕ) : EReal)
  nid : ∀ r i, B.nid r (ix2 i 0) = if r (ix1 i) < ((q : ℕ) : EReal)
    then (∑ x : Fin n, bit (IntOp.cmpi .sle (BitVec.ofNat 32 x.val) (BitVec.ofNat 32 i.val)) * if r (ix1 x) < ((q : ℕ) : EReal) then 1 else 0) - 1
    else ((-1 : ℝ) : EReal)
  take : ∀ r p i, B.take r (ix2 p i)
    = bit (IntOp.cmpi .eq (BitVec.ofNat 32 p.val) (FloatOps.fptosi (F := Ideal) (φ := FTy.f32) 32 (B.nid r (ix2 i 0))))
  xnew : ∀ h s r p f, B.xnew h s r (ix2 p f) = threefold (fun x => B.take r (ix2 p x)) fun x => h (ix2 x f) * s (ix2 x 0)
  snid : ∀ r nb e i, B.snid r nb (ix2 (at4 e i) 0) = ∑ x : Fin n, bit (IntOp.cmpi .eq (BitVec.ofNat 32 x.val) (nb (ix3 0 i (lo e)))) * r (ix2 x 0)
  msk : ∀ t s mk p e, B.msk t s mk (ix2 p e)
    = ∑ x, t (ix2 p x) * (mk (ix3 0 x (lo e)) * if decide (0 ≤ s (ix2 (at4 e x) 0)) then 1 else 0)
  src : ∀ t s mk p e, B.src t s mk (ix2 p e)
    = FloatOps.fptosi (F := Ideal) (φ := FTy.f32) 32 (max (∑ x, t (ix2 p x) * s (ix2 (at4 e x) 0)) 0)
  takeSrc : ∀ t s mk e p x, B.takeSrc t s mk (ix2 (at4 e p) x) = bit (IntOp.cmpi .eq (BitVec.ofNat 32 x.val) (B.src t s mk (ix2 p e)))
  edg : ∀ W b x t e p j, B.edg W b x t (ix2 (at4 e p) j)
    = max (∑ f, x (ix2 p f) * W (ix2 (top f) j)
        + ∑ f, (threefold (fun y => t (ix2 (at4 e p) y)) (fun y => x (ix2 y f)) - x (ix2 p f)) * W (ix2 (bot f) j) + b (ix2 0 j)) 0
  med : ∀ W b x k t e p j, B.med W b x k t (ix2 (at4 e p) j) = B.edg W b x t (ix2 (at4 e p) j) * k (ix2 p e)
  outSum : ∀ W b x k t p j, B.outSum W b x k t (ix3 0 p j) = ∑ e, B.med W b x k t (ix2 (at4 e p) j)
  outCnt : ∀ k p j, B.outCnt k (ix3 0 p j) = ∑ e, k (ix2 p e)
  outSrc : ∀ s p j, B.outSrc s (ix3 0 p j) = if h : j.val < 4 then s (ix2 p ⟨j.val, h⟩) else 0#32
  outMsk : ∀ k p j, B.outMsk k (ix3 0 p j) = if h : j.val < 4 then k (ix2 p ⟨j.val, h⟩) else 0
  sum0 : ∀ j, B.sum0 (ix2 0 j) = 0
  sq0 : ∀ j, B.sq0 (ix2 0 j) = 0
  num0 : B.num0 (ix2 0 0) = 0
  sumOn : ∀ W b x k t acc j, B.sumOn W b x k t acc (ix2 0 j) = acc (ix2 0 j) + ∑ p, ∑ e, B.med W b x k t (ix2 (at4 e p) j)
  sqOn : ∀ W b x k t acc j, B.sqOn W b x k t acc (ix2 0 j)
    = acc (ix2 0 j) + ∑ p, ∑ e, B.med W b x k t (ix2 (at4 e p) j) * B.edg W b x t (ix2 (at4 e p) j)
  numOn : ∀ k acc, B.numOn k acc (ix2 0 0) = acc (ix2 0 0) + ∑ p, ∑ e, k (ix2 p e)
  stats0 : ∀ r j, B.stats0 (ix2 r j) = 0
  statsOn : ∀ s z c prev r j, B.statsOn s z c prev (ix2 r j) = prev (ix2 r j)
    + if r.val < 1 then s (ix2 0 j) else if r.val - 1 < 1 then z (ix2 0 j) else if r.val - 1 - 1 < 1 then c (ix2 0 0) else 0

end Cert.Body
-- ==== Proof.Reads.lean ====
/- The second pooling's body satisfies the laws of a pooling body: its steps, read at an index. -/
module

public import proofs.«01_k».proof.Proof.Graph
public import proofs.«01_k».proof.Proof.Laws

@[expose] public section

set_option maxRecDepth 16384

noncomputable section

namespace Cert.KernelIdeal.Graph

open Gen Cert.Body Cert.Pool Cert.Words
open Idealize.ShloMosaic Idealize.ShloMosaic.TcCoe

theorem feat_law (A D : FVec Ideal S1x256 .f32) (cnt : Vec Ideal S1x160x8 .f32) (ns : Vec Ideal S1x160x256 .f32) (i : Fin 160) (f : Fin 256) :
    k0_pay13 A D cnt ns (ix2 i f) = H A D cnt ns i f := by
  pointwise [k0_pay13]
  rw [sitofp_bit]
  simp only [decide_eq_true_eq]
  rfl

theorem sco_law (A D : FVec Ideal S1x256 .f32) (pw : Vec Ideal S256x128 .f32) (cnt : Vec Ideal S1x160x8 .f32) (ns : Vec Ideal S1x160x256 .f32) (i : Fin 160) :
    k0_pay14 A D (k0_pay6 pw) (k0_pay7 pw) cnt ns (ix2 i 0) = S A D pw cnt ns i := by
  pointwise [k0_pay14, k0_pay6, k0_pay7]
  unfold S score
  refine congrArg Ideal.tanh (congrArg (Ideal.div · _) (Finset.sum_congr rfl fun f _ => ?_))
  exact congrArg (· * _) (feat_law A D cnt ns i f)

theorem rnk_law (A D : FVec Ideal S1x256 .f32) (pw : Vec Ideal S256x128 .f32) (cnt : Vec Ideal S1x160x8 .f32) (ns : Vec Ideal S1x160x256 .f32) (i : Fin 160) :
    (steps (F := Ideal)).rnk A D pw cnt ns (ix1 i) = ((rankOf (before (S A D pw cnt ns)) i : ℕ) : EReal) := by
  have hs : ∀ i, k0_pay14 A D (k0_pay6 pw) (k0_pay7 pw) cnt ns (ix2 i 0) = S A D pw cnt ns i := sco_law A D pw cnt ns
  unfold steps
  pointwise [k0_pay15]
  unfold rankOf
  rw [← sum_bits]
  refine Finset.sum_congr rfl fun x _ => ?_
  have e : ∀ z : Fin 160 → EReal, _ = _ := fun z => sum_pick z x (by norm_num)
  rw [e, cmpi_slt (by omega) (by omega), andi_bit, ori_bit, sitofp_bit, hs, hs]
  rfl

theorem nid_law (r : FVec Ideal S160 .f32) (i : Fin 160) : k0_pay16 k0_pay9 r (ix2 i 0) = if r (ix1 i) < ((128 : ℕ) : EReal)
    then (∑ x : Fin 160, bit (IntOp.cmpi .sle (BitVec.ofNat 32 x.val) (BitVec.ofNat 32 i.val)) * if r (ix1 x) < ((128 : ℕ) : EReal) then 1 else 0) - 1
    else ((-1 : ℝ) : EReal) := by
  rw [← ofBits_128, ← ofBits_neg_one]
  pointwise [k0_pay16, k0_pay9]
  simp only [sitofp_bit, decide_eq_true_eq]
  by_cases h : r (ix1 i) < Ideal.ofBits FTy.f32 0x43000000#32
  · rw [if_pos h, if_pos h, if_pos (by norm_num)]
    rfl
  · rw [if_neg h, if_neg h, if_neg (by norm_num)]

theorem take_law (r : FVec Ideal S160 .f32) (p : Fin 128) (i : Fin 160) : k0_pay17 k0_pay9 r (ix2 p i)
    = bit (IntOp.cmpi .eq (BitVec.ofNat 32 p.val) (FloatOps.fptosi (F := Ideal) (φ := FTy.f32) 32 (k0_pay16 k0_pay9 r (ix2 i 0)))) := by
  have e : ∀ z : Fin 160 → EReal, _ = _ := fun z => sum_pick z i (by norm_num)
  pointwise [k0_pay17]
  rw [e]
  rfl

theorem snid_law (r : FVec Ideal S160x1 .f32) (nb : Vec Ideal S1x160x8 .i32) (e : Fin 4) (i : Fin 160) : (steps (F := Ideal)).snid r nb (ix2 (at4 e i) 0)
    = ∑ x : Fin 160, bit (IntOp.cmpi .eq (BitVec.ofNat 32 x.val) (nb (ix3 0 i (lo e)))) * r (ix2 x 0) := by
  show k0_pay20 _ r _ nb nb nb (ix2 (⟨160 * e.val + i.val, (at4 e i).isLt⟩ : Fin 640) 0) = _
  pointwise [k0_pay20, k0_pay19]
  exact Finset.sum_congr rfl fun x _ => congrArg (· * _) (cat4 (fun e i => bit (IntOp.cmpi .eq (BitVec.ofNat 32 x.val) (nb (ix3 0 i (lo e))))) e i _ rfl (by omega))

/-- The rows of new numbers and masks. -/
theorem src_row (t : FVec Ideal S128x160 .f32) (s : FVec Ideal S640x1 .f32) (mk : Vec Ideal S1x160x8 .f32) (p : Fin 128) (e : Fin 4) :
    k0_pay24 t s (k0_pay21 mk) (k0_pay22 mk) (k0_pay23 mk) mk (ix2 p (⟨e.val, by omega⟩ : Fin 8)) = ∑ x, t (ix2 p x) * s (ix2 (at4 e x) 0) := by
  fin_cases e <;> (unfold at4; pointwise [k0_pay24])

theorem msk_law (t : FVec Ideal S128x160 .f32) (s : FVec Ideal S640x1 .f32) (mk : Vec Ideal S1x160x8 .f32) (p : Fin 128) (e : Fin 4) :
    k0_pay25 t s (k0_pay21 mk) (k0_pay22 mk) (k0_pay23 mk) mk (ix2 p e)
      = ∑ x, t (ix2 p x) * (mk (ix3 0 x (lo e)) * if decide (0 ≤ s (ix2 (at4 e x) 0)) then 1 else 0) := by
  fin_cases e <;> (unfold at4; pointwise [k0_pay25, k0_pay24, k0_pay21, k0_pay22, k0_pay23]; simp only [sitofp_bit]
                   refine Finset.sum_congr rfl fun x _ => congrArg (_ * ·) (congrArg (· * _) ?_))
  · rfl
  · first | rfl | exact cat4 (fun e x => mk (ix3 0 x (lo e))) 1 x (160 + x.val) (by simp) (by omega)
  · first | rfl | exact cat4 (fun e x => mk (ix3 0 x (lo e))) 2 x (320 + x.val) (by simp) (by omega)
  · first | rfl | exact cat4 (fun e x => mk (ix3 0 x (lo e))) 3 x (480 + x.val) (by simp) (by omega)

theorem takeSrc_law (t : FVec Ideal S128x160 .f32) (s : FVec Ideal S640x1 .f32) (mk : Vec Ideal S1x160x8 .f32) (e : Fin 4) (p x : Fin 128) :
    (steps (F := Ideal)).takeSrc t s mk (ix2 (at4 e p) x) = bit (IntOp.cmpi .eq (BitVec.ofNat 32 x.val) ((steps (F := Ideal)).src t s mk (ix2 p e))) := by
  show k0_pay31 _ t s _ _ _ mk (ix2 (⟨128 * e.val + p.val, (at4 e p).isLt⟩ : Fin 512) x) = _
  pointwise [k0_pay31]
  exact cat4 (fun e p => bit (IntOp.cmpi .eq (BitVec.ofNat 32 x.val) ((steps (F := Ideal)).src t s mk (ix2 p e)))) e p _ rfl (by omega)

theorem edg_law (W : Vec Ideal S512x512 .f32) (b : Vec Ideal S1x512 .f32) (x : FVec Ideal S128x256 .f32) (t : FVec Ideal S512x128 .bf16)
    (e : Fin 4) (p : Fin 128) (j : Fin 512) : (steps (F := Ideal)).edg W b x t (ix2 (at4 e p) j)
      = max (∑ f, x (ix2 p f) * W (ix2 (top f) j)
        + ∑ f, (threefold (fun y => t (ix2 (at4 e p) y)) (fun y => x (ix2 y f)) - x (ix2 p f)) * W (ix2 (bot f) j) + b (ix2 0 j)) 0 := by
  show k0_pay32 W (k0_pay8 b) x (k0_pay27 x) (k0_pay29 x) (k0_pay30 x) t (ix2 (⟨128 * e.val + p.val, (at4 e p).isLt⟩ : Fin 512) j) = _
  have h28 : ∀ y f, k0_pay28 x (ix2 y f) = x (ix2 y f) - x (ix2 y f) := by
    intro y f
    pointwise [k0_pay28, k0_pay27]
  have hX : ∀ f, _ = x (ix2 p f) := fun f => cat4 (fun _ p => x (ix2 p f)) e p (128 * e.val + p.val) rfl (by omega)
  pointwise [k0_pay32, k0_pay8, k0_pay27, k0_pay29, k0_pay30]
  refine congrArg (max · 0) (congrArg (· + _) (congrArg₂ (· + ·) (Finset.sum_congr rfl fun f _ => ?_) (Finset.sum_congr rfl fun f _ => ?_)))
  · exact congrArg (· * _) (hX f)
  · refine congrArg (· * _) (congrArg₂ (· - ·) ?_ (hX f))
    simp only [h28]
    rfl

theorem med_law (W : Vec Ideal S512x512 .f32) (b : Vec Ideal S1x512 .f32) (x : FVec Ideal S128x256 .f32) (k : FVec Ideal S128x4 .f32)
    (t : FVec Ideal S512x128 .bf16) (e : Fin 4) (p : Fin 128) (j : Fin 512) :
    (steps (F := Ideal)).med W b x k t (ix2 (at4 e p) j) = (steps (F := Ideal)).edg W b x t (ix2 (at4 e p) j) * k (ix2 p e) := by
  show k0_pay34 W (k0_pay8 b) x k (k0_pay27 x) (k0_pay29 x) (k0_pay30 x) t (ix2 (⟨128 * e.val + p.val, (at4 e p).isLt⟩ : Fin 512) j) = _
  pointwise [k0_pay34, k0_pay33]
  exact congrArg₂ (· * ·) rfl (cat4 (fun e p => k (ix2 p e)) e p _ rfl (by omega))

theorem outSum_law (W : Vec Ideal S512x512 .f32) (b : Vec Ideal S1x512 .f32) (x : FVec Ideal S128x256 .f32) (k : FVec Ideal S128x4 .f32)
    (t : FVec Ideal S512x128 .bf16) (p : Fin 128) (j : Fin 512) :
    (steps (F := Ideal)).outSum W b x k t (ix3 0 p j) = ∑ e, (steps (F := Ideal)).med W b x k t (ix2 (at4 e p) j) := by
  rw [Fin.sum_univ_four]
  unfold steps at4
  pointwise [k0_pay39]

theorem outCnt_law (k : FVec Ideal S128x4 .f32) (p : Fin 128) (j : Fin 8) : k0_pay40 (k0_pay35 k) (ix3 0 p j) = ∑ e, k (ix2 p e) := by
  have h35 : ∀ y : Fin 1, k0_pay35 k (ix2 p y) = ∑ e, k (ix2 p e) := by
    intro y
    obtain rfl : y = 0 := Subsingleton.elim _ _
    rw [Fin.sum_univ_four]
    pointwise [k0_pay35]
  pointwise [k0_pay40]
  split_ifs <;> exact h35 _

theorem sumOn_law (W : Vec Ideal S512x512 .f32) (b : Vec Ideal S1x512 .f32) (x : FVec Ideal S128x256 .f32) (k : FVec Ideal S128x4 .f32)
    (t : FVec Ideal S512x128 .bf16) (acc : FVec Ideal S1x512 .f32) (j : Fin 512) : (steps (F := Ideal)).sumOn W b x k t acc (ix2 0 j)
      = acc (ix2 0 j) + ∑ p, ∑ e, (steps (F := Ideal)).med W b x k t (ix2 (at4 e p) j) := by
  rw [← sum_at4 fun r => (steps (F := Ideal)).med W b x k t (ix2 r j)]
  unfold steps
  pointwise [k0_pay36]

theorem sqOn_law (W : Vec Ideal S512x512 .f32) (b : Vec Ideal S1x512 .f32) (x : FVec Ideal S128x256 .f32) (k : FVec Ideal S128x4 .f32)
    (t : FVec Ideal S512x128 .bf16) (acc : FVec Ideal S1x512 .f32) (j : Fin 512) : (steps (F := Ideal)).sqOn W b x k t acc (ix2 0 j)
      = acc (ix2 0 j) + ∑ p, ∑ e, (steps (F := Ideal)).med W b x k t (ix2 (at4 e p) j) * (steps (F := Ideal)).edg W b x t (ix2 (at4 e p) j) := by
  rw [← sum_at4 fun r => (steps (F := Ideal)).med W b x k t (ix2 r j) * (steps (F := Ideal)).edg W b x t (ix2 r j)]
  unfold steps
  pointwise [k0_pay37]

theorem numOn_law (k : FVec Ideal S128x4 .f32) (acc : FVec Ideal S1x1 .f32) : k0_pay38 acc k (ix2 0 0) = acc (ix2 0 0) + ∑ p, ∑ e, k (ix2 p e) := by
  have h : ∀ p e, k0_pay33 k (ix2 (at4 e p) 0) = k (ix2 p e) := by
    intro p e
    show k0_pay33 k (ix2 (⟨128 * e.val + p.val, (at4 e p).isLt⟩ : Fin 512) 0) = _
    pointwise [k0_pay33]
    exact cat4 (fun e p => k (ix2 p e)) e p _ rfl (by omega)
  refine Eq.trans ?_ (congrArg (acc (ix2 0 0) + ·) ((sum_at4 (m := 128) fun r => k0_pay33 k (ix2 r 0)).trans (by simp only [h])))
  pointwise [k0_pay38]

/-- The body's steps satisfy the laws. -/
theorem laws : Laws (steps (F := Ideal)) where
  le := by norm_num
  small := by norm_num
  scale s0 s1 s2 g f := by
    unfold steps factor
    pointwise [k0_pay4, k0_pay3, k0_pay2, k0_pay1]
  shift s0 s1 s2 g be f := by
    unfold steps factor
    pointwise [k0_pay5, k0_pay4, k0_pay3, k0_pay2, k0_pay1]
  feat := feat_law
  sco := sco_law
  rnk := rnk_law
  nid := nid_law
  take := take_law
  xnew h s r p f := by
    unfold steps threefold
    pointwise [k0_pay18]
  snid := snid_law
  msk := msk_law
  src t s mk p e := by
    refine Eq.trans ?_ (congrArg (fun z => FloatOps.fptosi (F := Ideal) (φ := FTy.f32) 32 (max z 0)) (src_row t s mk p e))
    unfold steps
    pointwise [k0_pay26]
  takeSrc := takeSrc_law
  edg := edg_law
  med := med_law
  outSum := outSum_law
  outCnt := outCnt_law
  outSrc s p j := by
    unfold steps
    pointwise [k0_pay41]
  outMsk k p j := by
    unfold steps
    pointwise [k0_pay42]
  sum0 j := by
    unfold steps
    pointwise [k0_pay10]
  sq0 j := by
    unfold steps
    pointwise [k0_pay11]
  num0 := by
    unfold steps
    pointwise [k0_pay12]
  sumOn := sumOn_law
  sqOn := sqOn_law
  numOn := numOn_law
  stats0 r j := by
    unfold steps
    pointwise [k0_pay149]
  statsOn s z c prev r j := by
    unfold steps
    pointwise [k0_pay1, k0_pay150]
    refine congrArg (_ + ·) ?_
    have one : ∀ (y : Mat Ideal 1 512) (x : Fin 1), y (ix2 x j) = y (ix2 0 j) := fun y x => by rw [Subsingleton.elim x 0]
    simp only [one s, one z, dite_eq_ite]

end Cert.KernelIdeal.Graph
-- ==== Proof.BodyNodes.lean ====
/- The nodes of one graph of a body, from its laws: their new numbers and which of them are kept. -/
module

public import proofs.«01_k».proof.Proof.Laws

@[expose] public section

noncomputable section

namespace Cert.Body

open Cert.Pool Cert.Words
open Idealize.ShloMosaic

variable {n q d o : ℕ} [NeZero q] {B : Steps Ideal n q d o} (L : Laws B)
variable (A D : Mat Ideal 1 d) (pw : Mat Ideal d 128) (cnt : Stack Ideal 1 n 8) (ns : Stack Ideal 1 n d)

include L

theorem rnk_lt (i : Fin n) : B.rnk A D pw cnt ns (ix1 i) < ((q : ℕ) : EReal) ↔ i ∈ kept q (S A D pw cnt ns) := by
  rw [L.rnk, mem_kept, EReal.natCast_lt_iff]

/-- A kept node's new number is the number of kept nodes before it; a dropped node has -1. -/
theorem nid_apply (i : Fin n) : nid B A D pw cnt ns (ix2 i 0)
    = if i ∈ kept q (S A D pw cnt ns) then ((place q (S A D pw cnt ns) i : ℕ) : EReal) else ((-1 : ℝ) : EReal) := by
  have hn := L.small
  unfold nid
  rw [L.nid]
  simp only [rnk_lt L]
  by_cases h : i ∈ kept q (S A D pw cnt ns)
  · rw [if_pos h, if_pos h]
    have e : (∑ x : Fin n, bit (IntOp.cmpi .sle (BitVec.ofNat 32 x.val) (BitVec.ofNat 32 i.val)) *
            (if x ∈ kept q (S A D pw cnt ns) then (1 : EReal) else 0)) = ((upTo q (S A D pw cnt ns) i : ℕ) : EReal) := by
      unfold upTo
      rw [← Finset.filter_univ_mem (kept q (S A D pw cnt ns)), Finset.filter_filter, Finset.natCast_card_filter]
      refine Finset.sum_congr rfl fun x _ => ?_
      rw [bit, cmpi_sle (by omega) (by omega), sitofp_bit]
      simp only [decide_eq_true_eq, Finset.filter_univ_mem]
      by_cases h1 : x ∈ kept q (S A D pw cnt ns) <;> by_cases h2 : x.val ≤ i.val <;> simp [h1, h2, Fin.le_def]
    rw [e, upTo_of_mem _ h]
    push_cast
    exact EReal.add_sub_cancel_right (b := 1)
  · rw [if_neg h, if_neg h]

/-- The row of a kept node takes that node. -/
theorem take_apply (p : Fin q) (i : Fin n) : take B A D pw cnt ns (ix2 p i)
    = if decide (sel L.le (S A D pw cnt ns) p = i) then 1 else 0 := by
  have hn := L.small
  have hq := L.le
  unfold take
  rw [L.take, show B.nid (B.rnk A D pw cnt ns) (ix2 i 0) = _ from nid_apply L A D pw cnt ns i]
  unfold bit
  by_cases h : i ∈ kept q (S A D pw cnt ns)
  · have := place_lt L.le _ h
    rw [if_pos h, fptosi_nat (by omega), cmpi_eq (by omega) (by omega), sitofp_bit]
    have e : (p.val = place q (S A D pw cnt ns) i) ↔ sel L.le (S A D pw cnt ns) p = i := by
      rw [sel_eq_iff]; exact ⟨fun e => ⟨h, e.symm⟩, fun e => e.2.symm⟩
    simp only [decide_eq_true_eq, e]
  · rw [if_neg h, fptosi_neg_one, cmpi_eq_neg_one (by omega), sitofp_bit]
    simp only [decide_eq_true_eq, sel_eq_iff, h, false_and]
    simp

/-- A row that takes a kept node, times a column. -/
theorem take_sum (p : Fin q) (z : Fin n → EReal) : (∑ x, take B A D pw cnt ns (ix2 p x) * z x) = z (sel L.le (S A D pw cnt ns) p) := by
  simp only [take_apply L]
  exact sum_take _ z _ fun x => by simp [eq_comm]

/-- A node has a new number exactly when it is kept. -/
theorem nid_nonneg (i : Fin n) : 0 ≤ nid B A D pw cnt ns (ix2 i 0) ↔ i ∈ kept q (S A D pw cnt ns) := by
  rw [nid_apply L]
  split_ifs with h
  · simp [h]
  · simp only [h, iff_false, not_le]; norm_cast

end Cert.Body
-- ==== Proof.BodyEdges.lean ====
/- The edges of one graph of a body, from its laws: the kept nodes' features, their edges' sources and masks. The nodes'
   neighbours are given as numbers, and the nodes' features are finite. -/
module

public import proofs.«01_k».proof.Proof.BodyNodes

@[expose] public section

noncomputable section

namespace Cert.Body

open Cert.Pool Cert.Words
open Idealize.ShloMosaic

variable {n q d o : ℕ} [NeZero q] {B : Steps Ideal n q d o} (L : Laws B)
variable (A D : Mat Ideal 1 d) (pw : Mat Ideal d 128) (cnt : Stack Ideal 1 n 8) (ns : Stack Ideal 1 n d) (nb : Nums 1 n 8) (mk : Stack Ideal 1 n 8)
variable (N : Fin n → Fin 4 → Fin n) (hN : ∀ i e, nb (ix3 0 i (lo e)) = BitVec.ofNat 32 (N i e).val)

include L hN in
/-- The new number of an edge's source. -/
theorem snid_apply (i : Fin n) (e : Fin 4) : snid B A D pw cnt ns nb (ix2 (at4 e i) 0) = nid B A D pw cnt ns (ix2 (N i e) 0) := by
  have hn := L.small
  unfold snid
  rw [L.snid]
  simp only [hN]
  refine (Finset.sum_congr rfl fun x _ => ?_).trans
    (sum_take (fun x => decide (x.val = (N i e).val)) (fun x => nid B A D pw cnt ns (ix2 x 0)) (N i e) fun x => by
      simp [Fin.ext_iff])
  rw [bit, cmpi_eq (by omega) (by omega), sitofp_bit]

include hN in
/-- The mask of a kept node's edge. -/
theorem msk_apply (p : Fin q) (e : Fin 4) : msk B A D pw cnt ns nb mk (ix2 p e)
    = newmask L.le (S A D pw cnt ns) N (fun i e => mk (ix3 0 i (lo e))) p e := by
  unfold msk
  rw [L.msk, take_sum L, snid_apply L _ _ _ _ _ _ N hN]
  simp only [decide_eq_true_eq, nid_nonneg L]
  rfl

include hN in
/-- The source of a kept node's edge. -/
theorem src_apply (p : Fin q) (e : Fin 4) : src B A D pw cnt ns nb mk (ix2 p e)
    = BitVec.ofNat 32 (newsrc L.le (S A D pw cnt ns) N p e).val := by
  have hn := L.small
  have hq := L.le
  unfold src
  rw [L.src, take_sum L A D pw cnt ns p fun x => snid B A D pw cnt ns nb (ix2 (at4 e x) 0), snid_apply L _ _ _ _ _ _ N hN, nid_apply L]
  unfold newsrc number
  split_ifs with h
  · rw [max_eq_left (by simp), fptosi_nat]
    have := place_lt L.le _ h
    omega
  · rw [max_eq_right (by norm_cast), show (0 : EReal) = ((0 : ℕ) : EReal) by norm_num, fptosi_nat (by norm_num)]
    rfl

include hN in
/-- The row of an edge takes its source. -/
theorem takeSrc_apply (p : Fin q) (e : Fin 4) (x : Fin q) : takeSrc B A D pw cnt ns nb mk (ix2 (at4 e p) x)
    = if decide (x.val = (newsrc L.le (S A D pw cnt ns) N p e).val) then 1 else 0 := by
  have hn := L.small
  have hq := L.le
  unfold takeSrc
  rw [L.takeSrc, show B.src _ _ mk (ix2 p e) = _ from src_apply L A D pw cnt ns nb mk N hN p e, bit, cmpi_eq (by omega) (by omega), sitofp_bit]

/-- The nodes' features are finite. -/
def Finite : Prop := ∀ i f, ∃ r : ℝ, H A D cnt ns i f = r

variable (hF : Finite A D cnt ns)

theorem score_real {n q : ℕ} (h : Fin n → Fin q → EReal) (w : Fin q → EReal) (i : Fin n) : ∃ r : ℝ, score h w i = r := by
  unfold score
  induction Ideal.div (∑ f, h i f * w f) (Ideal.sqrt (∑ f, w f * w f)) using EReal.rec with
  | bot => exact ⟨-1, show (-1 : EReal) = ((-1 : ℝ) : EReal) by simp⟩
  | coe r => exact ⟨_, rfl⟩
  | top => exact ⟨1, show (1 : EReal) = ((1 : ℝ) : EReal) by norm_cast⟩

include hF in
theorem newx_real (hq : q ≤ n) (p : Fin q) (f : Fin d) : ∃ r : ℝ, newx hq (H A D cnt ns) (S A D pw cnt ns) p f = r := by
  obtain ⟨r, hr⟩ := hF (sel hq (S A D pw cnt ns) p) f
  obtain ⟨s, hs⟩ := score_real (H A D cnt ns) (fun f => pw (ix2 f 0)) (sel hq (S A D pw cnt ns) p)
  change S A D pw cnt ns _ = _ at hs
  exact ⟨r * s, by unfold newx; rw [hr, hs]; norm_cast⟩

/-- A row of weights that takes `z`'s entry, a real number, takes it from the three parts too. -/
theorem threefold_take {m : ℕ} (t z : Fin m → EReal) (v : EReal) (w : ((Fin m → EReal) → EReal)) (ht : ∀ z, (∑ x, t x * z x) = w z)
    (hw : w z = v) (hw1 : w (fun x => z x - z x) = v - v) (hw2 : w (fun x => z x - z x - (z x - z x)) = v - v - (v - v)) (hv : ∃ r : ℝ, v = r) :
    threefold t z = v := by
  obtain ⟨r, rfl⟩ := hv
  unfold threefold
  rw [ht, ht fun x => _ - _, ht fun x => _ - _ - _, hw, hw1, hw2]
  norm_cast
  simp

include hF in
/-- A kept node's features times its score. -/
theorem xnew_apply (p : Fin q) (f : Fin d) : xnew B A D pw cnt ns (ix2 p f) = newx L.le (H A D cnt ns) (S A D pw cnt ns) p f := by
  unfold xnew
  rw [L.xnew]
  simp only [L.feat, L.sco]
  exact threefold_take _ _ _ (fun z => z (sel L.le (S A D pw cnt ns) p)) (take_sum L A D pw cnt ns p) rfl rfl rfl
    (newx_real A D pw cnt ns hF L.le p f)

end Cert.Body
-- ==== Proof.BodyOuts.lean ====
/- What a body gives for one graph, and its running sums, from its laws. -/
module

public import proofs.«01_k».proof.Proof.BodyEdges

@[expose] public section

noncomputable section

namespace Cert.Body

open Cert.Pool Cert.Words
open Idealize.ShloMosaic

variable {n q d o : ℕ} [NeZero q] {B : Steps Ideal n q d o} (L : Laws B)
variable (hq : q ≤ n) (A D : Mat Ideal 1 d) (pw : Mat Ideal d 128) (W : Mat Ideal (2 * d) o) (b : Mat Ideal 1 o)

section one
variable (cnt : Stack Ideal 1 n 8) (ns : Stack Ideal 1 n d) (nb : Nums 1 n 8) (mk : Stack Ideal 1 n 8)
variable (N : Fin n → Fin 4 → Fin n)

/-- The features of the kept nodes' edges, before the mask. -/
def E (p : Fin q) (e : Fin 4) (j : Fin o) : EReal :=
  edge hq (H A D cnt ns) (S A D pw cnt ns) N (fun f j => W (ix2 (top f) j)) (fun f j => W (ix2 (bot f) j)) (fun j => b (ix2 0 j)) p e j

/-- The mask of the kept nodes' edges. -/
def MM (p : Fin q) (e : Fin 4) : EReal := newmask hq (S A D pw cnt ns) N (fun i e => mk (ix3 0 i (lo e))) p e

/-- The features of the kept nodes' edges. -/
def ME (p : Fin q) (e : Fin 4) (j : Fin o) : EReal := E hq A D pw W b cnt ns N p e j * MM hq A D pw cnt ns mk N p e

variable (hN : ∀ i e, nb (ix3 0 i (lo e)) = BitVec.ofNat 32 (N i e).val) (hF : Finite A D cnt ns)

include hN hF in
theorem edg_apply (p : Fin q) (e : Fin 4) (j : Fin o) :
    B.edg W b (xnew B A D pw cnt ns) (takeSrc B A D pw cnt ns nb mk) (ix2 (at4 e p) j) = E L.le A D pw W b cnt ns N p e j := by
  have hT : ∀ z : Fin q → EReal, (∑ x, takeSrc B A D pw cnt ns nb mk (ix2 (at4 e p) x) * z x) = z (newsrc L.le (S A D pw cnt ns) N p e) := by
    intro z
    simp only [takeSrc_apply L _ _ _ _ _ _ _ N hN]
    exact sum_take _ z _ fun x => by simp [Fin.ext_iff]
  rw [L.edg]
  simp only [xnew_apply L A D pw cnt ns hF]
  unfold E edge
  refine congrArg (max · 0) (congrArg (· + _) (congrArg₂ (· + ·) rfl (Finset.sum_congr rfl fun f _ => congrArg (· * _) (congrArg (· - _) ?_))))
  exact threefold_take _ _ _ (fun z => z (newsrc L.le (S A D pw cnt ns) N p e)) hT rfl rfl rfl
    (newx_real A D pw cnt ns hF L.le _ f)

include hN hF in
theorem med_apply (p : Fin q) (e : Fin 4) (j : Fin o) :
    B.med W b (xnew B A D pw cnt ns) (msk B A D pw cnt ns nb mk) (takeSrc B A D pw cnt ns nb mk) (ix2 (at4 e p) j)
      = ME L.le A D pw W b cnt ns mk N p e j := by
  rw [L.med, edg_apply L A D pw W b cnt ns nb mk N hN hF, msk_apply L A D pw cnt ns nb mk N hN]
  rfl

include hN hF in
theorem outSum_apply (p : Fin q) (j : Fin o) :
    outSum B A D pw W b cnt ns nb mk (ix3 0 p j) = ∑ e, ME L.le A D pw W b cnt ns mk N p e j := by
  unfold outSum
  rw [L.outSum]
  simp only [med_apply L A D pw W b cnt ns nb mk N hN hF]

include hN in
theorem outCnt_apply (p : Fin q) (j : Fin 8) : outCnt B A D pw cnt ns nb mk (ix3 0 p j) = ∑ e, MM L.le A D pw cnt ns mk N p e := by
  unfold outCnt
  rw [L.outCnt]
  exact Finset.sum_congr rfl fun e _ => msk_apply L A D pw cnt ns nb mk N hN p e

include hN in
theorem outSrc_apply (p : Fin q) (j : Fin 8) : outSrc B A D pw cnt ns nb mk (ix3 0 p j)
    = if h : j.val < 4 then BitVec.ofNat 32 (newsrc L.le (S A D pw cnt ns) N p ⟨j.val, h⟩).val else 0#32 := by
  unfold outSrc
  rw [L.outSrc]
  simp only [src_apply L A D pw cnt ns nb mk N hN]

include hN in
theorem outMsk_apply (p : Fin q) (j : Fin 8) : outMsk B A D pw cnt ns nb mk (ix3 0 p j)
    = if h : j.val < 4 then MM L.le A D pw cnt ns mk N p ⟨j.val, h⟩ else 0 := by
  unfold outMsk
  rw [L.outMsk]
  simp only [msk_apply L A D pw cnt ns nb mk N hN]
  rfl

include hN hF in
theorem sumOn_apply (acc : Mat Ideal 1 o) (j : Fin o) : sumOn B A D pw W b cnt ns nb mk acc (ix2 0 j)
    = acc (ix2 0 j) + ∑ p, ∑ e, ME L.le A D pw W b cnt ns mk N p e j := by
  unfold sumOn
  rw [L.sumOn]
  simp only [med_apply L A D pw W b cnt ns nb mk N hN hF]

include hN hF in
theorem sqOn_apply (acc : Mat Ideal 1 o) (j : Fin o) : sqOn B A D pw W b cnt ns nb mk acc (ix2 0 j)
    = acc (ix2 0 j) + ∑ p, ∑ e, ME L.le A D pw W b cnt ns mk N p e j * E L.le A D pw W b cnt ns N p e j := by
  unfold sqOn
  rw [L.sqOn]
  simp only [med_apply L A D pw W b cnt ns nb mk N hN hF, edg_apply L A D pw W b cnt ns nb mk N hN hF]

include hN in
theorem numOn_apply (acc : Mat Ideal 1 1) : numOn B A D pw cnt ns nb mk acc (ix2 0 0)
    = acc (ix2 0 0) + ∑ p, ∑ e, MM L.le A D pw cnt ns mk N p e := by
  unfold numOn
  rw [L.numOn]
  simp only [msk_apply L A D pw cnt ns nb mk N hN]
  rfl

end one

section five
variable (cnt : Stack Ideal 5 n 8) (ns : Stack Ideal 5 n d) (nb : Nums 5 n 8) (mk : Stack Ideal 5 n 8)
variable (N : Fin 5 → Fin n → Fin 4 → Fin n) (hN : ∀ g i e, gr nb g (ix3 0 i (lo e)) = BitVec.ofNat 32 (N g i e).val)
variable (hF : ∀ g, Finite A D (gr cnt g) (gr ns g))

include hN hF in
theorem sums_apply (j : Fin o) : ∀ (r : ℕ) (h : r ≤ 5), sums B A D pw W b cnt ns nb mk r h (ix2 0 j)
    = ∑ g : Fin r, ∑ p, ∑ e, ME L.le A D pw W b (gr cnt (g.castLE h)) (gr ns (g.castLE h)) (gr mk (g.castLE h)) (N (g.castLE h)) p e j
  | 0, _ => by
    rw [sums, L.sum0, Finset.univ_eq_empty, Finset.sum_empty]
  | r + 1, h => by
    rw [sums, sumOn_apply L A D pw W b _ _ _ _ _ (hN ⟨r, h⟩) (hF ⟨r, h⟩), sums_apply j r (Nat.le_of_succ_le h)]
    rw [Fin.sum_univ_castSucc (n := r)]
    rfl

include hN hF in
theorem sqs_apply (j : Fin o) : ∀ (r : ℕ) (h : r ≤ 5), sqs B A D pw W b cnt ns nb mk r h (ix2 0 j)
    = ∑ g : Fin r, ∑ p, ∑ e, ME L.le A D pw W b (gr cnt (g.castLE h)) (gr ns (g.castLE h)) (gr mk (g.castLE h)) (N (g.castLE h)) p e j
        * E L.le A D pw W b (gr cnt (g.castLE h)) (gr ns (g.castLE h)) (N (g.castLE h)) p e j
  | 0, _ => by
    rw [sqs, L.sq0, Finset.univ_eq_empty, Finset.sum_empty]
  | r + 1, h => by
    rw [sqs, sqOn_apply L A D pw W b _ _ _ _ _ (hN ⟨r, h⟩) (hF ⟨r, h⟩), sqs_apply j r (Nat.le_of_succ_le h)]
    rw [Fin.sum_univ_castSucc (n := r)]
    rfl

include hN in
theorem nums_apply : ∀ (r : ℕ) (h : r ≤ 5), nums B A D pw cnt ns nb mk r h (ix2 0 0)
    = ∑ g : Fin r, ∑ p, ∑ e, MM L.le A D pw (gr cnt (g.castLE h)) (gr ns (g.castLE h)) (gr mk (g.castLE h)) (N (g.castLE h)) p e
  | 0, _ => by
    rw [nums, L.num0, Finset.univ_eq_empty, Finset.sum_empty]
  | r + 1, h => by
    rw [nums, numOn_apply L A D pw _ _ _ _ _ (hN ⟨r, h⟩), nums_apply r (Nat.le_of_succ_le h)]
    rw [Fin.sum_univ_castSucc (n := r)]
    rfl

/-- What a block of five graphs adds to the sums for the next batch norm: the edges' features, their squares, the number
    of edges, and nothing in the rows after. -/
def addStats (r : Fin 8) (j : Fin o) : EReal :=
  if r.val < 1 then ∑ g, ∑ p, ∑ e, ME hq A D pw W b (gr cnt g) (gr ns g) (gr mk g) (N g) p e j
  else if r.val - 1 < 1 then ∑ g, ∑ p, ∑ e, ME hq A D pw W b (gr cnt g) (gr ns g) (gr mk g) (N g) p e j * E hq A D pw W b (gr cnt g) (gr ns g) (N g) p e j
  else if r.val - 1 - 1 < 1 then ∑ g, ∑ p, ∑ e, MM hq A D pw (gr cnt g) (gr ns g) (gr mk g) (N g) p e
  else 0

include hN hF in
theorem statsOn_apply (prev : Mat Ideal 8 o) (r : Fin 8) (j : Fin o) : statsOn B A D pw W b cnt ns nb mk prev (ix2 r j)
    = prev (ix2 r j) + addStats L.le A D pw W b cnt ns mk N r j := by
  unfold statsOn
  rw [L.statsOn, sums_apply L A D pw W b cnt ns nb mk N hN hF j 5 le_rfl, sqs_apply L A D pw W b cnt ns nb mk N hN hF j 5 le_rfl,
    nums_apply L A D pw cnt ns nb mk N hN 5 le_rfl]
  rfl

end five

end Cert.Body
-- ==== Proof.Norm.lean ====
/- The normalised node feature in two orders of operations: the kernel folds the batch norm into one scale and one
   shift and divides by the count; the reference normalises the sum over the members, then divides by the count. Over
   the reals, with a count of zero or at least one, they are the same number. -/
module

public import Idealize.ShloMosaic.Lib.IdealHost
public import Idealize.ShloMosaic.PureOps

@[expose] public section

noncomputable section

namespace Cert.Norm

open Idealize.ShloMosaic

/-- The constant added to the variance is a positive real. -/
theorem eps_pos : ∃ e : ℝ, 0 < e ∧ Ideal.ofBits FTy.f32 925353388#32 = (e : EReal) := by
  refine ⟨?_, ?_, ?_⟩
  rotate_left 2
  · simp [Ideal.ofBits, Ideal.ieee]
    rfl
  · positivity

/-- Subtraction of reals in the extended reals. -/
theorem sub_real (a b : ℝ) : ((a : EReal) - (b : EReal)) = ((a - b : ℝ) : EReal) := (EReal.coe_sub a b).symm

/-- A quotient of reals with a nonzero divisor. -/
theorem div_real (a : ℝ) {b : ℝ} (hb : b ≠ 0) : Ideal.div (a : EReal) (b : EReal) = ((a / b : ℝ) : EReal) := by
  rw [Ideal.div_coe hb, ← EReal.coe_mul]; congr 1; ring

/-- The larger of two reals. -/
theorem max_real (a b : ℝ) : max (a : EReal) (b : EReal) = ((max a b : ℝ) : EReal) := (EReal.coe_strictMono.monotone.map_max).symm

/-- The larger of a real and one. -/
theorem max_one (a : ℝ) : max (a : EReal) 1 = ((max a 1 : ℝ) : EReal) := max_real a 1

/-- The square root of the variance plus the constant, and what the two orders of operations share. -/
theorem fold (s0 s1 s2 g be ns c : ℝ) (e : EReal) (he : ∃ r : ℝ, 0 < r ∧ e = (r : EReal)) (hv : s0 * s0 ≤ s1 * max s2 1)
    (hc : c = 0 ∨ 1 ≤ c) :
    ∃ r : ℝ,
      Ideal.div (Ideal.div ((ns : EReal) - c * Ideal.div s0 (max (s2 : EReal) 1))
          (Ideal.sqrt (Ideal.div s1 (max (s2 : EReal) 1) - Ideal.div s0 (max (s2 : EReal) 1) * Ideal.div s0 (max (s2 : EReal) 1) + e)) * g
          + c * be) (max (c : EReal) 1) = r
      ∧ Ideal.div g (Ideal.sqrt (Ideal.div s1 (max (s2 : EReal) 1) - Ideal.div s0 (max (s2 : EReal) 1) * Ideal.div s0 (max (s2 : EReal) 1) + e))
            * Ideal.div ns (max (c : EReal) 1)
          + ((be : EReal) - Ideal.div s0 (max (s2 : EReal) 1)
              * Ideal.div g (Ideal.sqrt (Ideal.div s1 (max (s2 : EReal) 1) - Ideal.div s0 (max (s2 : EReal) 1) * Ideal.div s0 (max (s2 : EReal) 1) + e)))
            * (if (0 : EReal) < c then 1 else 0) = r := by
  obtain ⟨r, hr, rfl⟩ := he
  have ht : 0 < max s2 1 := lt_of_lt_of_le one_pos (le_max_right _ _)
  have hm : 0 < max c 1 := lt_of_lt_of_le one_pos (le_max_right _ _)
  rw [max_one, max_one]
  generalize max s2 1 = t at *
  have hw : 0 < s1 / t - s0 / t * (s0 / t) + r := by
    have : s1 / t - s0 / t * (s0 / t) = (s1 * t - s0 * s0) / (t * t) := by field_simp
    rw [this]
    have := div_nonneg (sub_nonneg.2 hv) (mul_pos ht ht).le
    linarith
  have hs : 0 < Real.sqrt (s1 / t - s0 / t * (s0 / t) + r) := Real.sqrt_pos.2 hw
  have hq : Ideal.sqrt (((s1 / t : ℝ) : EReal) - ((s0 / t : ℝ) : EReal) * ((s0 / t : ℝ) : EReal) + (r : EReal))
      = ((Real.sqrt (s1 / t - s0 / t * (s0 / t) + r) : ℝ) : EReal) := by
    rw [← EReal.coe_mul, sub_real, ← EReal.coe_add, Ideal.sqrt_coe, if_neg (not_lt.2 hw.le)]
  rw [div_real s0 ht.ne', div_real s1 ht.ne', div_real ns hm.ne', hq]
  generalize Real.sqrt (s1 / t - s0 / t * (s0 / t) + r) = σ at *
  simp only [div_real _ hs.ne', div_real _ hm.ne', ← EReal.coe_mul, sub_real, ← EReal.coe_add]
  refine ⟨_, rfl, ?_⟩
  rcases hc with rfl | hc
  · rw [if_neg (by simp), mul_zero, add_zero]
    congr 1
    have : max (0:ℝ) 1 = 1 := max_eq_right zero_le_one
    rw [this]; field_simp; ring
  · have h0 : 0 < c := lt_of_lt_of_le one_pos hc
    rw [if_pos (by exact_mod_cast h0), mul_one, ← EReal.coe_add]
    congr 1
    rw [max_eq_left hc]; field_simp; ring

end Cert.Norm

end
-- ==== Proof.Pooled.lean ====
/- What a pooling and the edge convolution after it give for all fifty graphs, in extended reals, from the ten arguments; and
   that a body whose steps satisfy the laws leaves exactly this, under the precondition. -/
module

public import proofs.«01_k».proof.Proof.Blocks
public import proofs.«01_k».proof.Proof.BodyOuts
public import proofs.«01_k».proof.Proof.Norm

@[expose] public section

noncomputable section

namespace Cert.Body

open Cert.Pool Cert.Words
open Idealize.ShloMosaic

variable {n q d o : ℕ} [NeZero q] (x : Args Ideal n d o)

/-! ## The layer -/

/-- A node's features: the batch norm of its edges' sum, over the number of edges. -/
def hh (b : Fin 50) (i : Fin n) (f : Fin d) : EReal :=
  Ideal.div (Ideal.div (x.ns (ix3 b i f) - x.cnt (ix3 b i 0) * Ideal.div (x.st (ix2 0 f)) (max (x.st (ix2 2 f)) 1))
      (Ideal.sqrt (Ideal.div (x.st (ix2 1 f)) (max (x.st (ix2 2 f)) 1)
        - Ideal.div (x.st (ix2 0 f)) (max (x.st (ix2 2 f)) 1) * Ideal.div (x.st (ix2 0 f)) (max (x.st (ix2 2 f)) 1)
        + Ideal.ofBits FTy.f32 925353388#32)) * x.g (ix1 f)
      + x.cnt (ix3 b i 0) * x.be (ix1 f)) (max (x.cnt (ix3 b i 0)) 1)

/-- The nodes' scores. -/
def ss (b : Fin 50) : Fin n → EReal := score (hh x b) fun f => x.dir (ix1 f)

variable (hq : q ≤ n) (N : Fin 50 → Fin n → Fin 4 → Fin n)

/-- The features of the kept nodes' edges of graph `b`, before the mask. -/
def EE (b : Fin 50) (p : Fin q) (e : Fin 4) (j : Fin o) : EReal :=
  edge hq (hh x b) (ss x b) (N b) (fun f j => x.W (ix2 (top f) j)) (fun f j => x.W (ix2 (bot f) j)) (fun j => x.b (ix1 j)) p e j

/-- The mask of the kept nodes' edges of graph `b`. -/
def KK (b : Fin 50) (p : Fin q) (e : Fin 4) : EReal := newmask hq (ss x b) (N b) (fun i e => x.mask (ix3 b i (lo e))) p e

/-- What graph `b` adds to the sums for the next batch norm: its edges' features, their squares, its number of edges, and
    nothing in the rows after. -/
def part (r : Fin 8) (j : Fin o) (b : Fin 50) : EReal :=
  if r.val < 1 then ∑ p : Fin q, ∑ e, EE x hq N b p e j * KK x hq N b p e
  else if r.val - 1 < 1 then ∑ p : Fin q, ∑ e, EE x hq N b p e j * KK x hq N b p e * EE x hq N b p e j
  else if r.val - 1 - 1 < 1 then ∑ p : Fin q, ∑ e, KK x hq N b p e
  else 0

/-! ## The precondition -/

/-- What the precondition says of the arguments: the neighbour sums, the counts, the three rows of statistics, the
    scale and the shift are finite; a count is zero or at least one; the variance is not negative; a neighbour is one of
    the nodes. -/
structure Ok : Prop where
  sums : ∀ b i f, ∃ r : ℝ, x.ns (ix3 b i f) = (r : EReal)
  counts : ∀ b i, ∃ r : ℝ, x.cnt (ix3 b i 0) = (r : EReal)
  stats : ∀ (r : Fin 3) f, ∃ y : ℝ, x.st (ix2 (r.castLE (by decide)) f) = (y : EReal)
  scale : ∀ f, ∃ r : ℝ, x.g (ix1 f) = (r : EReal)
  shift : ∀ f, ∃ r : ℝ, x.be (ix1 f) = (r : EReal)
  whole : ∀ b i, x.cnt (ix3 b i 0) = 0 ∨ 1 ≤ x.cnt (ix3 b i 0)
  vars : ∀ f, x.st (ix2 0 f) * x.st (ix2 0 f) ≤ x.st (ix2 1 f) * max (x.st (ix2 2 f)) 1
  near : ∀ b i (e : Fin 4), ∃ k : Fin n, x.nb (ix3 b i (lo e)) = BitVec.ofNat 32 k.val

/-- The neighbours as numbers. -/
theorem neighbours (ok : Ok x) : ∃ N : Fin 50 → Fin n → Fin 4 → Fin n, ∀ b i (e : Fin 4), x.nb (ix3 b i (lo e)) = BitVec.ofNat 32 (N b i e).val := by
  choose N hN using ok.near
  exact ⟨N, hN⟩

/-! ## What a body leaves -/

variable {B : Steps Ideal n q d o} (L : Laws B) (ok : Ok x)

include L ok in
theorem feature (b : Fin 50) (i : Fin n) (f : Fin d) : ∃ r : ℝ, hh x b i f = r ∧ H (sc B x) (sh B x) (grf x.cnt b) (grf x.ns b) i f = r := by
  obtain ⟨ns, h0⟩ := ok.sums b i f
  obtain ⟨c, h1⟩ := ok.counts b i
  obtain ⟨s0, e0⟩ := ok.stats 0 f
  obtain ⟨s1, e1⟩ := ok.stats 1 f
  obtain ⟨s2, e2⟩ := ok.stats 2 f
  obtain ⟨g, h5⟩ := ok.scale f
  obtain ⟨be, h6⟩ := ok.shift f
  have hv := ok.vars f
  have hw := ok.whole b i
  replace e0 : x.st (ix2 0 f) = (s0 : EReal) := e0
  replace e1 : x.st (ix2 1 f) = (s1 : EReal) := e1
  replace e2 : x.st (ix2 2 f) = (s2 : EReal) := e2
  rw [e0, e1, e2, Norm.max_one, ← EReal.coe_mul, ← EReal.coe_mul, EReal.coe_le_coe_iff] at hv
  rw [h1] at hw
  have hw' : c = 0 ∨ 1 ≤ c := hw.imp (fun h => by exact_mod_cast h) fun h => by exact_mod_cast h
  obtain ⟨r, hr, hk'⟩ := Norm.fold s0 s1 s2 g be ns c _ Norm.eps_pos hv hw'
  refine ⟨r, ?_, ?_⟩
  · unfold hh
    rw [e0, e1, e2, h0, h1, h5, h6]
    exact hr
  · rw [← hk']
    unfold H
    have a : sc B x (ix2 0 f) = factor s0 s1 s2 g := by
      rw [← e0, ← e1, ← e2, ← h5]; exact L.scale _ _ _ _ f
    have t : sh B x (ix2 0 f) = be - Ideal.div s0 (max s2 1) * factor s0 s1 s2 g := by
      rw [← e0, ← e1, ← e2, ← h5, ← h6]; exact L.shift _ _ _ _ _ f
    have hg1 : grf x.cnt b (ix3 0 i 0) = (c : EReal) := h1
    have hg0 : grf x.ns b (ix3 0 i f) = (ns : EReal) := h0
    rw [a, t, hg1, hg0]
    rfl

include L ok in
/-- The body's features are the layer's, and real numbers. -/
theorem H_eq (b : Fin 50) : H (sc B x) (sh B x) (grf x.cnt b) (grf x.ns b) = hh x b := by
  funext i f
  obtain ⟨r, h1, h2⟩ := feature x L ok b i f
  rw [h1, h2]

include L ok in
theorem finite (b : Fin 50) : Finite (sc B x) (sh B x) (grf x.cnt b) (grf x.ns b) := fun i f => (feature x L ok b i f).imp fun _ h => h.2

variable (pw : Mat Ideal d 128) (hp : ∀ f, pw (ix2 f 0) = x.dir (ix1 f))

include L ok hp in
/-- The body's scores are the layer's. -/
theorem S_eq (b : Fin 50) : S (sc B x) (sh B x) pw (grf x.cnt b) (grf x.ns b) = ss x b := by
  unfold S ss
  rw [H_eq x L ok b]
  exact congrArg (score _) (funext hp)

include L ok hp in
theorem E_eq (b : Fin 50) (p : Fin q) (e : Fin 4) (j : Fin o) :
    E L.le (sc B x) (sh B x) pw x.W (rowOf x.b) (grf x.cnt b) (grf x.ns b) (N b) p e j = EE x L.le N b p e j := by
  unfold E EE
  rw [H_eq x L ok b, S_eq x L ok pw hp b]
  rfl

include L ok hp in
theorem MM_eq (b : Fin 50) (p : Fin q) (e : Fin 4) :
    MM L.le (sc B x) (sh B x) pw (grf x.cnt b) (grf x.ns b) (grf x.mask b) (N b) p e = KK x L.le N b p e := by
  unfold MM KK
  rw [S_eq x L ok pw hp b]
  rfl

variable (hN : ∀ b i (e : Fin 4), x.nb (ix3 b i (lo e)) = BitVec.ofNat 32 (N b i e).val)

include L ok hp hN in
/-- The sums over a kept node's edges. -/
theorem sum_apply (b : Fin 50) (p : Fin q) (j : Fin o) :
    arrOf (sumG B x pw) (ix3 b p j) = ∑ e, EE x L.le N b p e j * KK x L.le N b p e := by
  show sumG B x pw b (ix3 0 p j) = _
  refine (outSum_apply L _ _ _ _ _ _ _ _ _ (N b) (hN b) (finite x L ok b) p j).trans ?_
  unfold ME
  refine Finset.sum_congr rfl fun e _ => ?_
  rw [E_eq x N L ok pw hp, MM_eq x N L ok pw hp]

include L ok hp hN in
/-- The numbers of a kept node's edges. -/
theorem cnt_apply (b : Fin 50) (p : Fin q) (j : Fin 8) : arrOf (cntG B x pw) (ix3 b p j) = ∑ e, KK x L.le N b p e := by
  show cntG B x pw b (ix3 0 p j) = _
  refine (outCnt_apply L _ _ _ _ _ _ _ (N b) (hN b) p j).trans ?_
  exact Finset.sum_congr rfl fun e _ => MM_eq x N L ok pw hp b p e

include L ok hp hN in
/-- The sources of a kept node's edges. -/
theorem srcs_apply (b : Fin 50) (p : Fin q) (j : Fin 8) : arrOf (srcG B x pw) (ix3 b p j)
    = if h : j.val < 4 then BitVec.ofNat 32 (newsrc L.le (ss x b) (N b) p ⟨j.val, h⟩).val else 0#32 := by
  show srcG B x pw b (ix3 0 p j) = _
  refine (outSrc_apply L _ _ _ _ _ _ _ (N b) (hN b) p j).trans ?_
  rw [S_eq x L ok pw hp b]

include L ok hp hN in
/-- The mask of a kept node's edges. -/
theorem mask_apply (b : Fin 50) (p : Fin q) (j : Fin 8) : arrOf (mskG B x pw) (ix3 b p j)
    = if h : j.val < 4 then KK x L.le N b p ⟨j.val, h⟩ else 0 := by
  show mskG B x pw b (ix3 0 p j) = _
  refine (outMsk_apply L _ _ _ _ _ _ _ (N b) (hN b) p j).trans ?_
  simp only [MM_eq x N L ok pw hp]

include L ok hp in
/-- What a block of five graphs adds to the sums. -/
theorem block_add (t : Fin 10) (r : Fin 8) (j : Fin o) :
    addStats L.le (sc B x) (sh B x) pw x.W (rowOf x.b) (blk x.cnt t) (blk x.ns t) (blk x.mask t) (fun g => N (gAt t g)) r j
      = ∑ g, part x L.le N r j (gAt t g) := by
  unfold addStats part ME
  simp only [gr_blk, E_eq x N L ok pw hp, MM_eq x N L ok pw hp]
  by_cases a1 : r.val < 1
  · simp only [if_pos a1]
  simp only [if_neg a1]
  by_cases a2 : r.val - 1 < 1
  · simp only [if_pos a2]
  simp only [if_neg a2]
  by_cases a3 : r.val - 1 - 1 < 1
  · simp only [if_pos a3]
  · simp only [if_neg a3, Finset.sum_const_zero]

include L ok hp hN in
theorem statsAt_apply (t : Fin 10) (prev : Mat Ideal 8 o) (r : Fin 8) (j : Fin o) :
    statsAt B x pw t prev (ix2 r j) = prev (ix2 r j) + ∑ g, part x L.le N r j (gAt t g) := by
  rw [← block_add x N L ok pw hp t r j]
  exact statsOn_apply L _ _ _ _ _ (blk x.cnt t) (blk x.ns t) (blk x.nb t) (blk x.mask t) (fun g => N (gAt t g)) (fun g => hN (gAt t g)) (fun g => finite x L ok (gAt t g)) prev r j

include L ok hp hN in
theorem statsTo_apply (r : Fin 8) (j : Fin o) : ∀ (k : ℕ) (h : k < 10), statsTo B x pw k h (ix2 r j)
    = ∑ t : Fin (k + 1), ∑ g, part x L.le N r j (gAt (t.castLE h) g)
  | 0, h => by
    rw [statsTo, statsAt_apply x N L ok pw hp hN, L.stats0, zero_add, Fin.sum_univ_one]
    rfl
  | k + 1, h => by
    rw [statsTo, statsAt_apply x N L ok pw hp hN, statsTo_apply r j k, Fin.sum_univ_castSucc (n := k + 1)]
    rfl

include L ok hp hN in
/-- The sums for the next batch norm: ten blocks of five graphs are the fifty graphs. -/
theorem stats_apply (r : Fin 8) (j : Fin o) : statsTo B x pw 9 (by norm_num) (ix2 r j) = ∑ b, part x L.le N r j b := by
  rw [statsTo_apply x N L ok pw hp hN, ← Equiv.sum_comp (finProdFinEquiv (m := 10) (n := 5)) (part x L.le N r j), Fintype.sum_prod_type]
  refine Finset.sum_congr rfl fun t _ => Finset.sum_congr rfl fun g _ => congrArg _ (Fin.ext ?_)
  show 5 * t.val + g.val = g.val + 5 * t.val
  omega

end Cert.Body
-- ==== Proof.Pick.lean ====
/- How a reference picks nodes, for any numbers of nodes and features: rankings, gathers and scatter read at an index. -/
module

public import proofs.«01_k».proof.Proof.Layer
public import proofs.«01_k».proof.Proof.Words
public import Idealize.ShloMosaic.Lib.Routing.OpsPair
public import Idealize.ShloMosaic.Lib.Routing.OpsSet
public import Idealize.ShloMosaic.Lib.Pointwise
public import Idealize.ShloMosaic.Lib.IdealHost

@[expose] public section

set_option maxRecDepth 16384

noncomputable section

namespace Cert.Pick

open Cert.Pool Cert.Words
open Idealize.ShloMosaic Idealize.ShloMosaic.TcCoe

variable {n q d : ℕ}

/-- A word of a number below the size of an axis, as a gather reads it. -/
theorem clamp_word {n s : ℕ} (h : n < s) (hs : s ≤ 2 ^ 31) : min (BitVec.ofNat 32 n).toInt.toNat (s - 1) = n := by
  rw [toInt_small (by omega)]; simp; omega

/-- A number's word, wrapped as an index, is itself. -/
theorem wrap_small {n : ℕ} (h : n < 2 ^ 31) (a : BitVec 32) :
    Scalar.select (IntOp.cmpi .slt (BitVec.ofNat 32 n) 0#32) a (BitVec.ofNat 32 n) = BitVec.ofNat 32 n := by
  rw [not_slt_zero h]; rfl

/-- The gather of one row per kept node, of one entry per edge, and of one row per edge. -/
abbrev rows (wf : GatherDims.WF ⟨3, ![50, n, d]⟩ ⟨3, ![50, q, 2]⟩ ⟨3, ![50, q, d]⟩ [2] [0, 1] [] [0, 1] [] 2 ![1, 1, d]) :
    GatherDims ⟨3, ![50, n, d]⟩ ⟨3, ![50, q, 2]⟩ ⟨3, ![50, q, d]⟩ := ⟨[2], [0, 1], [], [], [0, 1], 2, ![1, 1, d], wf⟩
abbrev entries (wf : GatherDims.WF ⟨2, ![50, n]⟩ ⟨4, ![50, q, 4, 2]⟩ ⟨3, ![50, q, 4]⟩ [] [0, 1] [] [0, 1] [] 3 ![1, 1]) :
    GatherDims ⟨2, ![50, n]⟩ ⟨4, ![50, q, 4, 2]⟩ ⟨3, ![50, q, 4]⟩ := ⟨[], [0, 1], [], [], [0, 1], 3, ![1, 1], wf⟩
abbrev rows4 (wf : GatherDims.WF ⟨3, ![50, n, d]⟩ ⟨4, ![50, q, 4, 2]⟩ ⟨4, ![50, q, 4, d]⟩ [3] [0, 1] [] [0, 1] [] 3 ![1, 1, d]) :
    GatherDims ⟨3, ![50, n, d]⟩ ⟨4, ![50, q, 4, 2]⟩ ⟨4, ![50, q, 4, d]⟩ := ⟨[3], [0, 1], [], [], [0, 1], 3, ![1, 1, d], wf⟩

theorem rows_apply {α : Type} (hn : n ≤ 2 ^ 31) (wf) (x : (⟨3, ![50, n, d]⟩ : Shape).Idx → α) (idx : IVec ⟨3, ![50, q, 2]⟩ 32) (b : Fin 50) (p : Fin q) (f : Fin d) (i : Fin n)
    (h0 : idx (ix3 b p 0) = BitVec.ofNat 32 b.val) (h1 : idx (ix3 b p 1) = BitVec.ofNat 32 i.val) :
    Host.gather (rows wf) x idx (ix3 b p f) = x (ix3 b i f) := by
  unfold Host.gather
  refine congrArg x (funext fun a => Fin.ext ?_)
  have hv : ∀ a : Fin 3, (GatherDims.operandIdx (rows wf) (ix3 b p f) idx a).val
      = ![min (idx (ix3 b p 0)).toInt.toNat (50 - 1), min (idx (ix3 b p 1)).toInt.toNat (n - 1), f.val] a := by
    intro a
    have e0 : GatherDims.siIdx (rows wf) (ix3 b p f) ⟨0, (by decide : 0 < 2)⟩ = ix3 b p 0 := by
      funext c; fin_cases c <;> rfl
    have e1 : GatherDims.siIdx (rows wf) (ix3 b p f) ⟨1, (by decide : 1 < 2)⟩ = ix3 b p 1 := by
      funext c; fin_cases c <;> rfl
    rw [← e0, ← e1]
    fin_cases a
    · rfl
    · rfl
    · exact (Nat.zero_add _)
  refine (hv a).trans ?_
  rw [h0, h1, clamp_word b.isLt (by norm_num), clamp_word i.isLt hn]
  fin_cases a <;> rfl

theorem entries_apply {α : Type} (hn : n ≤ 2 ^ 31) (wf) (x : (⟨2, ![50, n]⟩ : Shape).Idx → α) (idx : IVec ⟨4, ![50, q, 4, 2]⟩ 32) (b : Fin 50) (p : Fin q) (e : Fin 4) (i : Fin n)
    (h0 : idx (ix4 b p e 0) = BitVec.ofNat 32 b.val) (h1 : idx (ix4 b p e 1) = BitVec.ofNat 32 i.val) :
    Host.gather (entries wf) x idx (ix3 b p e) = x (ix2 b i) := by
  unfold Host.gather
  refine congrArg x (funext fun a => Fin.ext ?_)
  have hv : ∀ a : Fin 2, (GatherDims.operandIdx (entries wf) (ix3 b p e) idx a).val
      = ![min (idx (ix4 b p e 0)).toInt.toNat (50 - 1), min (idx (ix4 b p e 1)).toInt.toNat (n - 1)] a := by
    intro a
    have e0 : GatherDims.siIdx (entries wf) (ix3 b p e) ⟨0, (by decide : 0 < 2)⟩ = ix4 b p e 0 := by
      funext c; fin_cases c <;> rfl
    have e1 : GatherDims.siIdx (entries wf) (ix3 b p e) ⟨1, (by decide : 1 < 2)⟩ = ix4 b p e 1 := by
      funext c; fin_cases c <;> rfl
    rw [← e0, ← e1]
    fin_cases a <;> rfl
  refine (hv a).trans ?_
  rw [h0, h1, clamp_word b.isLt (by norm_num), clamp_word i.isLt hn]
  fin_cases a <;> rfl

theorem rows4_apply {α : Type} (hn : n ≤ 2 ^ 31) (wf) (x : (⟨3, ![50, n, d]⟩ : Shape).Idx → α) (idx : IVec ⟨4, ![50, q, 4, 2]⟩ 32) (b : Fin 50) (p : Fin q) (e : Fin 4) (f : Fin d) (i : Fin n)
    (h0 : idx (ix4 b p e 0) = BitVec.ofNat 32 b.val) (h1 : idx (ix4 b p e 1) = BitVec.ofNat 32 i.val) :
    Host.gather (rows4 wf) x idx (ix4 b p e f) = x (ix3 b i f) := by
  unfold Host.gather
  refine congrArg x (funext fun a => Fin.ext ?_)
  have hv : ∀ a : Fin 3, (GatherDims.operandIdx (rows4 wf) (ix4 b p e f) idx a).val
      = ![min (idx (ix4 b p e 0)).toInt.toNat (50 - 1), min (idx (ix4 b p e 1)).toInt.toNat (n - 1), f.val] a := by
    intro a
    have e0 : GatherDims.siIdx (rows4 wf) (ix4 b p e f) ⟨0, (by decide : 0 < 2)⟩ = ix4 b p e 0 := by
      funext c; fin_cases c <;> rfl
    have e1 : GatherDims.siIdx (rows4 wf) (ix4 b p e f) ⟨1, (by decide : 1 < 2)⟩ = ix4 b p e 1 := by
      funext c; fin_cases c <;> rfl
    rw [← e0, ← e1]
    fin_cases a
    · rfl
    · rfl
    · exact (Nat.zero_add _)
  refine (hv a).trans ?_
  rw [h0, h1, clamp_word b.isLt (by norm_num), clamp_word i.isLt hn]
  fin_cases a <;> rfl

/-- The second result of a sort of pairs. -/
theorem sort2_snd {α β : Type} (cmp : α × β → α × β → BitVec 1) (x : (⟨2, ![50, n]⟩ : Shape).Idx → α) (y : (⟨2, ![50, n]⟩ : Shape).Idx → β) (j : (⟨2, ![50, n]⟩ : Shape).Idx) :
    (Host.sort2 ⟨2, ![50, n]⟩ 1 cmp x y).2 j
      = y (j.along 1 (sortedFrom (fun k k' => cmp (x (j.along 1 k), y (j.along 1 k)) (x (j.along 1 k'), y (j.along 1 k')) == 1#1) (j 1))) := by
  unfold Host.sort2
  rw [dif_pos (show (1 : ℕ) < 2 by decide)]
  rfl

/-- The indices of the greatest scores of a graph, in the order of the ranking. -/
theorem top_apply (hq : q ≤ n) (fits) (x : FVec Ideal ⟨2, ![50, n]⟩ .f32) (b : Fin 50) (r : Fin q) :
    (Host.topK ⟨2, ![50, q]⟩ 1 (FloatOps.cmpfTotal (F := Ideal) (φ := .f32) .gt) x fits).2 (ix2 b r)
      = BitVec.ofNat 32 (sortedFrom (before fun i : Fin n => x (ix2 b i)) (r.castLE hq)).val := by
  have hal : ∀ k : Fin n, (ix2 b (r.castLE hq) : (⟨2, ![50, n]⟩ : Shape).Idx).along 1 k = ix2 b k := fun k => by
    funext a; fin_cases a <;> rfl
  have hsl : (fun a => ⟨0 + ((ix2 b r : (⟨2, ![50, q]⟩ : Shape).Idx) (a.cast fits.1.symm)).val,
      Nat.lt_of_lt_of_le (Nat.add_lt_add_left ((ix2 b r : (⟨2, ![50, q]⟩ : Shape).Idx) _).isLt _) (fits.2 a)⟩ : (⟨2, ![50, n]⟩ : Shape).Idx)
      = ix2 b (r.castLE hq) := by
    funext a; fin_cases a <;> exact Fin.ext (Nat.zero_add _)
  have hcmp : (fun k k' : Fin n => FloatOps.cmpfTotal (F := Ideal) (φ := .f32) .gt (x ((ix2 b (r.castLE hq) : (⟨2, ![50, n]⟩ : Shape).Idx).along 1 k))
      (x ((ix2 b (r.castLE hq) : (⟨2, ![50, n]⟩ : Shape).Idx).along 1 k')) == 1#1)
      = fun k k' => decide (x (ix2 b k') < x (ix2 b k)) := by
    funext k k'
    have hc : ∀ u v : EReal, (FloatOps.cmpfTotal (F := Ideal) (φ := .f32) .gt u v == 1#1) = decide (v < u) := fun u v => by
      show (BitVec.ofBool (decide (v < u)) == 1#1) = decide (v < u)
      by_cases h : v < u <;> simp [h]
    exact (congrArg₂ (fun u v => FloatOps.cmpfTotal (F := Ideal) (φ := .f32) .gt u v == 1#1) (congrArg x (hal k)) (congrArg x (hal k'))).trans (hc _ _)
  rw [← sortedFrom_score, ← hcmp]
  have hy : ∀ y : IVec ⟨2, ![50, n]⟩ 32, extractStridedSlice ⟨2, ![50, q]⟩ (fun _ => 0) y fits (ix2 b r)
      = y (ix2 b (r.castLE hq)) := fun y => congrArg y hsl
  unfold Host.topK
  dsimp only
  have hi : ∀ π : Fin n, (fun i : (⟨2, ![50, n]⟩ : Shape).Idx => if hd : 1 < (⟨2, ![50, n]⟩ : Shape).rank then iotaInDim ⟨2, ![50, n]⟩ 32 ⟨1, hd⟩ i else 0#32)
      ((ix2 b (r.castLE hq) : (⟨2, ![50, n]⟩ : Shape).Idx).along 1 π) = BitVec.ofNat 32 π.val := fun π => by
    dsimp only
    rw [dif_pos (show (1 : ℕ) < 2 by decide)]
    rfl
  exact (hy _).trans ((sort2_snd _ _ _ _).trans (hi _))

/-- The same two facts along the last of three axes. -/
theorem sort3_snd {α β : Type} (cmp : α × β → α × β → BitVec 1) (x : (⟨3, ![50, q, n]⟩ : Shape).Idx → α) (y : (⟨3, ![50, q, n]⟩ : Shape).Idx → β) (j : (⟨3, ![50, q, n]⟩ : Shape).Idx) :
    (Host.sort2 ⟨3, ![50, q, n]⟩ 2 cmp x y).2 j
      = y (j.along 2 (sortedFrom (fun k k' => cmp (x (j.along 2 k), y (j.along 2 k)) (x (j.along 2 k'), y (j.along 2 k')) == 1#1) (j 2))) := by
  unfold Host.sort2
  rw [dif_pos (show (2 : ℕ) < 3 by decide)]
  rfl

theorem top3_apply (hq : d ≤ n) (fits) (x : FVec Ideal ⟨3, ![50, q, n]⟩ .f32) (b : Fin 50) (p : Fin q) (r : Fin d) :
    (Host.topK ⟨3, ![50, q, d]⟩ 2 (FloatOps.cmpfTotal (F := Ideal) (φ := .f32) .gt) x fits).2 (ix3 b p r)
      = BitVec.ofNat 32 (sortedFrom (before fun i : Fin n => x (ix3 b p i)) (r.castLE hq)).val := by
  have hal : ∀ k : Fin n, (ix3 b p (r.castLE hq) : (⟨3, ![50, q, n]⟩ : Shape).Idx).along 2 k = ix3 b p k := fun k => by
    funext a; fin_cases a <;> rfl
  have hsl : (fun a => ⟨0 + ((ix3 b p r : (⟨3, ![50, q, d]⟩ : Shape).Idx) (a.cast fits.1.symm)).val,
      Nat.lt_of_lt_of_le (Nat.add_lt_add_left ((ix3 b p r : (⟨3, ![50, q, d]⟩ : Shape).Idx) _).isLt _) (fits.2 a)⟩ : (⟨3, ![50, q, n]⟩ : Shape).Idx)
      = ix3 b p (r.castLE hq) := by
    funext a; fin_cases a <;> exact Fin.ext (Nat.zero_add _)
  have hcmp : (fun k k' : Fin n => FloatOps.cmpfTotal (F := Ideal) (φ := .f32) .gt (x ((ix3 b p (r.castLE hq) : (⟨3, ![50, q, n]⟩ : Shape).Idx).along 2 k))
      (x ((ix3 b p (r.castLE hq) : (⟨3, ![50, q, n]⟩ : Shape).Idx).along 2 k')) == 1#1)
      = fun k k' => decide (x (ix3 b p k') < x (ix3 b p k)) := by
    funext k k'
    have hc : ∀ u v : EReal, (FloatOps.cmpfTotal (F := Ideal) (φ := .f32) .gt u v == 1#1) = decide (v < u) := fun u v => by
      show (BitVec.ofBool (decide (v < u)) == 1#1) = decide (v < u)
      by_cases h : v < u <;> simp [h]
    exact (congrArg₂ (fun u v => FloatOps.cmpfTotal (F := Ideal) (φ := .f32) .gt u v == 1#1) (congrArg x (hal k)) (congrArg x (hal k'))).trans (hc _ _)
  rw [← sortedFrom_score, ← hcmp]
  have hy : ∀ y : IVec ⟨3, ![50, q, n]⟩ 32, extractStridedSlice ⟨3, ![50, q, d]⟩ (fun _ => 0) y fits (ix3 b p r)
      = y (ix3 b p (r.castLE hq)) := fun y => congrArg y hsl
  unfold Host.topK
  dsimp only
  have hi : ∀ π : Fin n, (fun i : (⟨3, ![50, q, n]⟩ : Shape).Idx => if hd : 2 < (⟨3, ![50, q, n]⟩ : Shape).rank then iotaInDim ⟨3, ![50, q, n]⟩ 32 ⟨2, hd⟩ i else 0#32)
      ((ix3 b p (r.castLE hq) : (⟨3, ![50, q, n]⟩ : Shape).Idx).along 2 π) = BitVec.ofNat 32 π.val := fun π => by
    dsimp only
    rw [dif_pos (show (2 : ℕ) < 3 by decide)]
    rfl
  exact (hy _).trans ((sort3_snd _ _ _ _).trans (hi _))

/-- Numbers sorted increasingly. -/
theorem sort_apply (hn : n < 2 ^ 31) (cmp : BitVec 32 → BitVec 32 → BitVec 1) (hc : ∀ u v, cmp u v = IntOp.cmpi .slt u v) (x : IVec ⟨2, ![50, q]⟩ 32) (f : Fin 50 → Fin q → Fin n) (hx : ∀ b r, x (ix2 b r) = BitVec.ofNat 32 (f b r).val)
    (b : Fin 50) (p : Fin q) :
    Host.sort ⟨2, ![50, q]⟩ 1 cmp x (ix2 b p) = BitVec.ofNat 32 (f b (sortedFrom (fun r s => decide (f b r < f b s)) p)).val := by
  have hal : ∀ k : Fin q, (ix2 b p : (⟨2, ![50, q]⟩ : Shape).Idx).along 1 k = ix2 b k := fun k => by
    funext a; fin_cases a <;> rfl
  have hR : (fun k k' : Fin q => cmp (x ((ix2 b p : (⟨2, ![50, q]⟩ : Shape).Idx).along 1 k)) (x ((ix2 b p : (⟨2, ![50, q]⟩ : Shape).Idx).along 1 k')) == 1#1)
      = fun k k' => cmp (x (ix2 b k)) (x (ix2 b k')) == 1#1 := by
    funext k k'
    exact congrArg₂ (fun u v => cmp u v == 1#1) (congrArg x (hal k)) (congrArg x (hal k'))
  have hs : Host.sort ⟨2, ![50, q]⟩ 1 cmp x (ix2 b p)
      = x (ix2 b (sortedFrom (fun k k' : Fin q => cmp (x (ix2 b k)) (x (ix2 b k')) == 1#1) p)) :=
    (congrArg x (hal _)).trans (congrArg (fun R => x (ix2 b (sortedFrom R p))) hR)
  rw [hs, hx]
  refine congrArg (fun R => BitVec.ofNat 32 (f b (sortedFrom R p)).val) (funext fun r => funext fun s => ?_)
  rw [hx, hx]
  rw [hc, cmpi_slt (by omega) (by omega)]
  by_cases h : f b r < f b s <;> simp [h]

/-- The greatest scores' indices, sorted: the kept nodes in increasing position. -/
theorem kept_sorted [NeZero q] (hn : n < 2 ^ 31) (hq : q ≤ n) (fits) (cmp : BitVec 32 → BitVec 32 → BitVec 1) (hc : ∀ u v, cmp u v = IntOp.cmpi .slt u v)
    (x : FVec Ideal ⟨2, ![50, n]⟩ .f32) (b : Fin 50) (p : Fin q) :
    Host.sort ⟨2, ![50, q]⟩ 1 cmp (Host.topK ⟨2, ![50, q]⟩ 1 (FloatOps.cmpfTotal (F := Ideal) (φ := .f32) .gt) x fits).2 (ix2 b p)
      = BitVec.ofNat 32 (sel hq (fun i => x (ix2 b i)) p).val := by
  refine (sort_apply hn cmp hc _ (fun b r => sortedFrom (before fun i : Fin n => x (ix2 b i)) (r.castLE hq)) (fun b r => top_apply hq fits x b r) b p).trans ?_
  exact congrArg (fun i => BitVec.ofNat 32 (Fin.val i)) (sel_eq_sorted hq (fun i => x (ix2 b i)) _ (fun _ => rfl) p)

/-- The scatter of one word per kept node. -/
abbrev puts (wf : ScatterDims.WF ⟨2, ![50, n]⟩ ⟨3, ![50, q, 2]⟩ ⟨2, ![50, q]⟩ [] [0, 1] [0, 1] 2) :
    ScatterDims ⟨2, ![50, n]⟩ ⟨3, ![50, q, 2]⟩ ⟨2, ![50, q]⟩ := ⟨[], [0, 1], [0, 1], 2, wf⟩

/-- Where a scatter of one word per kept node lands. -/
theorem lands (hn : n < 2 ^ 31) (wf) (idx : IVec ⟨3, ![50, q, 2]⟩ 32) (i : Fin 50 → Fin q → Fin n) (h0 : ∀ b p, idx (ix3 b p 0) = BitVec.ofNat 32 b.val)
    (h1 : ∀ b p, idx (ix3 b p 1) = BitVec.ofNat 32 (i b p).val) (k : (⟨2, ![50, q]⟩ : Shape).Idx) (b : Fin 50) (j : Fin n) :
    (puts wf).resultIdx? k idx = some (ix2 b j) ↔ k 0 = b ∧ i b (k 1) = j := by
  obtain ⟨a, p, rfl⟩ : ∃ (a : Fin 50) (p : Fin q), k = ix2 a p := ⟨k 0, k 1, by funext c; fin_cases c <;> rfl⟩
  refine (Routing.scatter_lands2 (puts wf) rfl rfl rfl idx a p b j).trans ?_
  have e0 := h0 a p
  have e1 := h1 a p
  show (idx (ix3 a p 0)).toInt = _ ∧ (idx (ix3 a p 1)).toInt = _ ↔ a = b ∧ i b p = j
  rw [e0, e1, toInt_small (by omega), toInt_small (by omega), Int.ofNat_inj, Int.ofNat_inj, Fin.val_inj, Fin.val_inj]
  constructor
  · rintro ⟨rfl, h⟩; exact ⟨rfl, h⟩
  · rintro ⟨rfl, h⟩; exact ⟨rfl, h⟩

/-- The scatter, where it lands and where it does not. -/
theorem puts_hit (hn : n < 2 ^ 31) (wf) (x : IVec ⟨2, ![50, n]⟩ 32) (idx : IVec ⟨3, ![50, q, 2]⟩ 32) (u : IVec ⟨2, ![50, q]⟩ 32) (i : Fin 50 → Fin q → Fin n)
    (h0 : ∀ b p, idx (ix3 b p 0) = BitVec.ofNat 32 b.val) (h1 : ∀ b p, idx (ix3 b p 1) = BitVec.ofNat 32 (i b p).val)
    (hi : ∀ b, Function.Injective (i b)) (b : Fin 50) (p : Fin q) :
    Host.scatter (puts wf) (fun _ b => b) x idx u (ix2 b (i b p)) = u (ix2 b p) := by
  have hl := lands hn wf idx i h0 h1
  refine Routing.scatter_set_hit _ _ _ _ _ _ (fun k hk => ?_) (ix2 b p) ((hl _ _ _).2 ⟨rfl, rfl⟩)
  obtain ⟨a, r, rfl⟩ : ∃ (a : Fin 50) (r : Fin q), k = ix2 a r := ⟨k 0, k 1, by funext c; fin_cases c <;> rfl⟩
  obtain ⟨ha, hr⟩ := (hl _ _ _).1 hk
  obtain rfl : a = b := ha
  obtain rfl : r = p := hi _ hr
  rfl

theorem puts_miss (hn : n < 2 ^ 31) (wf) (x : IVec ⟨2, ![50, n]⟩ 32) (idx : IVec ⟨3, ![50, q, 2]⟩ 32) (u : IVec ⟨2, ![50, q]⟩ 32) (i : Fin 50 → Fin q → Fin n)
    (h0 : ∀ b p, idx (ix3 b p 0) = BitVec.ofNat 32 b.val) (h1 : ∀ b p, idx (ix3 b p 1) = BitVec.ofNat 32 (i b p).val)
    (b : Fin 50) (j : Fin n) (h : ∀ p, i b p ≠ j) : Host.scatter (puts wf) (fun _ b => b) x idx u (ix2 b j) = x (ix2 b j) :=
  Routing.scatter_set_miss _ _ _ _ _ fun k hk => h (k 1) ((lands hn wf idx i h0 h1 _ _ _).1 hk).2

/-- Padding the four edge columns to eight. -/
theorem pad_apply {α : Type} (hp) (h0) (x : (⟨3, ![50, q, 4]⟩ : Shape).Idx → α) (v : (⟨0, ![]⟩ : Shape).Idx → α) (b : Fin 50) (p : Fin q) (j : Fin 8) :
    pad ⟨3, ![50, q, 8]⟩ ![0, 0, 0] ![0, 0, 4] ![0, 0, 0] x v hp h0 (ix3 b p j)
      = if h : j.val < 4 then x (ix3 b p ⟨j.val, h⟩) else v (Shape.Idx.first h0) := by
  unfold pad
  by_cases h : j.val < 4
  · rw [dif_pos h, dif_pos (fun a => by
      match a with
      | ⟨0, _⟩ => exact ⟨Nat.zero_le _, by show (b.val - 0) % (0 + 1) = 0; omega, by show (b.val - 0) / (0 + 1) < 50; omega⟩
      | ⟨1, _⟩ => exact ⟨Nat.zero_le _, by show (p.val - 0) % (0 + 1) = 0; omega, by show (p.val - 0) / (0 + 1) < q; omega⟩
      | ⟨2, _⟩ => exact ⟨Nat.zero_le _, by show (j.val - 0) % (0 + 1) = 0; omega, by show (j.val - 0) / (0 + 1) < 4; omega⟩)]
    refine congrArg x (funext fun a => Fin.ext ?_)
    match a with
    | ⟨0, _⟩ => show (b.val - 0) / (0 + 1) = b.val; omega
    | ⟨1, _⟩ => show (p.val - 0) / (0 + 1) = p.val; omega
    | ⟨2, _⟩ => show (j.val - 0) / (0 + 1) = j.val; omega
  · rw [dif_neg h, dif_neg fun hin => h ?_]
    have := (hin ⟨2, (by decide : 2 < 3)⟩).2.2
    have h2 : (j.val - 0) / (0 + 1) < 4 := this
    omega

/-- A sum over everything but the last axis. -/
theorem reduce_last {o : ℕ} (h : (⟨4, ![50, q, 4, o]⟩ : Shape).ReducesTo [0, 1, 2] ⟨1, ![o]⟩) (x : (⟨4, ![50, q, 4, o]⟩ : Shape).Idx → EReal) (j : Fin o) :
    Ideal.hostReduceAdd h x 0 (ix1 j) = ∑ b : Fin 50, ∑ p : Fin q, ∑ e : Fin 4, x (ix4 b p e j) := by
  unfold Ideal.hostReduceAdd
  have hd : ∀ i : (⟨4, ![50, q, 4, o]⟩ : Shape).Idx, h.drop i = ix1 j ↔ (i 3 : Fin o) = j := fun i =>
    ⟨fun q => Fin.ext (congrArg (fun z : (⟨1, ![o]⟩ : Shape).Idx => (z 0).val) q), fun q => by
      funext a
      obtain rfl : a = 0 := Subsingleton.elim _ _
      exact Fin.ext (congrArg Fin.val q)⟩
  rw [zero_add, ← Fintype.sum_prod_type', ← Fintype.sum_prod_type']
  refine Finset.sum_bij' (fun i _ => (((i 0 : Fin 50), (i 1 : Fin q)), (i 2 : Fin 4))) (fun z _ => ix4 z.1.1 z.1.2 z.2 j) ?_ ?_ ?_ ?_ ?_
  · intros; simp only [Finset.mem_univ]
  · intro z _; exact Finset.mem_filter.2 ⟨Finset.mem_univ _, (hd _).2 rfl⟩
  · intro i hi
    have := (hd i).1 (Finset.mem_filter.1 hi).2
    funext a
    match a with
    | ⟨0, _⟩ => rfl
    | ⟨1, _⟩ => rfl
    | ⟨2, _⟩ => rfl
    | ⟨3, _⟩ => exact this.symm
  · intro z _; rfl
  · intro i hi
    have := (hd i).1 (Finset.mem_filter.1 hi).2
    refine congrArg x ?_
    funext a
    match a with
    | ⟨0, _⟩ => rfl
    | ⟨1, _⟩ => rfl
    | ⟨2, _⟩ => rfl
    | ⟨3, _⟩ => exact this

end Cert.Pick
-- ==== Proof.Table.lean ====
/- A reference's arrays for one pooling and the edge convolution after it (`Table`), the equations between them that a
   program's own lines give (`Rows`), and that by these the five results are those of the layer, and so a body's. -/
module

public import proofs.«01_k».proof.Proof.Pooled
public import proofs.«01_k».proof.Proof.Pick

@[expose] public section

noncomputable section

namespace Cert.Body

open Cert.Pool Cert.Words
open Idealize.ShloMosaic

/-- The arrays: the nodes' features and scores, the kept nodes' numbers and features, the old and the new numbers of their
    edges' sources (the new ones with -1 for a dropped source, and with 0), their masks, their features before and after the
    mask, and the five results. -/
structure Table (n q d o : ℕ) where
  feat : FVec Ideal ⟨3, ![50, n, d]⟩ .f32
  sco : FVec Ideal ⟨2, ![50, n]⟩ .f32
  ord : IVec ⟨2, ![50, q]⟩ 32
  keep : FVec Ideal ⟨3, ![50, q, d]⟩ .f32
  old : IVec ⟨3, ![50, q, 4]⟩ 32
  seen : IVec ⟨3, ![50, q, 4]⟩ 32
  msk : FVec Ideal ⟨3, ![50, q, 4]⟩ .f32
  src : IVec ⟨3, ![50, q, 4]⟩ 32
  edg : FVec Ideal ⟨4, ![50, q, 4, o]⟩ .f32
  medg : FVec Ideal ⟨4, ![50, q, 4, o]⟩ .f32
  rsum : FVec Ideal ⟨3, ![50, q, o]⟩ .f32
  rcnt : FVec Ideal ⟨3, ![50, q, 8]⟩ .f32
  rsrc : IVec ⟨3, ![50, q, 8]⟩ 32
  rmsk : FVec Ideal ⟨3, ![50, q, 8]⟩ .f32
  rstats : FVec Ideal ⟨2, ![8, o]⟩ .f32

variable {n q d o : ℕ} [NeZero q]

/-- The equations; those after a gather are under the numbers that it reads by. -/
structure Rows (hq : q ≤ n) (x : Args Ideal n d o) (T : Table n q d o) : Prop where
  feat : ∀ b i f, T.feat (ix3 b i f) = hh x b i f
  sco : ∀ b i, T.sco (ix2 b i) = score (fun i f => T.feat (ix3 b i f)) (fun f => x.dir (ix1 f)) i
  ord : ∀ b p, T.ord (ix2 b p) = BitVec.ofNat 32 (sel hq (fun i => T.sco (ix2 b i)) p).val
  keep : ∀ k : Fin 50 → Fin q → Fin n, (∀ b p, T.ord (ix2 b p) = BitVec.ofNat 32 (k b p).val) →
    ∀ b p f, T.keep (ix3 b p f) = T.feat (ix3 b (k b p) f) * T.sco (ix2 b (k b p))
  old : ∀ k : Fin 50 → Fin q → Fin n, (∀ b p, T.ord (ix2 b p) = BitVec.ofNat 32 (k b p).val) →
    ∀ b p e, T.old (ix3 b p e) = x.nb (ix3 b (k b p) (lo e))
  hit : ∀ k : Fin 50 → Fin q → Fin n, (∀ b p, T.ord (ix2 b p) = BitVec.ofNat 32 (k b p).val) → (∀ b, Function.Injective (k b)) →
    ∀ z : Fin 50 → Fin q → Fin 4 → Fin n, (∀ b p e, T.old (ix3 b p e) = BitVec.ofNat 32 (z b p e).val) →
    ∀ b p e r, k b r = z b p e → T.seen (ix3 b p e) = BitVec.ofNat 32 r.val
  miss : ∀ k : Fin 50 → Fin q → Fin n, (∀ b p, T.ord (ix2 b p) = BitVec.ofNat 32 (k b p).val) →
    ∀ z : Fin 50 → Fin q → Fin 4 → Fin n, (∀ b p e, T.old (ix3 b p e) = BitVec.ofNat 32 (z b p e).val) →
    ∀ b p e, (∀ r, k b r ≠ z b p e) → T.seen (ix3 b p e) = 4294967295#32
  msk : ∀ k : Fin 50 → Fin q → Fin n, (∀ b p, T.ord (ix2 b p) = BitVec.ofNat 32 (k b p).val) →
    ∀ b p e, T.msk (ix3 b p e) = x.mask (ix3 b (k b p) (lo e)) * (((IntOp.cmpi .sge (T.seen (ix3 b p e)) 0#32).toNat : ℝ) : EReal)
  src : ∀ b p e, T.src (ix3 b p e) = Scalar.select (IntOp.cmpi .sge (T.seen (ix3 b p e)) 0#32) (T.seen (ix3 b p e)) 0#32
  edg : ∀ z : Fin 50 → Fin q → Fin 4 → Fin q, (∀ b p e, T.src (ix3 b p e) = BitVec.ofNat 32 (z b p e).val) →
    ∀ b p e j, T.edg (ix4 b p e j) = max (∑ f : Fin d, T.keep (ix3 b p f) * x.W (ix2 (top f) j)
      + ∑ f : Fin d, (T.keep (ix3 b (z b p e) f) - T.keep (ix3 b p f)) * x.W (ix2 (bot f) j) + x.b (ix1 j)) 0
  medg : ∀ b p e j, T.medg (ix4 b p e j) = T.edg (ix4 b p e j) * T.msk (ix3 b p e)
  rsum : ∀ b p j, T.rsum (ix3 b p j) = ∑ e, T.medg (ix4 b p e j)
  rcnt : ∀ b p j, T.rcnt (ix3 b p j) = ∑ e, T.msk (ix3 b p e)
  rsrc : ∀ b p j, T.rsrc (ix3 b p j) = if h : j.val < 4 then T.src (ix3 b p ⟨j.val, h⟩) else 0#32
  rmsk : ∀ b p j, T.rmsk (ix3 b p j) = if h : j.val < 4 then T.msk (ix3 b p ⟨j.val, h⟩) else 0
  rstats : ∀ r j, T.rstats (ix2 r j)
    = if r.val < 1 then ∑ b, ∑ p, ∑ e, T.medg (ix4 b p e j)
      else if r.val - 1 < 1 then ∑ b, ∑ p, ∑ e, T.medg (ix4 b p e j) * T.edg (ix4 b p e j)
      else if r.val - 1 - 1 < 1 then ∑ b, ∑ p, ∑ e, T.msk (ix3 b p e)
      else 0

section table
variable {hq : q ≤ n} {x : Args Ideal n d o} {T : Table n q d o} (R : Rows hq x T)
variable (N : Fin 50 → Fin n → Fin 4 → Fin n) (hN : ∀ b i (e : Fin 4), x.nb (ix3 b i (lo e)) = BitVec.ofNat 32 (N b i e).val)

include R
theorem sco_eq (b : Fin 50) : (fun i => T.sco (ix2 b i)) = ss x b := by
  funext i
  rw [R.sco]
  simp only [R.feat]
  rfl

theorem ord_eq (b : Fin 50) (p : Fin q) : T.ord (ix2 b p) = BitVec.ofNat 32 (sel hq (ss x b) p).val := by
  rw [R.ord, sco_eq R]

/-- The kept nodes' features. -/
theorem keep_eq (b : Fin 50) (p : Fin q) (f : Fin d) : T.keep (ix3 b p f) = newx hq (hh x b) (ss x b) p f := by
  rw [R.keep _ (ord_eq R), R.feat]
  exact congrArg (_ * ·) (congrFun (sco_eq R b) _)

include hN
/-- The sources of the kept nodes' edges, in the old numbers. -/
theorem old_eq (b : Fin 50) (p : Fin q) (e : Fin 4) : T.old (ix3 b p e) = BitVec.ofNat 32 (N b (sel hq (ss x b) p) e).val := by
  rw [R.old _ (ord_eq R), hN]

/-- In the new numbers, a kept source has its place, -/
theorem seen_kept (b : Fin 50) (p r : Fin q) (e : Fin 4) (h : sel hq (ss x b) r = N b (sel hq (ss x b) p) e) : T.seen (ix3 b p e) = BitVec.ofNat 32 r.val :=
  R.hit _ (ord_eq R) (fun _ => sel_injective _ _) _ (old_eq R N hN) b p e r h

/-- and a dropped one -1. -/
theorem seen_dropped (b : Fin 50) (p : Fin q) (e : Fin 4) (h : N b (sel hq (ss x b) p) e ∉ kept q (ss x b)) : T.seen (ix3 b p e) = 4294967295#32 :=
  R.miss _ (ord_eq R) _ (old_eq R N hN) b p e fun r hr => h (hr ▸ sel_mem _ _ _)

/-- Whether the source of a kept node's edge is kept. -/
theorem seen_nonneg (hb : q ≤ 2 ^ 31) (b : Fin 50) (p : Fin q) (e : Fin 4) :
    IntOp.cmpi .sge (T.seen (ix3 b p e)) 0#32 = BitVec.ofBool (decide (N b (sel hq (ss x b) p) e ∈ kept q (ss x b))) := by
  by_cases h : N b (sel hq (ss x b) p) e ∈ kept q (ss x b)
  · obtain ⟨r, hr⟩ := exists_sel hq (ss x b) h
    rw [seen_kept R N hN b p r e hr, ← hr]
    simp only [sel_mem, decide_true]
    have := cmpi_sle (x := 0) (y := r.val) (by norm_num) (by omega)
    simp only [Nat.zero_le, decide_true] at this
    exact this
  · rw [seen_dropped R N hN b p e h]
    simp only [h, decide_false]
    decide

/-- The masks of the kept nodes' edges. -/
theorem msk_eq (hb : q ≤ 2 ^ 31) (b : Fin 50) (p : Fin q) (e : Fin 4) : T.msk (ix3 b p e) = KK x hq N b p e := by
  rw [R.msk _ (ord_eq R), seen_nonneg R N hN hb]
  refine congrArg (x.mask (ix3 b (sel hq (ss x b) p) (lo e)) * ·) ?_
  by_cases h : N b (sel hq (ss x b) p) e ∈ kept q (ss x b) <;> simp only [h, decide_true, decide_false, if_true, if_false]
  · show (((BitVec.ofBool true).toNat : ℝ) : EReal) = 1
    simp
  · show (((BitVec.ofBool false).toNat : ℝ) : EReal) = 0
    simp

/-- The sources of the kept nodes' edges, in the new numbers. -/
theorem src_eq (hb : q ≤ 2 ^ 31) (b : Fin 50) (p : Fin q) (e : Fin 4) : T.src (ix3 b p e) = BitVec.ofNat 32 (newsrc hq (ss x b) (N b) p e).val := by
  rw [R.src, seen_nonneg R N hN hb, newsrc, number]
  by_cases h : N b (sel hq (ss x b) p) e ∈ kept q (ss x b)
  · obtain ⟨r, hr⟩ := exists_sel hq (ss x b) h
    rw [dif_pos h, seen_kept R N hN b p r e hr]
    simp only [← hr, place_sel, sel_mem, decide_true]
    rfl
  · rw [dif_neg h]
    simp only [h, decide_false]
    rfl

/-- The features of the kept nodes' edges, before the mask and after. -/
theorem edg_eq (hb : q ≤ 2 ^ 31) (b : Fin 50) (p : Fin q) (e : Fin 4) (j : Fin o) : T.edg (ix4 b p e j) = EE x hq N b p e j := by
  rw [R.edg _ (src_eq R N hN hb)]
  simp only [keep_eq R]
  rfl

theorem medg_eq (hb : q ≤ 2 ^ 31) (b : Fin 50) (p : Fin q) (e : Fin 4) (j : Fin o) : T.medg (ix4 b p e j) = EE x hq N b p e j * KK x hq N b p e := by
  rw [R.medg, edg_eq R N hN hb, msk_eq R N hN hb]

/-- The sums for the next batch norm add up the graphs' parts. -/
theorem rstats_eq (hb : q ≤ 2 ^ 31) (r : Fin 8) (j : Fin o) : T.rstats (ix2 r j) = ∑ b, part x hq N r j b := by
  rw [R.rstats]
  unfold part
  simp only [medg_eq R N hN hb, edg_eq R N hN hb, msk_eq R N hN hb]
  by_cases a1 : r.val < 1
  · simp only [if_pos a1]
  simp only [if_neg a1]
  by_cases a2 : r.val - 1 < 1
  · simp only [if_pos a2]
  simp only [if_neg a2]
  by_cases a3 : r.val - 1 - 1 < 1
  · simp only [if_pos a3]
  · simp only [if_neg a3, Finset.sum_const_zero]

end table

/-! ## The results are the body's -/

/-- Two arrays of three axes that agree at every index are equal. -/
theorem ext3 {α : Type} {a b d : ℕ} {x y : (⟨3, ![a, b, d]⟩ : Shape).Idx → α} (h : ∀ i j k, x (ix3 i j k) = y (ix3 i j k)) : x = y := by
  funext i
  rw [eq_ix3 i]
  exact h _ _ _

/-- Two arrays of two axes that agree at every index are equal. -/
theorem ext2 {α : Type} {a b : ℕ} {x y : (⟨2, ![a, b]⟩ : Shape).Idx → α} (h : ∀ i j, x (ix2 i j) = y (ix2 i j)) : x = y := by
  funext i
  rw [eq_ix2 i]
  exact h _ _

variable {x : Args Ideal n d o} {T : Table n q d o} {B : Steps Ideal n q d o} {L : Laws B} (R : Rows L.le x T) (ok : Ok x) (hb : q ≤ 2 ^ 31)
variable {pw : Mat Ideal d 128} (hp : ∀ f, pw (ix2 f 0) = x.dir (ix1 f))

include R ok hb hp
/-- The five results of a reference are the arrays that the body leaves. -/
theorem results : T.rsum = arrOf (sumG B x pw) ∧ T.rcnt = arrOf (cntG B x pw) ∧ T.rsrc = arrOf (srcG B x pw) ∧ T.rmsk = arrOf (mskG B x pw)
    ∧ T.rstats = statsTo B x pw 9 (by norm_num) := by
  obtain ⟨N, hN⟩ := neighbours x ok
  refine ⟨ext3 fun b p j => ?_, ext3 fun b p j => ?_, ext3 fun b p j => ?_, ext3 fun b p j => ?_, ext2 fun r j => ?_⟩
  · rw [R.rsum, sum_apply x N L ok pw hp hN]
    simp only [medg_eq R N hN hb]
  · rw [R.rcnt, cnt_apply x N L ok pw hp hN]
    simp only [msk_eq R N hN hb]
  · rw [R.rsrc, srcs_apply x N L ok pw hp hN]
    simp only [src_eq R N hN hb]
  · rw [R.rmsk, mask_apply x N L ok pw hp hN]
    simp only [msk_eq R N hN hb]
  · rw [rstats_eq R N hN hb, stats_apply x N L ok pw hp hN]

end Cert.Body
-- ==== Proof.RefRows.lean ====
/- The second pooling: what the reference's lines give at an index (`rows`), for its arrays (`table`) from its arguments (`args`). -/
module

public import proofs.«01_k».proof.Proof.Table
public import proofs.«01_k».proof.Proof.Gen.ReferenceIdeal.Run

@[expose] public section

set_option maxRecDepth 16384

noncomputable section

namespace Cert.ReferenceIdeal.Read

open Gen Value Cert.Pool Cert.Words Cert.Pick
open Cert.Body (Args Table Rows lo top bot)
open Idealize.ShloMosaic Idealize.ShloMosaic.TcCoe Idealize.ShloMosaic.StableHlo

variable (V : Valuation τ sig (Elt Ideal))

/-- The reference's arguments. -/
def args : Args Ideal 160 256 512 where
  ns := V (Proc.devRef .tc main_arg0)
  cnt := V (Proc.devRef .tc main_arg1)
  nb := V (Proc.devRef .tc main_arg2)
  mask := V (Proc.devRef .tc main_arg3)
  st := V (Proc.devRef .tc main_arg4)
  g := V (Proc.devRef .tc main_arg5)
  be := V (Proc.devRef .tc main_arg6)
  dir := V (Proc.devRef .tc main_arg7)
  W := V (Proc.devRef .tc main_arg8)
  b := V (Proc.devRef .tc main_arg9)

/-- The reference's arrays. -/
def table : Table 160 128 256 512 where
  feat := res_main_v35 V
  sco := res_main_v42 V
  ord := res_main_v43 V
  keep := res_main_v63 V
  old := res_main_v99 V
  seen := res_main_v114 V
  msk := res_main_v134 V
  src := res_main_v137 V
  edg := res_main_v162 V
  medg := res_main_v165 V
  rsum := Host.reduceAdd (res_main_v165 V) (constant (F := Ideal) S_ .f32 0x00000000#32) reducesTo_S50x128x4x512_S50x128x512_d2 h_S_
  rcnt := broadcastInDim S50x128x8 ![0, 1, 2] bcast_S50x128x1_S50x128x8_0_1_2 (broadcastInDim S50x128x1 ![0, 1] bcast_S50x128_S50x128x1_0_1 (Host.reduceAdd (res_main_v134 V) (constant (F := Ideal) S_ .f32 0x00000000#32) reducesTo_S50x128x4_S50x128_d2 h_S_))
  rsrc := pad S50x128x8 ![0, 0, 0] ![0, 0, 4] ![0, 0, 0] (res_main_v137 V) (id (constantI S_ 32 0#32)) pads_S50x128x4_S50x128x8_000_000_040 h_S_
  rmsk := pad S50x128x8 ![0, 0, 0] ![0, 0, 4] ![0, 0, 0] (res_main_v134 V) (sitofp .f32 (constantI S_ 32 0#32)) pads_S50x128x4_S50x128x8_000_000_040 h_S_
  rstats := (concatenate S8x512 0 [⟨S1x512, ((broadcastInDim S1x512 ![1] bcast_S512_S1x512_1 (Host.reduceAdd (res_main_v165 V) (constant (F := Ideal) S_ .f32 0x00000000#32) reducesTo_S50x128x4x512_S512_d0_1_2 h_S_)) : (⟨S1x512, .f32⟩ : BufTy).Contents (Elt Ideal))⟩, ⟨S1x512, ((broadcastInDim S1x512 ![1] bcast_S512_S1x512_1 (Host.reduceAdd (mulf (res_main_v165 V) (res_main_v162 V)) (constant (F := Ideal) S_ .f32 0x00000000#32) reducesTo_S50x128x4x512_S512_d0_1_2 h_S_)) : (⟨S1x512, .f32⟩ : BufTy).Contents (Elt Ideal))⟩, ⟨S1x512, ((addf (id (broadcastInDim S1x512 ![] bcast_S_S1x512 (constant (F := Ideal) S_ .f32 0x00000000#32))) (broadcastInDim S1x512 ![] bcast_S_S1x512 (Host.reduceAdd (res_main_v134 V) (constant (F := Ideal) S_ .f32 0x00000000#32) reducesTo_S50x128x4_S_d0_1_2 h_S_))) : (⟨S1x512, .f32⟩ : BufTy).Contents (Elt Ideal))⟩, ⟨S5x512, ((broadcastInDim S5x512 ![] bcast_S_S5x512 (constant (F := Ideal) S_ .f32 0x00000000#32)) : (⟨S5x512, .f32⟩ : BufTy).Contents (Elt Ideal))⟩] concatenates_S1x512_S1x512_S1x512_S5x512_S8x512_d0 : (⟨S8x512, .f32⟩ : BufTy).Contents (Elt Ideal))

theorem feat_apply (b : Fin 50) (i : Fin 160) (f : Fin 256) : (table V).feat (ix3 b i f) = Cert.Body.hh (args V) b i f := by
  unfold Cert.Body.hh args table
  dsimp only
  pointwise [res_main_v35, res_main_v7, res_main_v4, res_main_v0]

theorem sco_apply (b : Fin 50) (i : Fin 160) : (table V).sco (ix2 b i)
    = score (fun i f => (table V).feat (ix3 b i f)) (fun f => (args V).dir (ix1 f)) i := by
  unfold args table
  dsimp only
  pointwise [res_main_v42]
  rfl

theorem ord_apply (b : Fin 50) (p : Fin 128) : (table V).ord (ix2 b p)
    = BitVec.ofNat 32 (sel (by norm_num : 128 ≤ 160) (fun i => (table V).sco (ix2 b i)) p).val := by
  show (res_main_v43 V : IVec S50x128 32) (ix2 b p) = _
  unfold res_main_v43
  exact kept_sorted (by norm_num) (by norm_num) _ comparator_i32_d1 (fun _ _ => by unfold comparator_i32_d1; rfl) _ b p

/-- The start indices that read a graph's kept node. -/
def at2 : IVec S50x128x2 32 := (concatenate S50x128x2 2 [⟨S50x128x1, (broadcastInDim S50x128x1 ![0, 1] bcast_S50x128_S50x128x1_0_1 (broadcastInDim S50x128 ![0, 1] bcast_S50x1_S50x128_0_1 (select (cmpi .slt (res_main_v45 V) (broadcastInDim S50x1 ![] bcast_S_S50x1 (constantI S_ 32 0#32))) (addi (res_main_v45 V) (broadcastInDim S50x1 ![] bcast_S_S50x1 (constantI S_ 32 50#32))) (res_main_v45 V))))⟩, ⟨S50x128x1, (broadcastInDim S50x128x1 ![0, 1] bcast_S50x128_S50x128x1_0_1 (select (cmpi .slt (res_main_v43 V) (broadcastInDim S50x128 ![] bcast_S_S50x128 (constantI S_ 32 0#32))) (addi (res_main_v43 V) (broadcastInDim S50x128 ![] bcast_S_S50x128 (constantI S_ 32 160#32))) (res_main_v43 V)))⟩] concatenates_S50x128x1_S50x128x1_S50x128x2_d2)

section kept
variable (k : Fin 50 → Fin 128 → Fin 160) (hk : ∀ b p, (table V).ord (ix2 b p) = BitVec.ofNat 32 (k b p).val)

theorem at2_zero (b : Fin 50) (p : Fin 128) : at2 V (ix3 b p 0) = BitVec.ofNat 32 b.val := by
  pointwise [at2, res_main_v45]
  exact wrap_small (by omega) _

include hk
theorem at2_one (b : Fin 50) (p : Fin 128) : at2 V (ix3 b p 1) = BitVec.ofNat 32 (k b p).val := by
  have h := hk b p
  unfold table at h
  dsimp only at h
  pointwise [at2]
  rw [h]
  exact wrap_small (by omega) _

theorem keep_apply (b : Fin 50) (p : Fin 128) (f : Fin 256) : (table V).keep (ix3 b p f)
    = (table V).feat (ix3 b (k b p) f) * (table V).sco (ix2 b (k b p)) := by
  show (res_main_v63 V : FVec Ideal S50x128x256 .f32) (ix3 b p f) = _
  unfold res_main_v63
  refine (rows_apply (by norm_num) _ _ (at2 V) b p f _ (at2_zero V b p) (at2_one V k hk b p)).trans ?_
  unfold table
  dsimp only
  pointwise []

theorem old_apply (b : Fin 50) (p : Fin 128) (e : Fin 4) : (table V).old (ix3 b p e) = (args V).nb (ix3 b (k b p) (lo e)) := by
  refine Eq.trans ?_ (rows_apply (by norm_num) gather_S50x160x8_S50x128x2_S50x128x8_2_01_n_n_01_2_118.wf (args V).nb (at2 V) b p (lo e) _ (at2_zero V b p) (at2_one V k hk b p))
  unfold table
  dsimp only
  unfold res_main_v99
  pointwise []
  rfl

/-- The start indices that read a graph's node, by the old number of an edge's source. -/
def at4 : IVec S50x128x4x2 32 := (concatenate S50x128x4x2 3 [⟨S50x128x4x1, (broadcastInDim S50x128x4x1 ![0, 1, 2] bcast_S50x128x4_S50x128x4x1_0_1_2 (broadcastInDim S50x128x4 ![0, 1, 2] bcast_S50x1x1_S50x128x4_0_1_2 (select (cmpi .slt (res_main_v83 V) (broadcastInDim S50x1x1 ![] bcast_S_S50x1x1 (constantI S_ 32 0#32))) (addi (res_main_v83 V) (broadcastInDim S50x1x1 ![] bcast_S_S50x1x1 (constantI S_ 32 50#32))) (res_main_v83 V))))⟩, ⟨S50x128x4x1, (broadcastInDim S50x128x4x1 ![0, 1, 2] bcast_S50x128x4_S50x128x4x1_0_1_2 (select (cmpi .slt (res_main_v99 V) (broadcastInDim S50x128x4 ![] bcast_S_S50x128x4 (constantI S_ 32 0#32))) (addi (res_main_v99 V) (broadcastInDim S50x128x4 ![] bcast_S_S50x128x4 (constantI S_ 32 160#32))) (res_main_v99 V)))⟩] concatenates_S50x128x4x1_S50x128x4x1_S50x128x4x2_d3)

omit hk in
theorem at4_zero (b : Fin 50) (p : Fin 128) (e : Fin 4) : at4 V (ix4 b p e 0) = BitVec.ofNat 32 b.val := by
  pointwise [at4, res_main_v83, res_main_v45]
  exact wrap_small (by omega) _

/-- The new numbers: a kept node's place, and minus one elsewhere. -/
def fresh : IVec S50x160 32 :=
  Host.scatter scatter_S50x160_S50x128x2_S50x128_n_01_01_2 (fun _ b => b) (broadcastInDim S50x160 ![] bcast_S_S50x160 (constantI S_ 32 4294967295#32))
    (at2 V) (broadcastInDim S50x128 ![0, 1] bcast_S1x128_S50x128_0_1 (broadcastInDim S1x128 ![1] bcast_S128_S1x128_1 (iotaInDim S128 32 0)))

variable (z : Fin 50 → Fin 128 → Fin 4 → Fin 160) (hz : ∀ b p e, (table V).old (ix3 b p e) = BitVec.ofNat 32 (z b p e).val)

omit hk in
include hz in
theorem at4_one (b : Fin 50) (p : Fin 128) (e : Fin 4) : at4 V (ix4 b p e 1) = BitVec.ofNat 32 (z b p e).val := by
  have h := hz b p e
  unfold table at h
  dsimp only at h
  pointwise [at4]
  rw [h]
  exact wrap_small (by omega) _

omit hk in
include hz in
theorem seen_apply (b : Fin 50) (p : Fin 128) (e : Fin 4) : (table V).seen (ix3 b p e) = fresh V (ix2 b (z b p e)) := by
  have hu : (res_main_v114 V : IVec S50x128x4 32) = Host.gather gather_S50x160_S50x128x4x2_S50x128x4_n_01_n_n_01_3_11 (fresh V) (at4 V) := by
    unfold res_main_v114 fresh at4 at2
    rfl
  unfold table
  dsimp only
  rw [hu]
  exact entries_apply (by norm_num) gather_S50x160_S50x128x4x2_S50x128x4_n_01_n_n_01_3_11.wf (fresh V) (at4 V) b p e (z b p e) (at4_zero V b p e) (at4_one V z hz b p e)

include hz in
theorem seen_hit (hi : ∀ b, Function.Injective (k b)) (b : Fin 50) (p : Fin 128) (e : Fin 4) (r : Fin 128) (h : k b r = z b p e) :
    (table V).seen (ix3 b p e) = BitVec.ofNat 32 r.val := by
  rw [seen_apply V z hz, ← h]
  refine (puts_hit (by norm_num) _ _ (at2 V) _ k (at2_zero V) (at2_one V k hk) hi b r).trans ?_
  pointwise []

include hz in
theorem seen_miss (b : Fin 50) (p : Fin 128) (e : Fin 4) (h : ∀ r, k b r ≠ z b p e) :
    (table V).seen (ix3 b p e) = 4294967295#32 := by
  rw [seen_apply V z hz]
  refine (puts_miss (by norm_num) _ _ (at2 V) _ k (at2_zero V) (at2_one V k hk) b _ h).trans ?_
  pointwise []

theorem msk_apply (b : Fin 50) (p : Fin 128) (e : Fin 4) : (table V).msk (ix3 b p e)
    = (args V).mask (ix3 b (k b p) (lo e)) * (((IntOp.cmpi .sge ((table V).seen (ix3 b p e)) 0#32).toNat : ℝ) : EReal) := by
  rw [← rows_apply (by norm_num) gather_S50x160x8_S50x128x2_S50x128x8_2_01_n_n_01_2_118.wf (args V).mask (at2 V) b p (lo e) _ (at2_zero V b p) (at2_one V k hk b p)]
  unfold table
  dsimp only
  unfold res_main_v134
  pointwise []
  rfl

end kept

theorem src_apply (b : Fin 50) (p : Fin 128) (e : Fin 4) : (table V).src (ix3 b p e)
    = Scalar.select (IntOp.cmpi .sge ((table V).seen (ix3 b p e)) 0#32) ((table V).seen (ix3 b p e)) 0#32 := by
  unfold table
  dsimp only
  unfold res_main_v137
  pointwise []
  rfl

/-- The start indices that read a graph's kept node, by the new number of an edge's source. -/
def new4 : IVec S50x128x4x2 32 := (concatenate S50x128x4x2 3 [⟨S50x128x4x1, (broadcastInDim S50x128x4x1 ![0, 1, 2] bcast_S50x128x4_S50x128x4x1_0_1_2 (broadcastInDim S50x128x4 ![0, 1, 2] bcast_S50x1x1_S50x128x4_0_1_2 (select (cmpi .slt (res_main_v138 V) (broadcastInDim S50x1x1 ![] bcast_S_S50x1x1 (constantI S_ 32 0#32))) (addi (res_main_v138 V) (broadcastInDim S50x1x1 ![] bcast_S_S50x1x1 (constantI S_ 32 50#32))) (res_main_v138 V))))⟩, ⟨S50x128x4x1, (broadcastInDim S50x128x4x1 ![0, 1, 2] bcast_S50x128x4_S50x128x4x1_0_1_2 (select (cmpi .slt (res_main_v137 V) (broadcastInDim S50x128x4 ![] bcast_S_S50x128x4 (constantI S_ 32 0#32))) (addi (res_main_v137 V) (broadcastInDim S50x128x4 ![] bcast_S_S50x128x4 (constantI S_ 32 128#32))) (res_main_v137 V)))⟩] concatenates_S50x128x4x1_S50x128x4x1_S50x128x4x2_d3)

/-- The features of each edge's source. -/
def nbrs : FVec Ideal S50x128x4x256 .f32 :=
  Host.gather gather_S50x128x256_S50x128x4x2_S50x128x4x256_3_01_n_n_01_3_11256 (res_main_v63 V) (new4 V)

section edges
variable (z : Fin 50 → Fin 128 → Fin 4 → Fin 128) (hz : ∀ b p e, (table V).src (ix3 b p e) = BitVec.ofNat 32 (z b p e).val)

theorem new4_zero (b : Fin 50) (p : Fin 128) (e : Fin 4) : new4 V (ix4 b p e 0) = BitVec.ofNat 32 b.val := by
  pointwise [new4, res_main_v138, res_main_v45]
  exact wrap_small (by omega) _

include hz
theorem new4_one (b : Fin 50) (p : Fin 128) (e : Fin 4) : new4 V (ix4 b p e 1) = BitVec.ofNat 32 (z b p e).val := by
  have h := hz b p e
  unfold table at h
  dsimp only at h
  pointwise [new4]
  rw [h]
  exact wrap_small (by omega) _

theorem nbrs_apply (b : Fin 50) (p : Fin 128) (e : Fin 4) (f : Fin 256) :
    nbrs V (ix4 b p e f) = (table V).keep (ix3 b (z b p e) f) := by
  unfold nbrs
  exact rows4_apply (by norm_num) _ _ (new4 V) b p e f _ (new4_zero V b p e) (new4_one V z hz b p e)

theorem edg_apply (b : Fin 50) (p : Fin 128) (e : Fin 4) (j : Fin 512) : (table V).edg (ix4 b p e j)
    = max (∑ f : Fin 256, (table V).keep (ix3 b p f) * (args V).W (ix2 (top f) j)
      + ∑ f : Fin 256, ((table V).keep (ix3 b (z b p e) f) - (table V).keep (ix3 b p f)) * (args V).W (ix2 (bot f) j)
      + (args V).b (ix1 j)) 0 := by
  have hn := nbrs_apply V z hz b p e
  have hu : (res_main_v162 V : FVec Ideal S50x128x4x512 .f32) = maximumf (addf (Host.dotGeneral dot_S50x128x4x512_S512x512_S50x128x4x512_3_0_012_1_n_n none (concatenate S50x128x4x512 3 [⟨S50x128x4x256, (res_main_v155 V)⟩, ⟨S50x128x4x256, (subf (nbrs V) (res_main_v155 V))⟩] concatenates_S50x128x4x256_S50x128x4x256_S50x128x4x512_d3) (V (Proc.devRef .tc main_arg8))) (broadcastInDim S50x128x4x512 ![0, 1, 2, 3] bcast_S1x1x1x512_S50x128x4x512_0_1_2_3 (broadcastInDim S1x1x1x512 ![3] bcast_S512_S1x1x1x512_3 (V (Proc.devRef .tc main_arg9))))) (broadcastInDim S50x128x4x512 ![] bcast_S_S50x128x4x512 (constant S_ .f32 0x00000000#32)) := rfl
  show (res_main_v162 V : FVec Ideal S50x128x4x512 .f32) (ix4 b p e j) = _
  rw [hu]
  unfold table
  dsimp only
  unfold res_main_v155
  pointwise []
  simp only [hn]
  rfl

end edges

theorem medg_apply (b : Fin 50) (p : Fin 128) (e : Fin 4) (j : Fin 512) : (table V).medg (ix4 b p e j)
    = (table V).edg (ix4 b p e j) * (table V).msk (ix3 b p e) := by
  unfold table
  dsimp only
  unfold res_main_v165
  pointwise []

theorem rsum_apply (b : Fin 50) (p : Fin 128) (j : Fin 512) : (table V).rsum (ix3 b p j) = ∑ e : Fin 4, (table V).medg (ix4 b p e j) := by
  unfold table
  dsimp only
  pointwise []

theorem rcnt_apply (b : Fin 50) (p : Fin 128) (j : Fin 8) : (table V).rcnt (ix3 b p j) = ∑ e : Fin 4, (table V).msk (ix3 b p e) := by
  unfold table
  dsimp only
  pointwise []

theorem rsrc_apply (b : Fin 50) (p : Fin 128) (j : Fin 8) : (table V).rsrc (ix3 b p j)
    = if h : j.val < 4 then (table V).src (ix3 b p ⟨j.val, h⟩) else 0#32 := by
  unfold table
  dsimp only
  refine (pad_apply pads_S50x128x4_S50x128x8_000_000_040 h_S_ (res_main_v137 V : IVec S50x128x4 32) (id (constantI S_ 32 0#32)) b p j).trans ?_
  split_ifs <;> rfl

theorem rmsk_apply (b : Fin 50) (p : Fin 128) (j : Fin 8) : (table V).rmsk (ix3 b p j)
    = if h : j.val < 4 then (table V).msk (ix3 b p ⟨j.val, h⟩) else 0 := by
  unfold table
  dsimp only
  refine (pad_apply (α := EReal) pads_S50x128x4_S50x128x8_000_000_040 h_S_ (res_main_v134 V) (sitofp (F := Ideal) .f32 (constantI S_ 32 0#32)) b p j).trans ?_
  split_ifs
  · rfl
  · show (((0#32).toInt : ℝ) : EReal) = 0
    simp

theorem red_sum (j : Fin 512) :
    (Host.reduceAdd (res_main_v165 V) (constant S_ .f32 0x00000000#32) reducesTo_S50x128x4x512_S512_d0_1_2 h_S_ : FVec Ideal S512 .f32) (ix1 j)
      = ∑ b : Fin 50, ∑ p : Fin 128, ∑ e : Fin 4, (table V).medg (ix4 b p e j) := by
  unfold table
  dsimp only
  pointwise []
  rw [reduce_last]

theorem red_sq (j : Fin 512) :
    (Host.reduceAdd (mulf (res_main_v165 V) (res_main_v162 V)) (constant S_ .f32 0x00000000#32) reducesTo_S50x128x4x512_S512_d0_1_2 h_S_ : FVec Ideal S512 .f32) (ix1 j)
      = ∑ b : Fin 50, ∑ p : Fin 128, ∑ e : Fin 4, (table V).medg (ix4 b p e j) * (table V).edg (ix4 b p e j) := by
  unfold table
  dsimp only
  pointwise []
  rw [reduce_last]
  pointwise []

theorem red_num :
    (Host.reduceAdd (res_main_v134 V) (constant S_ .f32 0x00000000#32) reducesTo_S50x128x4_S_d0_1_2 h_S_ : FVec Ideal S_ .f32) ix0
      = ∑ b : Fin 50, ∑ p : Fin 128, ∑ e : Fin 4, (table V).msk (ix3 b p e) := by
  unfold table
  dsimp only
  pointwise []

theorem rstats_apply (r : Fin 8) (j : Fin 512) : (table V).rstats (ix2 r j)
    = if r.val < 1 then ∑ b : Fin 50, ∑ p : Fin 128, ∑ e : Fin 4, (table V).medg (ix4 b p e j)
      else if r.val - 1 < 1 then ∑ b : Fin 50, ∑ p : Fin 128, ∑ e : Fin 4, (table V).medg (ix4 b p e j) * (table V).edg (ix4 b p e j)
      else if r.val - 1 - 1 < 1 then ∑ b : Fin 50, ∑ p : Fin 128, ∑ e : Fin 4, (table V).msk (ix3 b p e)
      else 0 := by
  have h1 := red_sum V j
  have h2 := red_sq V j
  have h3 := red_num V
  rw [← h1, ← h2, ← h3]
  clear h1 h2 h3
  unfold table
  dsimp only
  generalize (Host.reduceAdd (res_main_v165 V) (constant S_ .f32 0x00000000#32) reducesTo_S50x128x4x512_S512_d0_1_2 h_S_ : FVec Ideal S512 .f32) = a
  generalize (Host.reduceAdd (mulf (res_main_v165 V) (res_main_v162 V)) (constant S_ .f32 0x00000000#32) reducesTo_S50x128x4x512_S512_d0_1_2 h_S_ : FVec Ideal S512 .f32) = s
  generalize (Host.reduceAdd (res_main_v134 V) (constant S_ .f32 0x00000000#32) reducesTo_S50x128x4_S_d0_1_2 h_S_ : FVec Ideal S_ .f32) = c
  pointwise []
  by_cases a1 : r.val < 1
  · simp only [dif_pos a1, if_pos a1]
  simp only [dif_neg a1, if_neg a1]
  by_cases a2 : r.val - 1 < 1
  · simp only [dif_pos a2, if_pos a2]
  simp only [dif_neg a2, if_neg a2]
  by_cases a3 : r.val - 1 - 1 < 1
  · simp only [dif_pos a3, if_pos a3]
    refine (congrArg (· + c ix0) ?_).trans (zero_add _)
    simp only [id]
    pointwise []
  · simp only [dif_neg a3, if_neg a3]

/-- The reference's lines give the equations of a table. -/
theorem rows : Rows (by norm_num : 128 ≤ 160) (args V) (table V) where
  feat := feat_apply V
  sco := sco_apply V
  ord := ord_apply V
  keep := keep_apply V
  old := old_apply V
  hit k hk hi z hz := seen_hit V k hk z hz hi
  miss k hk z hz := seen_miss V k hk z hz
  msk := msk_apply V
  src := src_apply V
  edg := edg_apply V
  medg := medg_apply V
  rsum := rsum_apply V
  rcnt := rcnt_apply V
  rsrc := rsrc_apply V
  rmsk := rmsk_apply V
  rstats := rstats_apply V

end Cert.ReferenceIdeal.Read

end
-- ==== Proof.Truth.lean ====
/- Truth values and comparisons of a precondition, read as propositions. -/
module

public import Idealize.ShloMosaic.Lib.ReduceAll
public import Idealize.ShloMosaic.Lib.IdealHost
public import Idealize.ShloMosaic.Lib.Pointwise
public import Idealize.ShloMosaic.Lib.Affine

@[expose] public section

noncomputable section

namespace Cert.Truth

open Idealize.ShloMosaic

/-- The one-bit word of a truth value is 1 only for true. -/
theorem true_of_word : ∀ {b : Bool}, BitVec.ofBool b = 1#1 → b = true
  | true, _ => rfl
  | false, h => absurd h (by decide)

/-- An extended real whose absolute value is below the word of plus infinity is a real. -/
theorem real_of_lt {x : EReal} (h : Ideal.cmp .olt (max x (-x)) (Ideal.ofBits .f32 2139095040#32) = 1#1) :
    ∃ r : ℝ, x = (r : EReal) := by
  have ht : Ideal.ofBits .f32 2139095040#32 = (⊤ : EReal) := by simp [Ideal.ofBits, Ideal.ieee]
  rw [ht] at h
  have h' : max x (-x) < ⊤ := of_decide_eq_true (true_of_word h)
  rw [max_lt_iff] at h'
  refine ⟨x.toReal, (EReal.coe_toReal h'.1.ne ?_).symm⟩
  intro hb
  rw [hb] at h'
  exact absurd h'.2 (by simp)

/-- An ordered comparison that is 1 holds. -/
theorem le_of_cmp {x y : EReal} (h : Ideal.cmp .oge x y = 1#1) : y ≤ x := of_decide_eq_true (true_of_word h)

/-- A comparison for equality that is 1 holds. -/
theorem eq_of_cmp {x y : EReal} (h : Ideal.cmp .oeq x y = 1#1) : x = y := of_decide_eq_true (true_of_word h)

/-- A word between 0 and `n`, read signed, is the word of a number below `n`. -/
theorem word_of_range {n : ℕ} (hb : n < 2 ^ 31) {w : BitVec 32}
    (h : IntOp.andi (IntOp.cmpi .sge w 0#32) (IntOp.cmpi .slt w (BitVec.ofNat 32 n)) = 1#1) : ∃ k : Fin n, w = BitVec.ofNat 32 k.val := by
  obtain ⟨h1, h2⟩ := IntOp.andi_eq_one.1 h
  rw [IntOp.cmpi_sge] at h1
  rw [IntOp.cmpi_slt] at h2
  have e0 : (0#32 : BitVec 32).toInt = 0 := by decide
  have e1 : (BitVec.ofNat 32 n).toInt = n := by
    rw [BitVec.toInt_eq_toNat_cond, BitVec.toNat_ofNat, Nat.mod_eq_of_lt (by omega), if_pos (by omega)]
  rw [e0] at h1
  rw [e1] at h2
  have hn : w.toNat < n := by
    rw [BitVec.toInt_eq_toNat_cond] at h1 h2
    split_ifs at h1 h2 <;> omega
  exact ⟨⟨w.toNat, hn⟩, by simp⟩

end Cert.Truth
-- ==== Proof.Pre.lean ====
/- What the precondition `inputs_ok` of the statement says of the arguments, read off its printed form. -/
module

public import proofs.«01_k».proof.Pre_inputs_ok
public import proofs.«01_k».proof.Proof.Truth
public import proofs.«01_k».proof.Proof.Pooled

@[expose] public section

noncomputable section

namespace Cert.Pre_inputs_ok

open Idealize.ShloMosaic Cert.Truth

/-- Every side condition the printed predicate states. -/
instance facts : Facts where
  slices_S50x160x8_S50x160x1_0_0_0 := by decide
  shapeCasts_S50x160x1_S50x160 := by decide
  slices_S50x160x8_S50x160x4_0_0_0 := by decide
  slices_S8x256_S3x256_0_0 := by decide
  bcast_S_S50x160x256 := by decide
  reducesTo_S50x160x256_S_d0_1_2 := by decide
  h_S_ := by decide
  bcast_S_S50x160 := by decide
  reducesTo_S50x160_S_d0_1 := by decide
  bcast_S_S3x256 := by decide
  reducesTo_S3x256_S_d0_1 := by decide
  bcast_S_S256 := by decide
  reducesTo_S256_S_d0 := by decide
  slices_S3x256_S1x256_1_0 := by decide
  shapeCasts_S1x256_S256 := by decide
  slices_S3x256_S1x256_2_0 := by decide
  slices_S3x256_S1x256_0_0 := by decide
  bcast_S_S50x160x4 := by decide
  reducesTo_S50x160x4_S_d0_1_2 := by decide

variable {a0 : FVec Ideal S50x160x256 .f32} {a1 : FVec Ideal S50x160x8 .f32} {a2 : IVec S50x160x8 32}
  {a3 : FVec Ideal S50x160x8 .f32} {a4 : FVec Ideal S8x256 .f32} {a5 a6 a7 : FVec Ideal S256 .f32}
  {a8 : FVec Ideal S512x512 .f32} {a9 : FVec Ideal S512 .f32}

instance : Subsingleton S_.Idx := ⟨fun a b => funext fun k => k.elim0⟩

/-- The precondition, where it holds, says all of that. -/
theorem read (h : fn (F := Ideal) a0 a1 a2 a3 a4 a5 a6 a7 a8 a9 = fun _ => 1#1) : Cert.Body.Ok (⟨a0, a1, a2, a3, a4, a5, a6, a7, a8, a9⟩ : Cert.Body.Args Ideal 160 256 512) := by
  have h0 := congrFun h ix0
  unfold fn fn_part1 fn_part2 fn_part3 at h0
  dsimp only [andi] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e1, e2⟩ := IntOp.andi_eq_one.1 h0
  have f1 := fun (b : Fin 50) (i : Fin 160) (f : Fin 256) => Host.reduce_andi_all _ _ _ _ _ e1 (ix3 b i f)
  have f2 := fun (b : Fin 50) (i : Fin 160) => Host.reduce_andi_all _ _ _ _ _ e2 (ix2 b i)
  have f3 := fun (r : Fin 3) (f : Fin 256) => Host.reduce_andi_all _ _ _ _ _ e3 (ix2 r f)
  have f4 := fun (f : Fin 256) => Host.reduce_andi_all _ _ _ _ _ e4 (ix1 f)
  have f5 := fun (f : Fin 256) => Host.reduce_andi_all _ _ _ _ _ e5 (ix1 f)
  have f6 := fun (b : Fin 50) (i : Fin 160) => Host.reduce_andi_all _ _ _ _ _ e6 (ix2 b i)
  have f7 := fun (f : Fin 256) => Host.reduce_andi_all _ _ _ _ _ e7 (ix1 f)
  have f8 := fun (b : Fin 50) (i : Fin 160) (e : Fin 4) => Host.reduce_andi_all _ _ _ _ _ e8 (ix3 b i e)
  clear e1 e2 e3 e4 e5 e6 e7 e8 h0 h
  have slice1 : ∀ b i, shapeCast S50x160 (extractStridedSlice S50x160x1 ![0, 0, 0] a1 facts.slices_S50x160x8_S50x160x1_0_0_0)
      facts.shapeCasts_S50x160x1_S50x160 (ix2 b i) = a1 (ix3 b i 0) := by
    intro b i; pointwise []
  refine ⟨fun b i f => real_of_lt (f1 b i f), fun b i => ?_, fun r f => ?_, fun f => real_of_lt (f4 f), fun f => real_of_lt (f5 f), fun b i => ?_, fun f => ?_, fun b i e => ?_⟩
  · have := f2 b i
    exact real_of_lt (x := a1 (ix3 b i 0)) (by rw [← slice1 b i]; exact this)
  · have s : extractStridedSlice S3x256 ![0, 0] a4 facts.slices_S8x256_S3x256_0_0 (ix2 r f) = a4 (ix2 (r.castLE (by decide)) f) := by
      pointwise []
      rfl
    exact real_of_lt (x := a4 (ix2 (r.castLE (by decide)) f)) (by rw [← s]; exact f3 r f)
  · have := f6 b i
    rcases IntOp.ori_eq_one.1 this with h | h
    · left
      have := eq_of_cmp h
      rw [slice1 b i] at this
      refine Eq.trans this ?_
      pointwise []
    · right
      have := le_of_cmp h
      rw [slice1 b i] at this
      refine le_trans (le_of_eq ?_) this
      pointwise []
  · have := le_of_cmp (f7 f)
    refine le_trans (le_of_eq ?_) (le_trans this (le_of_eq ?_))
    · pointwise []
    · pointwise []
  · have s : extractStridedSlice S50x160x4 ![0, 0, 0] a2 facts.slices_S50x160x8_S50x160x4_0_0_0 (ix3 b i e) = a2 (ix3 b i (Cert.Body.lo e)) := by
      pointwise []
      rfl
    exact word_of_range (w := a2 (ix3 b i (Cert.Body.lo e))) (by norm_num) (by rw [← s]; exact f8 b i e)

end Cert.Pre_inputs_ok

end
-- ==== Proof.Results.lean ====
/- The second pooling: the kernel's five results are the reference's. -/
module

public import proofs.«01_k».proof.Proof.Grid
public import proofs.«01_k».proof.Proof.Reads
public import proofs.«01_k».proof.Proof.RefRows
public import proofs.«01_k».proof.Proof.Pre

@[expose] public section

noncomputable section

namespace Cert.Results

open Idealize.ShloMosaic Idealize.SL.Sem
open Cert.KernelIdeal (cfg0)
open Cert.KernelIdeal.Gen (dats)
open Cert.KernelIdeal.Grid (arr10 arr11 arr12 arr13 arr14)
open Cert.ReferenceIdeal.Read (table rows)

variable (m : (ℓ : Loc Cert.KernelIdeal.nD Cert.KernelIdeal.τ Cert.KernelIdeal.sig) → Buf (Elt Ideal) ℓ) (c : Dev Cert.KernelIdeal.nD)
variable (V : Valuation Cert.ReferenceIdeal.τ Cert.ReferenceIdeal.sig (Elt Ideal))

/-- The precondition, on the kernel's arguments. -/
abbrev Good : Prop := Cert.Body.Ok (Cert.KernelIdeal.Grid.args m c)

/-- The reference's arguments are the kernel's. -/
abbrev Same : Prop := Cert.ReferenceIdeal.Read.args V = Cert.KernelIdeal.Grid.args m c

theorem results (hV : Same m c V) (ok : Good m c) :
    (table V).rsum = (dats m 0 c).arrAt 10 cfg0.N ∧ (table V).rcnt = (dats m 0 c).arrAt 11 cfg0.N ∧ (table V).rsrc = (dats m 0 c).arrAt 12 cfg0.N
      ∧ (table V).rmsk = (dats m 0 c).arrAt 13 cfg0.N ∧ (table V).rstats = (dats m 0 c).arrAt 14 cfg0.N := by
  have R := rows V
  rw [hV] at R
  obtain ⟨h0, h1, h2, h3, h4⟩ := Cert.Body.results (L := Cert.KernelIdeal.Graph.laws) R ok (by norm_num) (Cert.KernelIdeal.Grid.pad_apply m c)
  exact ⟨h0.trans (arr10 m c).symm, h1.trans (arr11 m c).symm, h2.trans (arr12 m c).symm, h3.trans (arr13 m c).symm, h4.trans (arr14 m c).symm⟩

end Cert.Results

end
-- ==== Proof.Graph1.lean ====
/- The steps of the first pooling's body: 200 nodes to 160, 128 features to 256. -/
module

public import proofs.«01_k».proof.Proof.Gen.Kernel1Ideal.Skeleton
public import proofs.«01_k».proof.Proof.Body

@[expose] public section

set_option maxRecDepth 16384

noncomputable section

namespace Cert.Kernel1Ideal.Graph

open Gen Cert.Body
open Idealize.ShloMosaic Idealize.ShloMosaic.TcCoe

variable {F : FTy → Type} [FloatOps F]

/-- The body's steps. -/
def steps : Steps F 200 160 128 256 where
  scale := k0_pay4
  shift := k0_pay5
  feat := k0_pay13
  sco A D pw := k0_pay14 A D (k0_pay6 pw) (k0_pay7 pw)
  rnk A D pw := k0_pay15 A D (k0_pay6 pw) (k0_pay7 pw) (iota .tc S200x200 32 [0] iota_S200x200_d0_w32) (iota .tc S200x200 32 [1] iota_S200x200_d1_w32)
  nid := k0_pay16 k0_pay9
  take := k0_pay17 k0_pay9
  xnew := k0_pay18 k0_pay9
  snid r nb := k0_pay20 (iota .tc S200x200 32 [1] iota_S200x200_d1_w32) r (k0_pay19 (F := F) nb) nb nb nb
  msk t s mk := k0_pay25 t s (k0_pay21 mk) (k0_pay22 mk) (k0_pay23 mk) mk
  src t s mk := k0_pay26 t s (k0_pay21 mk) (k0_pay22 mk) (k0_pay23 mk) mk
  takeSrc t s mk := k0_pay31 (iota .tc S160x160 32 [1] iota_S160x160_d1_w32) t s (k0_pay21 mk) (k0_pay22 mk) (k0_pay23 mk) mk
  edg W b x := k0_pay32 W (k0_pay8 b) x (k0_pay27 x) (k0_pay29 x) (k0_pay30 x)
  med W b x k := k0_pay34 W (k0_pay8 b) x k (k0_pay27 x) (k0_pay29 x) (k0_pay30 x)
  outSum W b x k := k0_pay39 W (k0_pay8 b) x k (k0_pay27 x) (k0_pay29 x) (k0_pay30 x)
  outCnt k := k0_pay40 (k0_pay35 k)
  outSrc := k0_pay41
  outMsk := k0_pay42
  sum0 := k0_pay10
  sq0 := k0_pay11
  num0 := k0_pay12 (Scalar.ofBits .f32 0x00000000#32)
  sumOn W b x k t acc := k0_pay36 W (k0_pay8 b) acc x k (k0_pay27 x) (k0_pay29 x) (k0_pay30 x) t
  sqOn W b x k t acc := k0_pay37 W (k0_pay8 b) acc x k (k0_pay27 x) (k0_pay29 x) (k0_pay30 x) t
  numOn k acc := k0_pay38 acc k
  stats0 := k0_pay149
  statsOn s2 q2 n2 := k0_pay1 s2 q2 (k0_pay150 n2) (Scalar.ofBits .f32 0x00000000#32)

end Cert.Kernel1Ideal.Graph
-- ==== Proof.Pieces1.lean ====
/- What a grid point of the first pooling leaves in each output block, as the functions of one graph (`Body.outSum` …): graph `g` of the block is
   that function of graph `g` of the input blocks. -/
module

public import proofs.«01_k».proof.Proof.Gen.Kernel1Ideal.Value
public import proofs.«01_k».proof.Proof.Graph1
public import proofs.«01_k».proof.Proof.Blocks
public import Idealize.ShloMosaic.Lib.Pipeline.ValueKit

@[expose] public section

set_option maxRecDepth 16384

noncomputable section

namespace Cert.Kernel1Ideal.Pieces

open Value Gen Graph Cert.Body
open Idealize.ShloMosaic Idealize.ShloMosaic.TcCoe

variable {F : FTy → Type} [FloatOps F]

variable (c : Dev nD) (i : grid0.Coords)
variable (arg1 : Memref sig .tc .vmem S5x200x128 .f32) (harg1 : arg1.IsWhole)
variable (arg2 : Memref sig .tc .vmem S5x200x8 .f32) (harg2 : arg2.IsWhole)
variable (arg3 : Memref sig .tc .vmem S5x200x8 .i32) (harg3 : arg3.IsWhole)
variable (arg4 : Memref sig .tc .vmem S5x200x8 .f32) (harg4 : arg4.IsWhole)
variable (arg5 : Memref sig .tc .vmem S8x128 .f32) (harg5 : arg5.IsWhole)
variable (arg6 : Memref sig .tc .vmem S1x128 .f32) (harg6 : arg6.IsWhole)
variable (arg7 : Memref sig .tc .vmem S1x128 .f32) (harg7 : arg7.IsWhole)
variable (arg8 : Memref sig .tc .vmem S128x128 .f32) (harg8 : arg8.IsWhole)
variable (arg9 : Memref sig .tc .vmem S256x256 .f32) (harg9 : arg9.IsWhole)
variable (arg10 : Memref sig .tc .vmem S1x256 .f32) (harg10 : arg10.IsWhole)
variable (arg11 : Memref sig .tc .vmem S5x160x256 .f32) (harg11 : arg11.IsWhole)
variable (arg12 : Memref sig .tc .vmem S5x160x8 .f32) (harg12 : arg12.IsWhole)
variable (arg13 : Memref sig .tc .vmem S5x160x8 .i32) (harg13 : arg13.IsWhole)
variable (arg14 : Memref sig .tc .vmem S5x160x8 .f32) (harg14 : arg14.IsWhole)
variable (arg15 : Memref sig .tc .vmem S8x256 .f32) (harg15 : arg15.IsWhole)
variable (x0 : Vec F S5x200x128 .f32) (x1 : Vec F S5x200x8 .f32) (x2 : Vec F S5x200x8 .i32) (x3 : Vec F S5x200x8 .f32) (x4 : Vec F S8x128 .f32) (x5 : Vec F S1x128 .f32) (x6 : Vec F S1x128 .f32) (x7 : Vec F S128x128 .f32) (x8 : Vec F S256x256 .f32) (x9 : Vec F S1x256 .f32)

/-- The block of sums, case A. -/
theorem out_A_10 (hc0 : cond0_0 i) (y : S5x160x256.Idx) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y
      = outSum steps (scale steps x4 x5) (shift steps x4 x5 x6) x7 x8 x9 (gr x1 (y 0)) (gr x0 (y 0)) (gr x2 (y 0)) (gr x3 (y 0)) (ix3 0 (y 1) (y 2)) := by
  frame_out
  canon_tiles x h
  all_goals
    rw [ix3_of x y h1 h2]
    simp only [ld_strow, ld_gr]
    first
    | rw [graph_eq (y := y 0) (g := 0) (h0.trans (Nat.zero_add _).symm) x0_lt (by decide)]; rfl
    | rw [graph_eq (y := y 0) h0 x0_lt (by decide)]; rfl

/-- The block of numbers of edges, case A. -/
theorem out_A_11 (hc0 : cond0_0 i) (y : S5x160x8.Idx) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y
      = outCnt steps (scale steps x4 x5) (shift steps x4 x5 x6) x7 (gr x1 (y 0)) (gr x0 (y 0)) (gr x2 (y 0)) (gr x3 (y 0)) (ix3 0 (y 1) (y 2)) := by
  frame_out
  canon_tiles x h
  all_goals
    rw [ix3_of x y h1 h2]
    simp only [ld_strow, ld_gr]
    first
    | rw [graph_eq (y := y 0) (g := 0) (h0.trans (Nat.zero_add _).symm) x0_lt (by decide)]; rfl
    | rw [graph_eq (y := y 0) h0 x0_lt (by decide)]; rfl

/-- The block of sources, case A. -/
theorem out_A_12 (hc0 : cond0_0 i) (y : S5x160x8.Idx) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y
      = outSrc steps (scale steps x4 x5) (shift steps x4 x5 x6) x7 (gr x1 (y 0)) (gr x0 (y 0)) (gr x2 (y 0)) (gr x3 (y 0)) (ix3 0 (y 1) (y 2)) := by
  frame_out
  canon_tiles x h
  all_goals
    rw [ix3_of x y h1 h2]
    simp only [ld_strow, ld_gr]
    first
    | rw [graph_eq (y := y 0) (g := 0) (h0.trans (Nat.zero_add _).symm) x0_lt (by decide)]; rfl
    | rw [graph_eq (y := y 0) h0 x0_lt (by decide)]; rfl

/-- The block of masks, case A. -/
theorem out_A_13 (hc0 : cond0_0 i) (y : S5x160x8.Idx) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y
      = outMsk steps (scale steps x4 x5) (shift steps x4 x5 x6) x7 (gr x1 (y 0)) (gr x0 (y 0)) (gr x2 (y 0)) (gr x3 (y 0)) (ix3 0 (y 1) (y 2)) := by
  frame_out
  canon_tiles x h
  all_goals
    rw [ix3_of x y h1 h2]
    simp only [ld_strow, ld_gr]
    first
    | rw [graph_eq (y := y 0) (g := 0) (h0.trans (Nat.zero_add _).symm) x0_lt (by decide)]; rfl
    | rw [graph_eq (y := y 0) h0 x0_lt (by decide)]; rfl

/-- The block of sums, case B. -/
theorem out_B_10 (hc0 : ¬cond0_0 i) (xo14 : Vec F S8x256 .f32) (y : S5x160x256.Idx) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo14 y
      = outSum steps (scale steps x4 x5) (shift steps x4 x5 x6) x7 x8 x9 (gr x1 (y 0)) (gr x0 (y 0)) (gr x2 (y 0)) (gr x3 (y 0)) (ix3 0 (y 1) (y 2)) := by
  frame_out
  canon_tiles x h
  all_goals
    rw [ix3_of x y h1 h2]
    simp only [ld_strow, ld_gr]
    first
    | rw [graph_eq (y := y 0) (g := 0) (h0.trans (Nat.zero_add _).symm) x0_lt (by decide)]; rfl
    | rw [graph_eq (y := y 0) h0 x0_lt (by decide)]; rfl

/-- The block of numbers of edges, case B. -/
theorem out_B_11 (hc0 : ¬cond0_0 i) (xo14 : Vec F S8x256 .f32) (y : S5x160x8.Idx) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo14 y
      = outCnt steps (scale steps x4 x5) (shift steps x4 x5 x6) x7 (gr x1 (y 0)) (gr x0 (y 0)) (gr x2 (y 0)) (gr x3 (y 0)) (ix3 0 (y 1) (y 2)) := by
  frame_out
  canon_tiles x h
  all_goals
    rw [ix3_of x y h1 h2]
    simp only [ld_strow, ld_gr]
    first
    | rw [graph_eq (y := y 0) (g := 0) (h0.trans (Nat.zero_add _).symm) x0_lt (by decide)]; rfl
    | rw [graph_eq (y := y 0) h0 x0_lt (by decide)]; rfl

/-- The block of sources, case B. -/
theorem out_B_12 (hc0 : ¬cond0_0 i) (xo14 : Vec F S8x256 .f32) (y : S5x160x8.Idx) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo14 y
      = outSrc steps (scale steps x4 x5) (shift steps x4 x5 x6) x7 (gr x1 (y 0)) (gr x0 (y 0)) (gr x2 (y 0)) (gr x3 (y 0)) (ix3 0 (y 1) (y 2)) := by
  frame_out
  canon_tiles x h
  all_goals
    rw [ix3_of x y h1 h2]
    simp only [ld_strow, ld_gr]
    first
    | rw [graph_eq (y := y 0) (g := 0) (h0.trans (Nat.zero_add _).symm) x0_lt (by decide)]; rfl
    | rw [graph_eq (y := y 0) h0 x0_lt (by decide)]; rfl

/-- The block of masks, case B. -/
theorem out_B_13 (hc0 : ¬cond0_0 i) (xo14 : Vec F S8x256 .f32) (y : S5x160x8.Idx) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo14 y
      = outMsk steps (scale steps x4 x5) (shift steps x4 x5 x6) x7 (gr x1 (y 0)) (gr x0 (y 0)) (gr x2 (y 0)) (gr x3 (y 0)) (ix3 0 (y 1) (y 2)) := by
  frame_out
  canon_tiles x h
  all_goals
    rw [ix3_of x y h1 h2]
    simp only [ld_strow, ld_gr]
    first
    | rw [graph_eq (y := y 0) (g := 0) (h0.trans (Nat.zero_add _).symm) x0_lt (by decide)]; rfl
    | rw [graph_eq (y := y 0) h0 x0_lt (by decide)]; rfl

/-- The sums for the next batch norm, case A. -/
theorem out_A_14 (hc0 : cond0_0 i) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
      = statsOn steps (scale steps x4 x5) (shift steps x4 x5 x6) x7 x8 x9 x1 x0 x2 x3 steps.stats0 := by
  frame_out
  simp only [ld_strow, ld_gr]
  rfl

/-- The sums for the next batch norm, case B. -/
theorem out_B_14 (hc0 : ¬cond0_0 i) (xo14 : Vec F S8x256 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo14
      = statsOn steps (scale steps x4 x5) (shift steps x4 x5 x6) x7 x8 x9 x1 x0 x2 x3 xo14 := by
  frame_out
  simp only [ld_strow, ld_gr]
  rfl

end Cert.Kernel1Ideal.Pieces
-- ==== Proof.Grid1.lean ====
/- The first pooling: the kernel's arrays after its run are the arrays of `Proof/Blocks.lean`, from the kernel's arguments. -/
module

public import proofs.«01_k».proof.Proof.Pieces1
public import Idealize.ShloMosaic.Lib.Claim
public import Idealize.ShloMosaic.Lib.StableHlo.ReadAt

@[expose] public section

set_option maxRecDepth 16384

noncomputable section

namespace Cert.Kernel1Ideal.Grid

open Cert.Kernel1Ideal Gen Graph Pieces Cert.Body
open Idealize.ShloMosaic Idealize.ShloMosaic.TcCoe
open Idealize.ShloMosaic.Pipeline (Dat)

variable {F : FTy → Type} [FloatOps F]
variable (m : (ℓ : Loc nD τ sig) → Buf (Elt F) ℓ) (c : Dev nD)

/-- The kernel's arguments, and the scores' direction as it passes it on. -/
def args : Args F 200 128 256 where
  ns := m ((c : Thread nD τ).loc main_arg0)
  cnt := m ((c : Thread nD τ).loc main_arg1)
  nb := m ((c : Thread nD τ).loc main_arg2)
  mask := m ((c : Thread nD τ).loc main_arg3)
  st := m ((c : Thread nD τ).loc main_arg4)
  g := m ((c : Thread nD τ).loc main_arg5)
  be := m ((c : Thread nD τ).loc main_arg6)
  dir := m ((c : Thread nD τ).loc main_arg7)
  W := m ((c : Thread nD τ).loc main_arg8)
  b := m ((c : Thread nD τ).loc main_arg9)
def pad : Mat F 128 128 := V m c main_v3

/-- Where the windows' blocks stand. -/
theorem idxs : ∀ t : Fin cfg0.N, (win0_0.index t = ![t.val, 0, 0] ∧ win0_1.index t = ![t.val, 0, 0] ∧ win0_2.index t = ![t.val, 0, 0]
    ∧ win0_3.index t = ![t.val, 0, 0]) ∧ (win0_4.index t = ![0, 0] ∧ win0_5.index t = ![0, 0] ∧ win0_6.index t = ![0, 0]
    ∧ win0_7.index t = ![0, 0] ∧ win0_8.index t = ![0, 0] ∧ win0_9.index t = ![0, 0]) ∧ (win0_10.index t = ![t.val, 0, 0]
    ∧ win0_11.index t = ![t.val, 0, 0] ∧ win0_12.index t = ![t.val, 0, 0] ∧ win0_13.index t = ![t.val, 0, 0] ∧ win0_14.index t = ![0, 0]) := by
  decide +kernel

section blocks
variable (t : Fin cfg0.N)

theorem blk0 : (iblk m c 0 t : Vec F S5x200x128 .f32) = blk (args m c).ns t := by
  funext y
  unfold blk gAt args
  blk_ext [iblk, V, (idxs t).1.1]

theorem blk1 : (iblk m c 1 t : Vec F S5x200x8 .f32) = blk (args m c).cnt t := by
  funext y
  unfold blk gAt args
  blk_ext [iblk, V, (idxs t).1.2.1]

theorem blk2 : (iblk m c 2 t : Vec F S5x200x8 .i32) = blk (args m c).nb t := by
  funext y
  unfold blk gAt args
  blk_ext [iblk, V, (idxs t).1.2.2.1]

theorem blk3 : (iblk m c 3 t : Vec F S5x200x8 .f32) = blk (args m c).mask t := by
  funext y
  unfold blk gAt args
  blk_ext [iblk, V, (idxs t).1.2.2.2]

theorem blk4 : (iblk m c 4 t : Vec F S8x128 .f32) = (args m c).st := by
  funext y
  unfold args
  blk_ext [iblk, V, (idxs t).2.1.1]

theorem blk8 : (iblk m c 8 t : Vec F S256x256 .f32) = (args m c).W := by
  funext y
  unfold args
  blk_ext [iblk, V, (idxs t).2.1.2.2.2.2.1]

theorem entry_v0 (j : Fin 128) : V m c main_v0 (ix2 0 j) = m ((c : Thread nD τ).loc main_arg5) (ix1 j) := by
  unfold V
  dsimp only [hostOps0, hostOps0_1, hostOps0_2, List.flatten, List.append]
  after_reads_at

theorem entry_v1 (j : Fin 128) : V m c main_v1 (ix2 0 j) = m ((c : Thread nD τ).loc main_arg6) (ix1 j) := by
  unfold V
  dsimp only [hostOps0, hostOps0_1, hostOps0_2, List.flatten, List.append]
  after_reads_at

theorem entry_v4 (j : Fin 256) : V m c main_v4 (ix2 0 j) = m ((c : Thread nD τ).loc main_arg9) (ix1 j) := by
  unfold V
  dsimp only [hostOps0, hostOps0_1, hostOps0_2, List.flatten, List.append]
  after_reads_at

/-- The first column passed on is the scores' direction. -/
theorem pad_apply (f : Fin 128) : pad m c (ix2 f 0) = (args m c).dir (ix1 f) := by
  unfold pad args V
  dsimp only [hostOps0, hostOps0_1, hostOps0_2, List.flatten, List.append]
  after_reads_at

theorem blk5 : (iblk m c 5 t : Vec F S1x128 .f32) = rowOf (F := F) (args m c).g := by
  have e : (iblk m c 5 t : Vec F S1x128 .f32) = V m c main_v0 := by
    funext y
    blk_ext [iblk, (idxs t).2.1.2.1]
  rw [e]
  exact eq_rowOf _ _ (entry_v0 m c)

theorem blk6 : (iblk m c 6 t : Vec F S1x128 .f32) = rowOf (F := F) (args m c).be := by
  have e : (iblk m c 6 t : Vec F S1x128 .f32) = V m c main_v1 := by
    funext y
    blk_ext [iblk, (idxs t).2.1.2.2.1]
  rw [e]
  exact eq_rowOf _ _ (entry_v1 m c)

theorem blk7 : (iblk m c 7 t : Vec F S128x128 .f32) = pad m c := by
  funext y
  unfold pad
  blk_ext [iblk, (idxs t).2.1.2.2.2.1]

theorem blk9 : (iblk m c 9 t : Vec F S1x256 .f32) = rowOf (F := F) (args m c).b := by
  have e : (iblk m c 9 t : Vec F S1x256 .f32) = V m c main_v4 := by
    funext y
    blk_ext [iblk, (idxs t).2.1.2.2.2.2.2]
  rw [e]
  exact eq_rowOf _ _ (entry_v4 m c)

end blocks

section points
variable (t : Fin cfg0.N)

theorem point10 (y : S5x160x256.Idx) : (outsAt0 m c t.val t.isLt).1 y = sumG steps (args m c) (pad m c) (gAt t (y 0)) (ix3 0 (y 1) (y 2)) := by
  by_cases h0 : t.val % 10 = 0
  · rw [outsAt0_A m c t h0]; dsimp only; rw [out_A_10, blk0, blk1, blk2, blk3, blk4, blk5, blk6, blk7, blk8, blk9]; rfl
  · rw [outsAt0_B m c t h0]; dsimp only; rw [out_B_10, blk0, blk1, blk2, blk3, blk4, blk5, blk6, blk7, blk8, blk9]; rfl

theorem point11 (y : S5x160x8.Idx) : (outsAt0 m c t.val t.isLt).2.1 y = cntG steps (args m c) (pad m c) (gAt t (y 0)) (ix3 0 (y 1) (y 2)) := by
  by_cases h0 : t.val % 10 = 0
  · rw [outsAt0_A m c t h0]; dsimp only; rw [out_A_11, blk0, blk1, blk2, blk3, blk4, blk5, blk6, blk7]; rfl
  · rw [outsAt0_B m c t h0]; dsimp only; rw [out_B_11, blk0, blk1, blk2, blk3, blk4, blk5, blk6, blk7]; rfl

theorem point12 (y : S5x160x8.Idx) : (outsAt0 m c t.val t.isLt).2.2.1 y = srcG steps (args m c) (pad m c) (gAt t (y 0)) (ix3 0 (y 1) (y 2)) := by
  by_cases h0 : t.val % 10 = 0
  · rw [outsAt0_A m c t h0]; dsimp only; rw [out_A_12, blk0, blk1, blk2, blk3, blk4, blk5, blk6, blk7]; rfl
  · rw [outsAt0_B m c t h0]; dsimp only; rw [out_B_12, blk0, blk1, blk2, blk3, blk4, blk5, blk6, blk7]; rfl

theorem point13 (y : S5x160x8.Idx) : (outsAt0 m c t.val t.isLt).2.2.2.1 y = mskG steps (args m c) (pad m c) (gAt t (y 0)) (ix3 0 (y 1) (y 2)) := by
  by_cases h0 : t.val % 10 = 0
  · rw [outsAt0_A m c t h0]; dsimp only; rw [out_A_13, blk0, blk1, blk2, blk3, blk4, blk5, blk6, blk7]; rfl
  · rw [outsAt0_B m c t h0]; dsimp only; rw [out_B_13, blk0, blk1, blk2, blk3, blk4, blk5, blk6, blk7]; rfl

theorem point14_A (h0 : t.val % 10 = 0) : (outsAt0 m c t.val t.isLt).2.2.2.2 = statsAt steps (args m c) (pad m c) t steps.stats0 := by
  rw [outsAt0_A m c t h0]
  dsimp only
  rw [out_A_14, blk0, blk1, blk2, blk3, blk4, blk5, blk6, blk7, blk8, blk9]
  rfl

theorem point14_B (h0 : ¬t.val % 10 = 0) : (outsAt0 m c t.val t.isLt).2.2.2.2
    = statsAt steps (args m c) (pad m c) t (outsAt0 m c (t.val - 1) (Nat.lt_of_le_of_lt (Nat.sub_le _ _) t.isLt)).2.2.2.2 := by
  rw [outsAt0_B m c t h0]
  dsimp only
  rw [out_B_14, blk0, blk1, blk2, blk3, blk4, blk5, blk6, blk7, blk8, blk9]
  rfl

/-- The array of sums after each point. -/
theorem stats_to : ∀ (k : ℕ) (h : k < 10), (outsAt0 m c k h).2.2.2.2 = statsTo steps (args m c) (pad m c) k h
  | 0, h => point14_A m c ⟨0, h⟩ rfl
  | k + 1, h => by
    refine (point14_B m c ⟨k + 1, h⟩ (by show ¬(k + 1) % 10 = 0; omega)).trans ?_
    exact congrArg (statsAt steps (args m c) (pad m c) ⟨k + 1, h⟩) (stats_to k (Nat.lt_of_succ_lt h))

end points

/-! ## The arrays -/

theorem arr10 : (dats m 0 c).arrAt 10 cfg0.N = arrOf (sumG steps (args m c) (pad m c)) := by
  refine (dats m 0 c).arrAt_eq_of_covers 10 _ (by decide +kernel) fun t hf y => ?_
  blk_simp
  rw [after0_10, point10]
  have e : (win0_10.blk t).view.emb y = ix3 (gAt t (y 0)) (y 1) (y 2) := by
    unfold gAt
    blk_ext [(idxs t).2.2.1]
  rw [e]
  rfl

theorem arr11 : (dats m 0 c).arrAt 11 cfg0.N = arrOf (cntG steps (args m c) (pad m c)) := by
  refine (dats m 0 c).arrAt_eq_of_covers 11 _ (by decide +kernel) fun t hf y => ?_
  blk_simp
  rw [after0_11, point11]
  have e : (win0_11.blk t).view.emb y = ix3 (gAt t (y 0)) (y 1) (y 2) := by
    unfold gAt
    blk_ext [(idxs t).2.2.2.1]
  rw [e]
  rfl

theorem arr12 : (dats m 0 c).arrAt 12 cfg0.N = arrOf (srcG steps (args m c) (pad m c)) := by
  refine (dats m 0 c).arrAt_eq_of_covers 12 _ (by decide +kernel) fun t hf y => ?_
  blk_simp
  rw [after0_12, point12]
  have e : (win0_12.blk t).view.emb y = ix3 (gAt t (y 0)) (y 1) (y 2) := by
    unfold gAt
    blk_ext [(idxs t).2.2.2.2.1]
  rw [e]
  rfl

theorem arr13 : (dats m 0 c).arrAt 13 cfg0.N = arrOf (mskG steps (args m c) (pad m c)) := by
  refine (dats m 0 c).arrAt_eq_of_covers 13 _ (by decide +kernel) fun t hf y => ?_
  blk_simp
  rw [after0_13, point13]
  have e : (win0_13.blk t).view.emb y = ix3 (gAt t (y 0)) (y 1) (y 2) := by
    unfold gAt
    blk_ext [(idxs t).2.2.2.2.2.1]
  rw [e]
  rfl

/-- The sums are what the last point leaves. -/
theorem arr14 : (dats m 0 c).arrAt 14 cfg0.N = statsTo steps (args m c) (pad m c) 9 (by norm_num) := by
  rw [← stats_to m c 9 (by decide)]
  refine (dats m 0 c).arrAt_eq_of_after_last 14 t0_9 (by decide +kernel) _ fun y => ?_
  blk_simp
  rw [after0_14]
  rfl

end Cert.Kernel1Ideal.Grid
-- ==== Proof.Reads1.lean ====
/- The first pooling's body satisfies the laws of a pooling body: its steps, read at an index. -/
module

public import proofs.«01_k».proof.Proof.Graph1
public import proofs.«01_k».proof.Proof.Laws

@[expose] public section

set_option maxRecDepth 16384

noncomputable section

namespace Cert.Kernel1Ideal.Graph

open Gen Cert.Body Cert.Pool Cert.Words
open Idealize.ShloMosaic Idealize.ShloMosaic.TcCoe

theorem feat_law (A D : FVec Ideal S1x128 .f32) (cnt : Vec Ideal S1x200x8 .f32) (ns : Vec Ideal S1x200x128 .f32) (i : Fin 200) (f : Fin 128) :
    k0_pay13 A D cnt ns (ix2 i f) = H A D cnt ns i f := by
  pointwise [k0_pay13]
  rw [sitofp_bit]
  simp only [decide_eq_true_eq]
  rfl

theorem sco_law (A D : FVec Ideal S1x128 .f32) (pw : Vec Ideal S128x128 .f32) (cnt : Vec Ideal S1x200x8 .f32) (ns : Vec Ideal S1x200x128 .f32) (i : Fin 200) :
    k0_pay14 A D (k0_pay6 pw) (k0_pay7 pw) cnt ns (ix2 i 0) = S A D pw cnt ns i := by
  pointwise [k0_pay14, k0_pay6, k0_pay7]
  unfold S score
  refine congrArg Ideal.tanh (congrArg (Ideal.div · _) (Finset.sum_congr rfl fun f _ => ?_))
  exact congrArg (· * _) (feat_law A D cnt ns i f)

theorem rnk_law (A D : FVec Ideal S1x128 .f32) (pw : Vec Ideal S128x128 .f32) (cnt : Vec Ideal S1x200x8 .f32) (ns : Vec Ideal S1x200x128 .f32) (i : Fin 200) :
    (steps (F := Ideal)).rnk A D pw cnt ns (ix1 i) = ((rankOf (before (S A D pw cnt ns)) i : ℕ) : EReal) := by
  have hs : ∀ i, k0_pay14 A D (k0_pay6 pw) (k0_pay7 pw) cnt ns (ix2 i 0) = S A D pw cnt ns i := sco_law A D pw cnt ns
  unfold steps
  pointwise [k0_pay15]
  unfold rankOf
  rw [← sum_bits]
  refine Finset.sum_congr rfl fun x _ => ?_
  have e : ∀ z : Fin 200 → EReal, _ = _ := fun z => sum_pick z x (by norm_num)
  rw [e, cmpi_slt (by omega) (by omega), andi_bit, ori_bit, sitofp_bit, hs, hs]
  rfl

theorem nid_law (r : FVec Ideal S200 .f32) (i : Fin 200) : k0_pay16 k0_pay9 r (ix2 i 0) = if r (ix1 i) < ((160 : ℕ) : EReal)
    then (∑ x : Fin 200, bit (IntOp.cmpi .sle (BitVec.ofNat 32 x.val) (BitVec.ofNat 32 i.val)) * if r (ix1 x) < ((160 : ℕ) : EReal) then 1 else 0) - 1
    else ((-1 : ℝ) : EReal) := by
  rw [← ofBits_160, ← ofBits_neg_one]
  pointwise [k0_pay16, k0_pay9]
  simp only [sitofp_bit, decide_eq_true_eq]
  by_cases h : r (ix1 i) < Ideal.ofBits FTy.f32 0x43200000#32
  · rw [if_pos h, if_pos h, if_pos (by norm_num)]
    rfl
  · rw [if_neg h, if_neg h, if_neg (by norm_num)]

theorem take_law (r : FVec Ideal S200 .f32) (p : Fin 160) (i : Fin 200) : k0_pay17 k0_pay9 r (ix2 p i)
    = bit (IntOp.cmpi .eq (BitVec.ofNat 32 p.val) (FloatOps.fptosi (F := Ideal) (φ := FTy.f32) 32 (k0_pay16 k0_pay9 r (ix2 i 0)))) := by
  have e : ∀ z : Fin 200 → EReal, _ = _ := fun z => sum_pick z i (by norm_num)
  pointwise [k0_pay17]
  rw [e]
  rfl

theorem snid_law (r : FVec Ideal S200x1 .f32) (nb : Vec Ideal S1x200x8 .i32) (e : Fin 4) (i : Fin 200) : (steps (F := Ideal)).snid r nb (ix2 (at4 e i) 0)
    = ∑ x : Fin 200, bit (IntOp.cmpi .eq (BitVec.ofNat 32 x.val) (nb (ix3 0 i (lo e)))) * r (ix2 x 0) := by
  show k0_pay20 _ r _ nb nb nb (ix2 (⟨200 * e.val + i.val, (at4 e i).isLt⟩ : Fin 800) 0) = _
  pointwise [k0_pay20, k0_pay19]
  exact Finset.sum_congr rfl fun x _ => congrArg (· * _) (cat4 (fun e i => bit (IntOp.cmpi .eq (BitVec.ofNat 32 x.val) (nb (ix3 0 i (lo e))))) e i _ rfl (by omega))

/-- The rows of new numbers and masks. -/
theorem src_row (t : FVec Ideal S160x200 .f32) (s : FVec Ideal S800x1 .f32) (mk : Vec Ideal S1x200x8 .f32) (p : Fin 160) (e : Fin 4) :
    k0_pay24 t s (k0_pay21 mk) (k0_pay22 mk) (k0_pay23 mk) mk (ix2 p (⟨e.val, by omega⟩ : Fin 8)) = ∑ x, t (ix2 p x) * s (ix2 (at4 e x) 0) := by
  fin_cases e <;> (unfold at4; pointwise [k0_pay24])

theorem msk_law (t : FVec Ideal S160x200 .f32) (s : FVec Ideal S800x1 .f32) (mk : Vec Ideal S1x200x8 .f32) (p : Fin 160) (e : Fin 4) :
    k0_pay25 t s (k0_pay21 mk) (k0_pay22 mk) (k0_pay23 mk) mk (ix2 p e)
      = ∑ x, t (ix2 p x) * (mk (ix3 0 x (lo e)) * if decide (0 ≤ s (ix2 (at4 e x) 0)) then 1 else 0) := by
  fin_cases e <;> (unfold at4; pointwise [k0_pay25, k0_pay24, k0_pay21, k0_pay22, k0_pay23]; simp only [sitofp_bit]
                   refine Finset.sum_congr rfl fun x _ => congrArg (_ * ·) (congrArg (· * _) ?_))
  · rfl
  · first | rfl | exact cat4 (fun e x => mk (ix3 0 x (lo e))) 1 x (200 + x.val) (by simp) (by omega)
  · first | rfl | exact cat4 (fun e x => mk (ix3 0 x (lo e))) 2 x (400 + x.val) (by simp) (by omega)
  · first | rfl | exact cat4 (fun e x => mk (ix3 0 x (lo e))) 3 x (600 + x.val) (by simp) (by omega)

theorem takeSrc_law (t : FVec Ideal S160x200 .f32) (s : FVec Ideal S800x1 .f32) (mk : Vec Ideal S1x200x8 .f32) (e : Fin 4) (p x : Fin 160) :
    (steps (F := Ideal)).takeSrc t s mk (ix2 (at4 e p) x) = bit (IntOp.cmpi .eq (BitVec.ofNat 32 x.val) ((steps (F := Ideal)).src t s mk (ix2 p e))) := by
  show k0_pay31 _ t s _ _ _ mk (ix2 (⟨160 * e.val + p.val, (at4 e p).isLt⟩ : Fin 640) x) = _
  pointwise [k0_pay31]
  exact cat4 (fun e p => bit (IntOp.cmpi .eq (BitVec.ofNat 32 x.val) ((steps (F := Ideal)).src t s mk (ix2 p e)))) e p _ rfl (by omega)

theorem edg_law (W : Vec Ideal S256x256 .f32) (b : Vec Ideal S1x256 .f32) (x : FVec Ideal S160x128 .f32) (t : FVec Ideal S640x160 .bf16)
    (e : Fin 4) (p : Fin 160) (j : Fin 256) : (steps (F := Ideal)).edg W b x t (ix2 (at4 e p) j)
      = max (∑ f, x (ix2 p f) * W (ix2 (top f) j)
        + ∑ f, (threefold (fun y => t (ix2 (at4 e p) y)) (fun y => x (ix2 y f)) - x (ix2 p f)) * W (ix2 (bot f) j) + b (ix2 0 j)) 0 := by
  show k0_pay32 W (k0_pay8 b) x (k0_pay27 x) (k0_pay29 x) (k0_pay30 x) t (ix2 (⟨160 * e.val + p.val, (at4 e p).isLt⟩ : Fin 640) j) = _
  have h28 : ∀ y f, k0_pay28 x (ix2 y f) = x (ix2 y f) - x (ix2 y f) := by
    intro y f
    pointwise [k0_pay28, k0_pay27]
  have hX : ∀ f, _ = x (ix2 p f) := fun f => cat4 (fun _ p => x (ix2 p f)) e p (160 * e.val + p.val) rfl (by omega)
  pointwise [k0_pay32, k0_pay8, k0_pay27, k0_pay29, k0_pay30]
  refine congrArg (max · 0) (congrArg (· + _) (congrArg₂ (· + ·) (Finset.sum_congr rfl fun f _ => ?_) (Finset.sum_congr rfl fun f _ => ?_)))
  · exact congrArg (· * _) (hX f)
  · refine congrArg (· * _) (congrArg₂ (· - ·) ?_ (hX f))
    simp only [h28]
    rfl

theorem med_law (W : Vec Ideal S256x256 .f32) (b : Vec Ideal S1x256 .f32) (x : FVec Ideal S160x128 .f32) (k : FVec Ideal S160x4 .f32)
    (t : FVec Ideal S640x160 .bf16) (e : Fin 4) (p : Fin 160) (j : Fin 256) :
    (steps (F := Ideal)).med W b x k t (ix2 (at4 e p) j) = (steps (F := Ideal)).edg W b x t (ix2 (at4 e p) j) * k (ix2 p e) := by
  show k0_pay34 W (k0_pay8 b) x k (k0_pay27 x) (k0_pay29 x) (k0_pay30 x) t (ix2 (⟨160 * e.val + p.val, (at4 e p).isLt⟩ : Fin 640) j) = _
  pointwise [k0_pay34, k0_pay33]
  exact congrArg₂ (· * ·) rfl (cat4 (fun e p => k (ix2 p e)) e p _ rfl (by omega))

theorem outSum_law (W : Vec Ideal S256x256 .f32) (b : Vec Ideal S1x256 .f32) (x : FVec Ideal S160x128 .f32) (k : FVec Ideal S160x4 .f32)
    (t : FVec Ideal S640x160 .bf16) (p : Fin 160) (j : Fin 256) :
    (steps (F := Ideal)).outSum W b x k t (ix3 0 p j) = ∑ e, (steps (F := Ideal)).med W b x k t (ix2 (at4 e p) j) := by
  rw [Fin.sum_univ_four]
  unfold steps at4
  pointwise [k0_pay39]

theorem outCnt_law (k : FVec Ideal S160x4 .f32) (p : Fin 160) (j : Fin 8) : k0_pay40 (k0_pay35 k) (ix3 0 p j) = ∑ e, k (ix2 p e) := by
  have h35 : ∀ y : Fin 1, k0_pay35 k (ix2 p y) = ∑ e, k (ix2 p e) := by
    intro y
    obtain rfl : y = 0 := Subsingleton.elim _ _
    rw [Fin.sum_univ_four]
    pointwise [k0_pay35]
  pointwise [k0_pay40]
  split_ifs <;> exact h35 _

theorem sumOn_law (W : Vec Ideal S256x256 .f32) (b : Vec Ideal S1x256 .f32) (x : FVec Ideal S160x128 .f32) (k : FVec Ideal S160x4 .f32)
    (t : FVec Ideal S640x160 .bf16) (acc : FVec Ideal S1x256 .f32) (j : Fin 256) : (steps (F := Ideal)).sumOn W b x k t acc (ix2 0 j)
      = acc (ix2 0 j) + ∑ p, ∑ e, (steps (F := Ideal)).med W b x k t (ix2 (at4 e p) j) := by
  rw [← sum_at4 fun r => (steps (F := Ideal)).med W b x k t (ix2 r j)]
  unfold steps
  pointwise [k0_pay36]

theorem sqOn_law (W : Vec Ideal S256x256 .f32) (b : Vec Ideal S1x256 .f32) (x : FVec Ideal S160x128 .f32) (k : FVec Ideal S160x4 .f32)
    (t : FVec Ideal S640x160 .bf16) (acc : FVec Ideal S1x256 .f32) (j : Fin 256) : (steps (F := Ideal)).sqOn W b x k t acc (ix2 0 j)
      = acc (ix2 0 j) + ∑ p, ∑ e, (steps (F := Ideal)).med W b x k t (ix2 (at4 e p) j) * (steps (F := Ideal)).edg W b x t (ix2 (at4 e p) j) := by
  rw [← sum_at4 fun r => (steps (F := Ideal)).med W b x k t (ix2 r j) * (steps (F := Ideal)).edg W b x t (ix2 r j)]
  unfold steps
  pointwise [k0_pay37]

theorem numOn_law (k : FVec Ideal S160x4 .f32) (acc : FVec Ideal S1x1 .f32) : k0_pay38 acc k (ix2 0 0) = acc (ix2 0 0) + ∑ p, ∑ e, k (ix2 p e) := by
  have h : ∀ p e, k0_pay33 k (ix2 (at4 e p) 0) = k (ix2 p e) := by
    intro p e
    show k0_pay33 k (ix2 (⟨160 * e.val + p.val, (at4 e p).isLt⟩ : Fin 640) 0) = _
    pointwise [k0_pay33]
    exact cat4 (fun e p => k (ix2 p e)) e p _ rfl (by omega)
  refine Eq.trans ?_ (congrArg (acc (ix2 0 0) + ·) ((sum_at4 (m := 160) fun r => k0_pay33 k (ix2 r 0)).trans (by simp only [h])))
  pointwise [k0_pay38]

/-- The body's steps satisfy the laws. -/
theorem laws : Laws (steps (F := Ideal)) where
  le := by norm_num
  small := by norm_num
  scale s0 s1 s2 g f := by
    unfold steps factor
    pointwise [k0_pay4, k0_pay3, k0_pay2, k0_pay1]
  shift s0 s1 s2 g be f := by
    unfold steps factor
    pointwise [k0_pay5, k0_pay4, k0_pay3, k0_pay2, k0_pay1]
  feat := feat_law
  sco := sco_law
  rnk := rnk_law
  nid := nid_law
  take := take_law
  xnew h s r p f := by
    unfold steps threefold
    pointwise [k0_pay18]
  snid := snid_law
  msk := msk_law
  src t s mk p e := by
    refine Eq.trans ?_ (congrArg (fun z => FloatOps.fptosi (F := Ideal) (φ := FTy.f32) 32 (max z 0)) (src_row t s mk p e))
    unfold steps
    pointwise [k0_pay26]
  takeSrc := takeSrc_law
  edg := edg_law
  med := med_law
  outSum := outSum_law
  outCnt := outCnt_law
  outSrc s p j := by
    unfold steps
    pointwise [k0_pay41]
  outMsk k p j := by
    unfold steps
    pointwise [k0_pay42]
  sum0 j := by
    unfold steps
    pointwise [k0_pay10]
  sq0 j := by
    unfold steps
    pointwise [k0_pay11]
  num0 := by
    unfold steps
    pointwise [k0_pay12]
  sumOn := sumOn_law
  sqOn := sqOn_law
  numOn := numOn_law
  stats0 r j := by
    unfold steps
    pointwise [k0_pay149]
  statsOn s z c prev r j := by
    unfold steps
    pointwise [k0_pay1, k0_pay150]
    refine congrArg (_ + ·) ?_
    have one : ∀ (y : Mat Ideal 1 256) (x : Fin 1), y (ix2 x j) = y (ix2 0 j) := fun y x => by rw [Subsingleton.elim x 0]
    simp only [one s, one z, dite_eq_ite]

end Cert.Kernel1Ideal.Graph
-- ==== Proof.RefRows1.lean ====
/- The first pooling: what the reference's lines give at an index (`rows`), for its arrays (`table`) from its arguments (`args`). -/
module

public import proofs.«01_k».proof.Proof.Table
public import proofs.«01_k».proof.Proof.Gen.Reference1Ideal.Run

@[expose] public section

set_option maxRecDepth 16384

noncomputable section

namespace Cert.Reference1Ideal.Read

open Gen Value Cert.Pool Cert.Words Cert.Pick
open Cert.Body (Args Table Rows lo top bot)
open Idealize.ShloMosaic Idealize.ShloMosaic.TcCoe Idealize.ShloMosaic.StableHlo

variable (V : Valuation τ sig (Elt Ideal))

/-- The reference's arguments. -/
def args : Args Ideal 200 128 256 where
  ns := V (Proc.devRef .tc main_arg0)
  cnt := V (Proc.devRef .tc main_arg1)
  nb := V (Proc.devRef .tc main_arg2)
  mask := V (Proc.devRef .tc main_arg3)
  st := V (Proc.devRef .tc main_arg4)
  g := V (Proc.devRef .tc main_arg5)
  be := V (Proc.devRef .tc main_arg6)
  dir := V (Proc.devRef .tc main_arg7)
  W := V (Proc.devRef .tc main_arg8)
  b := V (Proc.devRef .tc main_arg9)

/-- The reference's arrays. -/
def table : Table 200 160 128 256 where
  feat := res_main_v35 V
  sco := res_main_v42 V
  ord := res_main_v43 V
  keep := res_main_v63 V
  old := res_main_v99 V
  seen := res_main_v114 V
  msk := res_main_v134 V
  src := res_main_v137 V
  edg := res_main_v162 V
  medg := res_main_v165 V
  rsum := Host.reduceAdd (res_main_v165 V) (constant (F := Ideal) S_ .f32 0x00000000#32) reducesTo_S50x160x4x256_S50x160x256_d2 h_S_
  rcnt := broadcastInDim S50x160x8 ![0, 1, 2] bcast_S50x160x1_S50x160x8_0_1_2 (broadcastInDim S50x160x1 ![0, 1] bcast_S50x160_S50x160x1_0_1 (Host.reduceAdd (res_main_v134 V) (constant (F := Ideal) S_ .f32 0x00000000#32) reducesTo_S50x160x4_S50x160_d2 h_S_))
  rsrc := pad S50x160x8 ![0, 0, 0] ![0, 0, 4] ![0, 0, 0] (res_main_v137 V) (id (constantI S_ 32 0#32)) pads_S50x160x4_S50x160x8_000_000_040 h_S_
  rmsk := pad S50x160x8 ![0, 0, 0] ![0, 0, 4] ![0, 0, 0] (res_main_v134 V) (sitofp .f32 (constantI S_ 32 0#32)) pads_S50x160x4_S50x160x8_000_000_040 h_S_
  rstats := (concatenate S8x256 0 [⟨S1x256, ((broadcastInDim S1x256 ![1] bcast_S256_S1x256_1 (Host.reduceAdd (res_main_v165 V) (constant (F := Ideal) S_ .f32 0x00000000#32) reducesTo_S50x160x4x256_S256_d0_1_2 h_S_)) : (⟨S1x256, .f32⟩ : BufTy).Contents (Elt Ideal))⟩, ⟨S1x256, ((broadcastInDim S1x256 ![1] bcast_S256_S1x256_1 (Host.reduceAdd (mulf (res_main_v165 V) (res_main_v162 V)) (constant (F := Ideal) S_ .f32 0x00000000#32) reducesTo_S50x160x4x256_S256_d0_1_2 h_S_)) : (⟨S1x256, .f32⟩ : BufTy).Contents (Elt Ideal))⟩, ⟨S1x256, ((addf (id (broadcastInDim S1x256 ![] bcast_S_S1x256 (constant (F := Ideal) S_ .f32 0x00000000#32))) (broadcastInDim S1x256 ![] bcast_S_S1x256 (Host.reduceAdd (res_main_v134 V) (constant (F := Ideal) S_ .f32 0x00000000#32) reducesTo_S50x160x4_S_d0_1_2 h_S_))) : (⟨S1x256, .f32⟩ : BufTy).Contents (Elt Ideal))⟩, ⟨S5x256, ((broadcastInDim S5x256 ![] bcast_S_S5x256 (constant (F := Ideal) S_ .f32 0x00000000#32)) : (⟨S5x256, .f32⟩ : BufTy).Contents (Elt Ideal))⟩] concatenates_S1x256_S1x256_S1x256_S5x256_S8x256_d0 : (⟨S8x256, .f32⟩ : BufTy).Contents (Elt Ideal))

theorem feat_apply (b : Fin 50) (i : Fin 200) (f : Fin 128) : (table V).feat (ix3 b i f) = Cert.Body.hh (args V) b i f := by
  unfold Cert.Body.hh args table
  dsimp only
  pointwise [res_main_v35, res_main_v7, res_main_v4, res_main_v0]

theorem sco_apply (b : Fin 50) (i : Fin 200) : (table V).sco (ix2 b i)
    = score (fun i f => (table V).feat (ix3 b i f)) (fun f => (args V).dir (ix1 f)) i := by
  unfold args table
  dsimp only
  pointwise [res_main_v42]
  rfl

theorem ord_apply (b : Fin 50) (p : Fin 160) : (table V).ord (ix2 b p)
    = BitVec.ofNat 32 (sel (by norm_num : 160 ≤ 200) (fun i => (table V).sco (ix2 b i)) p).val := by
  show (res_main_v43 V : IVec S50x160 32) (ix2 b p) = _
  unfold res_main_v43
  exact kept_sorted (by norm_num) (by norm_num) _ comparator_i32_d1 (fun _ _ => by unfold comparator_i32_d1; rfl) _ b p

/-- The start indices that read a graph's kept node. -/
def at2 : IVec S50x160x2 32 := (concatenate S50x160x2 2 [⟨S50x160x1, (broadcastInDim S50x160x1 ![0, 1] bcast_S50x160_S50x160x1_0_1 (broadcastInDim S50x160 ![0, 1] bcast_S50x1_S50x160_0_1 (select (cmpi .slt (res_main_v45 V) (broadcastInDim S50x1 ![] bcast_S_S50x1 (constantI S_ 32 0#32))) (addi (res_main_v45 V) (broadcastInDim S50x1 ![] bcast_S_S50x1 (constantI S_ 32 50#32))) (res_main_v45 V))))⟩, ⟨S50x160x1, (broadcastInDim S50x160x1 ![0, 1] bcast_S50x160_S50x160x1_0_1 (select (cmpi .slt (res_main_v43 V) (broadcastInDim S50x160 ![] bcast_S_S50x160 (constantI S_ 32 0#32))) (addi (res_main_v43 V) (broadcastInDim S50x160 ![] bcast_S_S50x160 (constantI S_ 32 200#32))) (res_main_v43 V)))⟩] concatenates_S50x160x1_S50x160x1_S50x160x2_d2)

section kept
variable (k : Fin 50 → Fin 160 → Fin 200) (hk : ∀ b p, (table V).ord (ix2 b p) = BitVec.ofNat 32 (k b p).val)

theorem at2_zero (b : Fin 50) (p : Fin 160) : at2 V (ix3 b p 0) = BitVec.ofNat 32 b.val := by
  pointwise [at2, res_main_v45]
  exact wrap_small (by omega) _

include hk
theorem at2_one (b : Fin 50) (p : Fin 160) : at2 V (ix3 b p 1) = BitVec.ofNat 32 (k b p).val := by
  have h := hk b p
  unfold table at h
  dsimp only at h
  pointwise [at2]
  rw [h]
  exact wrap_small (by omega) _

theorem keep_apply (b : Fin 50) (p : Fin 160) (f : Fin 128) : (table V).keep (ix3 b p f)
    = (table V).feat (ix3 b (k b p) f) * (table V).sco (ix2 b (k b p)) := by
  show (res_main_v63 V : FVec Ideal S50x160x128 .f32) (ix3 b p f) = _
  unfold res_main_v63
  refine (rows_apply (by norm_num) _ _ (at2 V) b p f _ (at2_zero V b p) (at2_one V k hk b p)).trans ?_
  unfold table
  dsimp only
  pointwise []

theorem old_apply (b : Fin 50) (p : Fin 160) (e : Fin 4) : (table V).old (ix3 b p e) = (args V).nb (ix3 b (k b p) (lo e)) := by
  refine Eq.trans ?_ (rows_apply (by norm_num) gather_S50x200x8_S50x160x2_S50x160x8_2_01_n_n_01_2_118.wf (args V).nb (at2 V) b p (lo e) _ (at2_zero V b p) (at2_one V k hk b p))
  unfold table
  dsimp only
  unfold res_main_v99
  pointwise []
  rfl

/-- The start indices that read a graph's node, by the old number of an edge's source. -/
def at4 : IVec S50x160x4x2 32 := (concatenate S50x160x4x2 3 [⟨S50x160x4x1, (broadcastInDim S50x160x4x1 ![0, 1, 2] bcast_S50x160x4_S50x160x4x1_0_1_2 (broadcastInDim S50x160x4 ![0, 1, 2] bcast_S50x1x1_S50x160x4_0_1_2 (select (cmpi .slt (res_main_v83 V) (broadcastInDim S50x1x1 ![] bcast_S_S50x1x1 (constantI S_ 32 0#32))) (addi (res_main_v83 V) (broadcastInDim S50x1x1 ![] bcast_S_S50x1x1 (constantI S_ 32 50#32))) (res_main_v83 V))))⟩, ⟨S50x160x4x1, (broadcastInDim S50x160x4x1 ![0, 1, 2] bcast_S50x160x4_S50x160x4x1_0_1_2 (select (cmpi .slt (res_main_v99 V) (broadcastInDim S50x160x4 ![] bcast_S_S50x160x4 (constantI S_ 32 0#32))) (addi (res_main_v99 V) (broadcastInDim S50x160x4 ![] bcast_S_S50x160x4 (constantI S_ 32 200#32))) (res_main_v99 V)))⟩] concatenates_S50x160x4x1_S50x160x4x1_S50x160x4x2_d3)

omit hk in
theorem at4_zero (b : Fin 50) (p : Fin 160) (e : Fin 4) : at4 V (ix4 b p e 0) = BitVec.ofNat 32 b.val := by
  pointwise [at4, res_main_v83, res_main_v45]
  exact wrap_small (by omega) _

/-- The new numbers: a kept node's place, and minus one elsewhere. -/
def fresh : IVec S50x200 32 :=
  Host.scatter scatter_S50x200_S50x160x2_S50x160_n_01_01_2 (fun _ b => b) (broadcastInDim S50x200 ![] bcast_S_S50x200 (constantI S_ 32 4294967295#32))
    (at2 V) (broadcastInDim S50x160 ![0, 1] bcast_S1x160_S50x160_0_1 (broadcastInDim S1x160 ![1] bcast_S160_S1x160_1 (iotaInDim S160 32 0)))

variable (z : Fin 50 → Fin 160 → Fin 4 → Fin 200) (hz : ∀ b p e, (table V).old (ix3 b p e) = BitVec.ofNat 32 (z b p e).val)

omit hk in
include hz in
theorem at4_one (b : Fin 50) (p : Fin 160) (e : Fin 4) : at4 V (ix4 b p e 1) = BitVec.ofNat 32 (z b p e).val := by
  have h := hz b p e
  unfold table at h
  dsimp only at h
  pointwise [at4]
  rw [h]
  exact wrap_small (by omega) _

omit hk in
include hz in
theorem seen_apply (b : Fin 50) (p : Fin 160) (e : Fin 4) : (table V).seen (ix3 b p e) = fresh V (ix2 b (z b p e)) := by
  have hu : (res_main_v114 V : IVec S50x160x4 32) = Host.gather gather_S50x200_S50x160x4x2_S50x160x4_n_01_n_n_01_3_11 (fresh V) (at4 V) := by
    unfold res_main_v114 fresh at4 at2
    rfl
  unfold table
  dsimp only
  rw [hu]
  exact entries_apply (by norm_num) gather_S50x200_S50x160x4x2_S50x160x4_n_01_n_n_01_3_11.wf (fresh V) (at4 V) b p e (z b p e) (at4_zero V b p e) (at4_one V z hz b p e)

include hz in
theorem seen_hit (hi : ∀ b, Function.Injective (k b)) (b : Fin 50) (p : Fin 160) (e : Fin 4) (r : Fin 160) (h : k b r = z b p e) :
    (table V).seen (ix3 b p e) = BitVec.ofNat 32 r.val := by
  rw [seen_apply V z hz, ← h]
  refine (puts_hit (by norm_num) _ _ (at2 V) _ k (at2_zero V) (at2_one V k hk) hi b r).trans ?_
  pointwise []

include hz in
theorem seen_miss (b : Fin 50) (p : Fin 160) (e : Fin 4) (h : ∀ r, k b r ≠ z b p e) :
    (table V).seen (ix3 b p e) = 4294967295#32 := by
  rw [seen_apply V z hz]
  refine (puts_miss (by norm_num) _ _ (at2 V) _ k (at2_zero V) (at2_one V k hk) b _ h).trans ?_
  pointwise []

theorem msk_apply (b : Fin 50) (p : Fin 160) (e : Fin 4) : (table V).msk (ix3 b p e)
    = (args V).mask (ix3 b (k b p) (lo e)) * (((IntOp.cmpi .sge ((table V).seen (ix3 b p e)) 0#32).toNat : ℝ) : EReal) := by
  rw [← rows_apply (by norm_num) gather_S50x200x8_S50x160x2_S50x160x8_2_01_n_n_01_2_118.wf (args V).mask (at2 V) b p (lo e) _ (at2_zero V b p) (at2_one V k hk b p)]
  unfold table
  dsimp only
  unfold res_main_v134
  pointwise []
  rfl

end kept

theorem src_apply (b : Fin 50) (p : Fin 160) (e : Fin 4) : (table V).src (ix3 b p e)
    = Scalar.select (IntOp.cmpi .sge ((table V).seen (ix3 b p e)) 0#32) ((table V).seen (ix3 b p e)) 0#32 := by
  unfold table
  dsimp only
  unfold res_main_v137
  pointwise []
  rfl

/-- The start indices that read a graph's kept node, by the new number of an edge's source. -/
def new4 : IVec S50x160x4x2 32 := (concatenate S50x160x4x2 3 [⟨S50x160x4x1, (broadcastInDim S50x160x4x1 ![0, 1, 2] bcast_S50x160x4_S50x160x4x1_0_1_2 (broadcastInDim S50x160x4 ![0, 1, 2] bcast_S50x1x1_S50x160x4_0_1_2 (select (cmpi .slt (res_main_v138 V) (broadcastInDim S50x1x1 ![] bcast_S_S50x1x1 (constantI S_ 32 0#32))) (addi (res_main_v138 V) (broadcastInDim S50x1x1 ![] bcast_S_S50x1x1 (constantI S_ 32 50#32))) (res_main_v138 V))))⟩, ⟨S50x160x4x1, (broadcastInDim S50x160x4x1 ![0, 1, 2] bcast_S50x160x4_S50x160x4x1_0_1_2 (select (cmpi .slt (res_main_v137 V) (broadcastInDim S50x160x4 ![] bcast_S_S50x160x4 (constantI S_ 32 0#32))) (addi (res_main_v137 V) (broadcastInDim S50x160x4 ![] bcast_S_S50x160x4 (constantI S_ 32 160#32))) (res_main_v137 V)))⟩] concatenates_S50x160x4x1_S50x160x4x1_S50x160x4x2_d3)

/-- The features of each edge's source. -/
def nbrs : FVec Ideal S50x160x4x128 .f32 :=
  Host.gather gather_S50x160x128_S50x160x4x2_S50x160x4x128_3_01_n_n_01_3_11128 (res_main_v63 V) (new4 V)

section edges
variable (z : Fin 50 → Fin 160 → Fin 4 → Fin 160) (hz : ∀ b p e, (table V).src (ix3 b p e) = BitVec.ofNat 32 (z b p e).val)

theorem new4_zero (b : Fin 50) (p : Fin 160) (e : Fin 4) : new4 V (ix4 b p e 0) = BitVec.ofNat 32 b.val := by
  pointwise [new4, res_main_v138, res_main_v45]
  exact wrap_small (by omega) _

include hz
theorem new4_one (b : Fin 50) (p : Fin 160) (e : Fin 4) : new4 V (ix4 b p e 1) = BitVec.ofNat 32 (z b p e).val := by
  have h := hz b p e
  unfold table at h
  dsimp only at h
  pointwise [new4]
  rw [h]
  exact wrap_small (by omega) _

theorem nbrs_apply (b : Fin 50) (p : Fin 160) (e : Fin 4) (f : Fin 128) :
    nbrs V (ix4 b p e f) = (table V).keep (ix3 b (z b p e) f) := by
  unfold nbrs
  exact rows4_apply (by norm_num) _ _ (new4 V) b p e f _ (new4_zero V b p e) (new4_one V z hz b p e)

theorem edg_apply (b : Fin 50) (p : Fin 160) (e : Fin 4) (j : Fin 256) : (table V).edg (ix4 b p e j)
    = max (∑ f : Fin 128, (table V).keep (ix3 b p f) * (args V).W (ix2 (top f) j)
      + ∑ f : Fin 128, ((table V).keep (ix3 b (z b p e) f) - (table V).keep (ix3 b p f)) * (args V).W (ix2 (bot f) j)
      + (args V).b (ix1 j)) 0 := by
  have hn := nbrs_apply V z hz b p e
  have hu : (res_main_v162 V : FVec Ideal S50x160x4x256 .f32) = maximumf (addf (Host.dotGeneral dot_S50x160x4x256_S256x256_S50x160x4x256_3_0_012_1_n_n none (concatenate S50x160x4x256 3 [⟨S50x160x4x128, (res_main_v155 V)⟩, ⟨S50x160x4x128, (subf (nbrs V) (res_main_v155 V))⟩] concatenates_S50x160x4x128_S50x160x4x128_S50x160x4x256_d3) (V (Proc.devRef .tc main_arg8))) (broadcastInDim S50x160x4x256 ![0, 1, 2, 3] bcast_S1x1x1x256_S50x160x4x256_0_1_2_3 (broadcastInDim S1x1x1x256 ![3] bcast_S256_S1x1x1x256_3 (V (Proc.devRef .tc main_arg9))))) (broadcastInDim S50x160x4x256 ![] bcast_S_S50x160x4x256 (constant S_ .f32 0x00000000#32)) := rfl
  show (res_main_v162 V : FVec Ideal S50x160x4x256 .f32) (ix4 b p e j) = _
  rw [hu]
  unfold table
  dsimp only
  unfold res_main_v155
  pointwise []
  simp only [hn]
  rfl

end edges

theorem medg_apply (b : Fin 50) (p : Fin 160) (e : Fin 4) (j : Fin 256) : (table V).medg (ix4 b p e j)
    = (table V).edg (ix4 b p e j) * (table V).msk (ix3 b p e) := by
  unfold table
  dsimp only
  unfold res_main_v165
  pointwise []

theorem rsum_apply (b : Fin 50) (p : Fin 160) (j : Fin 256) : (table V).rsum (ix3 b p j) = ∑ e : Fin 4, (table V).medg (ix4 b p e j) := by
  unfold table
  dsimp only
  pointwise []

theorem rcnt_apply (b : Fin 50) (p : Fin 160) (j : Fin 8) : (table V).rcnt (ix3 b p j) = ∑ e : Fin 4, (table V).msk (ix3 b p e) := by
  unfold table
  dsimp only
  pointwise []

theorem rsrc_apply (b : Fin 50) (p : Fin 160) (j : Fin 8) : (table V).rsrc (ix3 b p j)
    = if h : j.val < 4 then (table V).src (ix3 b p ⟨j.val, h⟩) else 0#32 := by
  unfold table
  dsimp only
  refine (pad_apply pads_S50x160x4_S50x160x8_000_000_040 h_S_ (res_main_v137 V : IVec S50x160x4 32) (id (constantI S_ 32 0#32)) b p j).trans ?_
  split_ifs <;> rfl

theorem rmsk_apply (b : Fin 50) (p : Fin 160) (j : Fin 8) : (table V).rmsk (ix3 b p j)
    = if h : j.val < 4 then (table V).msk (ix3 b p ⟨j.val, h⟩) else 0 := by
  unfold table
  dsimp only
  refine (pad_apply (α := EReal) pads_S50x160x4_S50x160x8_000_000_040 h_S_ (res_main_v134 V) (sitofp (F := Ideal) .f32 (constantI S_ 32 0#32)) b p j).trans ?_
  split_ifs
  · rfl
  · show (((0#32).toInt : ℝ) : EReal) = 0
    simp

theorem red_sum (j : Fin 256) :
    (Host.reduceAdd (res_main_v165 V) (constant S_ .f32 0x00000000#32) reducesTo_S50x160x4x256_S256_d0_1_2 h_S_ : FVec Ideal S256 .f32) (ix1 j)
      = ∑ b : Fin 50, ∑ p : Fin 160, ∑ e : Fin 4, (table V).medg (ix4 b p e j) := by
  unfold table
  dsimp only
  pointwise []
  rw [reduce_last]

theorem red_sq (j : Fin 256) :
    (Host.reduceAdd (mulf (res_main_v165 V) (res_main_v162 V)) (constant S_ .f32 0x00000000#32) reducesTo_S50x160x4x256_S256_d0_1_2 h_S_ : FVec Ideal S256 .f32) (ix1 j)
      = ∑ b : Fin 50, ∑ p : Fin 160, ∑ e : Fin 4, (table V).medg (ix4 b p e j) * (table V).edg (ix4 b p e j) := by
  unfold table
  dsimp only
  pointwise []
  rw [reduce_last]
  pointwise []

theorem red_num :
    (Host.reduceAdd (res_main_v134 V) (constant S_ .f32 0x00000000#32) reducesTo_S50x160x4_S_d0_1_2 h_S_ : FVec Ideal S_ .f32) ix0
      = ∑ b : Fin 50, ∑ p : Fin 160, ∑ e : Fin 4, (table V).msk (ix3 b p e) := by
  unfold table
  dsimp only
  pointwise []

theorem rstats_apply (r : Fin 8) (j : Fin 256) : (table V).rstats (ix2 r j)
    = if r.val < 1 then ∑ b : Fin 50, ∑ p : Fin 160, ∑ e : Fin 4, (table V).medg (ix4 b p e j)
      else if r.val - 1 < 1 then ∑ b : Fin 50, ∑ p : Fin 160, ∑ e : Fin 4, (table V).medg (ix4 b p e j) * (table V).edg (ix4 b p e j)
      else if r.val - 1 - 1 < 1 then ∑ b : Fin 50, ∑ p : Fin 160, ∑ e : Fin 4, (table V).msk (ix3 b p e)
      else 0 := by
  have h1 := red_sum V j
  have h2 := red_sq V j
  have h3 := red_num V
  rw [← h1, ← h2, ← h3]
  clear h1 h2 h3
  unfold table
  dsimp only
  generalize (Host.reduceAdd (res_main_v165 V) (constant S_ .f32 0x00000000#32) reducesTo_S50x160x4x256_S256_d0_1_2 h_S_ : FVec Ideal S256 .f32) = a
  generalize (Host.reduceAdd (mulf (res_main_v165 V) (res_main_v162 V)) (constant S_ .f32 0x00000000#32) reducesTo_S50x160x4x256_S256_d0_1_2 h_S_ : FVec Ideal S256 .f32) = s
  generalize (Host.reduceAdd (res_main_v134 V) (constant S_ .f32 0x00000000#32) reducesTo_S50x160x4_S_d0_1_2 h_S_ : FVec Ideal S_ .f32) = c
  pointwise []
  by_cases a1 : r.val < 1
  · simp only [dif_pos a1, if_pos a1]
  simp only [dif_neg a1, if_neg a1]
  by_cases a2 : r.val - 1 < 1
  · simp only [dif_pos a2, if_pos a2]
  simp only [dif_neg a2, if_neg a2]
  by_cases a3 : r.val - 1 - 1 < 1
  · simp only [dif_pos a3, if_pos a3]
    refine (congrArg (· + c ix0) ?_).trans (zero_add _)
    simp only [id]
    pointwise []
  · simp only [dif_neg a3, if_neg a3]

/-- The reference's lines give the equations of a table. -/
theorem rows : Rows (by norm_num : 160 ≤ 200) (args V) (table V) where
  feat := feat_apply V
  sco := sco_apply V
  ord := ord_apply V
  keep := keep_apply V
  old := old_apply V
  hit k hk hi z hz := seen_hit V k hk z hz hi
  miss k hk z hz := seen_miss V k hk z hz
  msk := msk_apply V
  src := src_apply V
  edg := edg_apply V
  medg := medg_apply V
  rsum := rsum_apply V
  rcnt := rcnt_apply V
  rsrc := rsrc_apply V
  rmsk := rmsk_apply V
  rstats := rstats_apply V

end Cert.Reference1Ideal.Read

end
-- ==== Proof.Pre1.lean ====
/- What the precondition `first_ok` of the statement says of the arguments, read off its printed form. -/
module

public import proofs.«01_k».proof.Pre_first_ok
public import proofs.«01_k».proof.Proof.Truth
public import proofs.«01_k».proof.Proof.Pooled

@[expose] public section

noncomputable section

namespace Cert.Pre_first_ok

open Idealize.ShloMosaic Cert.Truth

/-- Every side condition the printed predicate states. -/
instance facts : Facts where
  slices_S50x200x8_S50x200x1_0_0_0 := by decide
  shapeCasts_S50x200x1_S50x200 := by decide
  slices_S50x200x8_S50x200x4_0_0_0 := by decide
  slices_S8x128_S3x128_0_0 := by decide
  bcast_S_S50x200x128 := by decide
  reducesTo_S50x200x128_S_d0_1_2 := by decide
  h_S_ := by decide
  bcast_S_S50x200 := by decide
  reducesTo_S50x200_S_d0_1 := by decide
  bcast_S_S3x128 := by decide
  reducesTo_S3x128_S_d0_1 := by decide
  bcast_S_S128 := by decide
  reducesTo_S128_S_d0 := by decide
  slices_S3x128_S1x128_1_0 := by decide
  shapeCasts_S1x128_S128 := by decide
  slices_S3x128_S1x128_2_0 := by decide
  slices_S3x128_S1x128_0_0 := by decide
  bcast_S_S50x200x4 := by decide
  reducesTo_S50x200x4_S_d0_1_2 := by decide

variable {a0 : FVec Ideal S50x200x128 .f32} {a1 : FVec Ideal S50x200x8 .f32} {a2 : IVec S50x200x8 32}
  {a3 : FVec Ideal S50x200x8 .f32} {a4 : FVec Ideal S8x128 .f32} {a5 a6 a7 : FVec Ideal S128 .f32}
  {a8 : FVec Ideal S256x256 .f32} {a9 : FVec Ideal S256 .f32}

instance : Subsingleton S_.Idx := ⟨fun a b => funext fun k => k.elim0⟩

/-- The precondition, where it holds, says all of that. -/
theorem read (h : fn (F := Ideal) a0 a1 a2 a3 a4 a5 a6 a7 a8 a9 = fun _ => 1#1) : Cert.Body.Ok (⟨a0, a1, a2, a3, a4, a5, a6, a7, a8, a9⟩ : Cert.Body.Args Ideal 200 128 256) := by
  have h0 := congrFun h ix0
  unfold fn fn_part1 fn_part2 fn_part3 at h0
  dsimp only [andi] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e1, e2⟩ := IntOp.andi_eq_one.1 h0
  have f1 := fun (b : Fin 50) (i : Fin 200) (f : Fin 128) => Host.reduce_andi_all _ _ _ _ _ e1 (ix3 b i f)
  have f2 := fun (b : Fin 50) (i : Fin 200) => Host.reduce_andi_all _ _ _ _ _ e2 (ix2 b i)
  have f3 := fun (r : Fin 3) (f : Fin 128) => Host.reduce_andi_all _ _ _ _ _ e3 (ix2 r f)
  have f4 := fun (f : Fin 128) => Host.reduce_andi_all _ _ _ _ _ e4 (ix1 f)
  have f5 := fun (f : Fin 128) => Host.reduce_andi_all _ _ _ _ _ e5 (ix1 f)
  have f6 := fun (b : Fin 50) (i : Fin 200) => Host.reduce_andi_all _ _ _ _ _ e6 (ix2 b i)
  have f7 := fun (f : Fin 128) => Host.reduce_andi_all _ _ _ _ _ e7 (ix1 f)
  have f8 := fun (b : Fin 50) (i : Fin 200) (e : Fin 4) => Host.reduce_andi_all _ _ _ _ _ e8 (ix3 b i e)
  clear e1 e2 e3 e4 e5 e6 e7 e8 h0 h
  have slice1 : ∀ b i, shapeCast S50x200 (extractStridedSlice S50x200x1 ![0, 0, 0] a1 facts.slices_S50x200x8_S50x200x1_0_0_0)
      facts.shapeCasts_S50x200x1_S50x200 (ix2 b i) = a1 (ix3 b i 0) := by
    intro b i; pointwise []
  refine ⟨fun b i f => real_of_lt (f1 b i f), fun b i => ?_, fun r f => ?_, fun f => real_of_lt (f4 f), fun f => real_of_lt (f5 f), fun b i => ?_, fun f => ?_, fun b i e => ?_⟩
  · have := f2 b i
    exact real_of_lt (x := a1 (ix3 b i 0)) (by rw [← slice1 b i]; exact this)
  · have s : extractStridedSlice S3x128 ![0, 0] a4 facts.slices_S8x128_S3x128_0_0 (ix2 r f) = a4 (ix2 (r.castLE (by decide)) f) := by
      pointwise []
      rfl
    exact real_of_lt (x := a4 (ix2 (r.castLE (by decide)) f)) (by rw [← s]; exact f3 r f)
  · have := f6 b i
    rcases IntOp.ori_eq_one.1 this with h | h
    · left
      have := eq_of_cmp h
      rw [slice1 b i] at this
      refine Eq.trans this ?_
      pointwise []
    · right
      have := le_of_cmp h
      rw [slice1 b i] at this
      refine le_trans (le_of_eq ?_) this
      pointwise []
  · have := le_of_cmp (f7 f)
    refine le_trans (le_of_eq ?_) (le_trans this (le_of_eq ?_))
    · pointwise []
    · pointwise []
  · have s : extractStridedSlice S50x200x4 ![0, 0, 0] a2 facts.slices_S50x200x8_S50x200x4_0_0_0 (ix3 b i e) = a2 (ix3 b i (Cert.Body.lo e)) := by
      pointwise []
      rfl
    exact word_of_range (w := a2 (ix3 b i (Cert.Body.lo e))) (by norm_num) (by rw [← s]; exact f8 b i e)

end Cert.Pre_first_ok

end
-- ==== Proof.Results1.lean ====
/- The first pooling: the kernel's five results are the reference's. -/
module

public import proofs.«01_k».proof.Proof.Grid1
public import proofs.«01_k».proof.Proof.Reads1
public import proofs.«01_k».proof.Proof.RefRows1
public import proofs.«01_k».proof.Proof.Pre1

@[expose] public section

noncomputable section

namespace Cert.Results1

open Idealize.ShloMosaic Idealize.SL.Sem
open Cert.Kernel1Ideal (cfg0)
open Cert.Kernel1Ideal.Gen (dats)
open Cert.Kernel1Ideal.Grid (arr10 arr11 arr12 arr13 arr14)
open Cert.Reference1Ideal.Read (table rows)

variable (m : (ℓ : Loc Cert.Kernel1Ideal.nD Cert.Kernel1Ideal.τ Cert.Kernel1Ideal.sig) → Buf (Elt Ideal) ℓ) (c : Dev Cert.Kernel1Ideal.nD)
variable (V : Valuation Cert.Reference1Ideal.τ Cert.Reference1Ideal.sig (Elt Ideal))

/-- The precondition, on the kernel's arguments. -/
abbrev Good : Prop := Cert.Body.Ok (Cert.Kernel1Ideal.Grid.args m c)

/-- The reference's arguments are the kernel's. -/
abbrev Same : Prop := Cert.Reference1Ideal.Read.args V = Cert.Kernel1Ideal.Grid.args m c

theorem results (hV : Same m c V) (ok : Good m c) :
    (table V).rsum = (dats m 0 c).arrAt 10 cfg0.N ∧ (table V).rcnt = (dats m 0 c).arrAt 11 cfg0.N ∧ (table V).rsrc = (dats m 0 c).arrAt 12 cfg0.N
      ∧ (table V).rmsk = (dats m 0 c).arrAt 13 cfg0.N ∧ (table V).rstats = (dats m 0 c).arrAt 14 cfg0.N := by
  have R := rows V
  rw [hV] at R
  obtain ⟨h0, h1, h2, h3, h4⟩ := Cert.Body.results (L := Cert.Kernel1Ideal.Graph.laws) R ok (by norm_num) (Cert.Kernel1Ideal.Grid.pad_apply m c)
  exact ⟨h0.trans (arr10 m c).symm, h1.trans (arr11 m c).symm, h2.trans (arr12 m c).symm, h3.trans (arr13 m c).symm, h4.trans (arr14 m c).symm⟩

end Cert.Results1

end
-- ==== Proof.Near.lean ====
/- The first call's body for one graph: the four nearest neighbours of each of 200 nodes, and the edge convolution from 53
   features, in 64 columns, to 128. The five graphs of a block run the same steps; here they are put together once, from the
   first graph's. -/
module

public import proofs.«01_k».proof.Proof.Gen.Kernel3Ideal.Skeleton
public import proofs.«01_k».proof.Proof.Blocks

@[expose] public section

set_option maxRecDepth 16384

noncomputable section

namespace Cert.Kernel3Ideal.Near

open Gen Cert.Body
open Idealize.ShloMosaic Idealize.ShloMosaic.TcCoe

variable {F : FTy → Type} [FloatOps F]

/-- The number of each column. -/
def cols : IVec S200x200 32 := iota .tc S200x200 32 [1] iota_S200x200_d1_w32

section one
variable (p : Stack F 1 200 8) (x : Stack F 1 200 64) (W : Mat F 128 128) (b : Mat F 1 128)

/-- The distances, and the four nearest nodes one after another. -/
def dist : Mat F 200 200 := k0_pay8 p
def near0 : IVec S200x1 32 := k0_pay10 cols (k0_pay9 p)
def near1 : IVec S200x1 32 := k0_pay12 cols (dist p) (k0_pay9 p)
def near2 : IVec S200x1 32 := k0_pay14 cols (dist p) (k0_pay9 p)
def near3 : IVec S200x1 32 := k0_pay15 cols (dist p) (k0_pay9 p)

/-- One of these steps: each row's first least entry; and the entries with that one replaced. -/
def lowest (D : Mat F 200 200) : IVec S200x200 1 := cmpf .oeq D (broadcastTo S200x200 (shapeCast S200x1
  (multiReduction .minimumf [1] S200 D 0x7F800000#32 reduces_S200x200_S200_2 (.inl rfl) rfl) shapeCasts_S200_S200x1) broadcasts_S200x1_S200x200)
def first (D : Mat F 200 200) : IVec S200x1 32 := k0_pay10 cols (lowest D)
def without (D : Mat F 200 200) : Mat F 200 200 := k0_pay11 cols D (lowest D)

/-- What is left after `m` steps, and what step `m` finds. -/
def left : ℕ → Mat F 200 200
  | 0 => dist p
  | m + 1 => without (left m)
def near (m : ℕ) : IVec S200x1 32 := first (left p m)

theorem near0_eq : near0 p = near p 0 := rfl
theorem near1_eq : near1 p = near p 1 := rfl
theorem near2_eq : near2 p = near p 2 := rfl
theorem near3_eq : near3 p = near p 3 := rfl

/-- The edges' features. -/
def edges : Mat F 800 128 :=
  k0_pay18 cols (k0_pay3 W) (k0_pay4 b) (k0_pay7 x) (near2 p) (near3 p) (k0_pay16 cols (k0_pay9 p)) (k0_pay17 cols (dist p) (k0_pay9 p))

/-- What is stored for the graph: the neighbours, and the sums over each node's edges. -/
def outNear : Nums 1 200 8 := k0_pay23 (near0 p) (near1 p) (near2 p) (near3 p)
def outSum : Stack F 1 200 128 := k0_pay22
  (k0_pay19 cols (k0_pay3 W) (k0_pay4 b) (k0_pay7 x) (near2 p) (near3 p) (k0_pay16 cols (k0_pay9 p)) (k0_pay17 cols (dist p) (k0_pay9 p)))

/-- The running sums over all edges, and over their squares, with this graph's. -/
def sumOn (acc : Mat F 1 128) : Mat F 1 128 :=
  k0_pay20 cols (k0_pay3 W) (k0_pay4 b) acc (k0_pay7 x) (near2 p) (near3 p) (k0_pay16 cols (k0_pay9 p)) (k0_pay17 cols (dist p) (k0_pay9 p))
def sqOn (acc : Mat F 1 128) : Mat F 1 128 :=
  k0_pay21 cols (k0_pay3 W) (k0_pay4 b) acc (k0_pay7 x) (near2 p) (near3 p) (k0_pay16 cols (k0_pay9 p)) (k0_pay17 cols (dist p) (k0_pay9 p))

end one

section five
variable (p : Stack F 5 200 8) (x : Stack F 5 200 64) (W : Mat F 128 128) (b : Mat F 1 128)

/-- The sums over all edges of the block's first `r` graphs. -/
def sums : (r : ℕ) → r ≤ 5 → Mat F 1 128
  | 0, _ => k0_pay5
  | r + 1, h => sumOn (gr p ⟨r, h⟩) (gr x ⟨r, h⟩) W b (sums r (Nat.le_of_succ_le h))
def sqs : (r : ℕ) → r ≤ 5 → Mat F 1 128
  | 0, _ => k0_pay6
  | r + 1, h => sqOn (gr p ⟨r, h⟩) (gr x ⟨r, h⟩) W b (sqs r (Nat.le_of_succ_le h))

/-- The array of sums, with this block's. -/
def statsOn (prev : Mat F 8 128) : Mat F 8 128 := k0_pay2 (sums p x W b 5 le_rfl) (sqs p x W b 5 le_rfl) prev

end five

end Cert.Kernel3Ideal.Near
-- ==== Proof.Nearest.lean ====
/- Taking the nearest nodes one after another: the least entry of a row, the first among equals, then again with that entry
   replaced by a great number. As long as all entries but one are below that number, this goes through the row's positions in
   the order that a stable sort by the negated entries gives. -/
module

public import proofs.«01_k».proof.Proof.Select
public import proofs.«01_k».proof.Proof.Words
public import Idealize.ShloMosaic.Lib.SortNet.Extract

@[expose] public section

noncomputable section

namespace Cert.Nearest

open Cert.Pool Cert.Words
open Idealize.ShloMosaic

variable {n : ℕ}

/-- Position `k` has the least entry of the row, and is the first with it. -/
def First (r : Fin n → EReal) (k : Fin n) : Prop := ∀ x, x ≠ k → r k < r x ∨ (r k = r x ∧ k < x)

theorem First.le {r : Fin n → EReal} {k : Fin n} (h : First r k) (x : Fin n) : r k ≤ r x := by
  by_cases e : x = k
  · rw [e]
  · rcases h x e with h | h
    · exact h.le
    · exact h.1.le

/-- The least entry. -/
theorem fold_first {r : Fin n → EReal} {k : Fin n} (h : First r k) : Finset.univ.fold min ⊤ r = r k :=
  le_antisymm ((Finset.fold_min_le _).2 (Or.inr ⟨k, Finset.mem_univ _, le_rfl⟩)) ((Finset.le_fold_min _).2 ⟨le_top, fun x _ => h.le x⟩)

/-- The least position among those with the least entry, computed with words. -/
theorem word_first {r : Fin n → EReal} {k : Fin n} (h : First r k) (hn : n ≤ 200) :
    Finset.univ.fold IntOp.minsi (2147483647#32)
      (fun x : Fin n => Scalar.select (Ideal.cmp .oeq (r x) (Finset.univ.fold min ⊤ r)) (BitVec.ofNat 32 x.val) 200#32) = BitVec.ofNat 32 k.val := by
  rw [fold_first h]
  have hs : ∀ x : Fin n, Scalar.select (Ideal.cmp .oeq (r x) (r k)) (BitVec.ofNat 32 x.val) 200#32
      = BitVec.ofNat 32 (if r x = r k then x.val else 200) := fun x => by
    show Scalar.select (BitVec.ofBool (decide (r x = r k))) _ _ = _
    rw [select_bit]
    by_cases e : r x = r k <;> simp [e]
  have hw : ∀ x : Fin n, (if r x = r k then x.val else 200) < 2 ^ 31 := fun x => by split_ifs <;> omega
  simp only [hs]
  apply BitVec.eq_of_toInt_eq
  rw [toInt_small (by omega), ← Finset.fold_hom (op := IntOp.minsi) (op' := min) (m := BitVec.toInt) (fun x y => (SortNet.toInt_minsi x y))]
  simp only [toInt_small (hw _)]
  apply le_antisymm
  · exact (Finset.fold_min_le _).2 (Or.inr ⟨k, Finset.mem_univ _, by simp⟩)
  · refine (Finset.le_fold_min _).2 ⟨by rw [show (2147483647#32 : BitVec 32).toInt = 2147483647 by decide]; omega, fun x _ => ?_⟩
    split_ifs with e
    · by_cases hx : x = k
      · rw [hx]
      · rcases h x hx with h | h
        · exact absurd e h.ne'
        · exact_mod_cast h.2.le
    · have := k.isLt; push_cast; omega

section row
variable (D : Fin n → EReal) (c : EReal)

/-- The positions, nearest first. -/
def nearest : Fin n → Fin n := sortedFrom (before fun i => -D i)

theorem nearest_lt {s t : Fin n} (h : s < t) : D (nearest D s) < D (nearest D t) ∨ (D (nearest D s) = D (nearest D t) ∧ nearest D s < nearest D t) := by
  have hB := before_total fun i => -D i
  have h1 := sortedFrom_noInversion (before fun i => -D i) (before fun i => -D i) (fun a b h => hB.asymm a b h) (fun _ _ h => h) hB.negTrans s t h
  have h2 : before (fun i => -D i) (nearest D s) (nearest D t) = true := by
    rcases hB.total _ _ (fun e => h.ne (sortedFrom_injective _ e)) with h | h
    · exact h
    · exact absurd (h1.symm.trans h) (by decide)
  unfold before at h2
  simpa [EReal.neg_lt_neg_iff] using h2

theorem nearest_le {s t : Fin n} (h : s < t) : D (nearest D s) ≤ D (nearest D t) := by
  rcases nearest_lt D h with h | h
  · exact h.le
  · exact h.1.le

/-- The row with its `m` nearest positions' entries replaced. -/
def rest (m : ℕ) (x : Fin n) : EReal := if ∃ t : Fin n, t.val < m ∧ nearest D t = x then c else D x

theorem rest_zero (x : Fin n) : rest D c 0 x = D x := by unfold rest; simp

theorem rest_succ (m : Fin n) (x : Fin n) : rest D c (m.val + 1) x = if x = nearest D m then c else rest D c m.val x := by
  unfold rest
  by_cases e : x = nearest D m
  · rw [if_pos e, if_pos ⟨m, Nat.lt_succ_self _, e.symm⟩]
  · rw [if_neg e]
    refine if_congr ⟨?_, ?_⟩ rfl rfl
    · rintro ⟨t, ht, hx⟩
      refine ⟨t, lt_of_le_of_ne (Nat.le_of_lt_succ ht) fun q => e ?_, hx⟩
      rw [← hx, Fin.ext q]
    · rintro ⟨t, ht, hx⟩; exact ⟨t, Nat.lt_succ_of_lt ht, hx⟩

/-- The next nearest position comes first in what is left. -/
theorem rest_first (i : Fin n) (hc : ∀ j, j ≠ i → D j < c) (m : Fin n) (hm : m.val + 1 < n) : First (rest D c m.val) (nearest D m) := by
  have hinj : Function.Injective (nearest D) := sortedFrom_injective _
  have hlow : D (nearest D m) < c := by
    by_cases e : nearest D m = i
    · have h' : m < ⟨m.val + 1, hm⟩ := Fin.lt_def.2 (Nat.lt_succ_self _)
      refine lt_of_le_of_lt (nearest_le D h') (hc _ fun q => ?_)
      exact h'.ne (hinj (e.trans q.symm))
    · exact hc _ e
  have hk : rest D c m.val (nearest D m) = D (nearest D m) := by
    unfold rest
    rw [if_neg]
    rintro ⟨t, ht, hx⟩
    rw [hinj hx] at ht
    exact lt_irrefl _ ht
  intro x hx
  obtain ⟨t, rfl⟩ := sortedFrom_surjective (before fun i => -D i) x
  change nearest D t ≠ _ at hx
  show _ < rest D c m.val (nearest D t) ∨ (_ = rest D c m.val (nearest D t) ∧ _ < nearest D t)
  rw [hk]
  by_cases ht : t.val < m.val
  · left
    unfold rest
    rw [if_pos ⟨t, ht, rfl⟩]
    exact hlow
  · have h' : m < t := lt_of_le_of_ne (Nat.le_of_not_lt ht) fun e => hx (by rw [e])
    have : rest D c m.val (nearest D t) = D (nearest D t) := by
      unfold rest
      rw [if_neg]
      rintro ⟨u, hu, e⟩
      rw [hinj e] at hu
      exact ht hu
    rw [this]
    exact nearest_lt D h'

end row

end Cert.Nearest
-- ==== Proof.NearReads.lean ====
/- The first call's body for one graph, read at an index: its distances, its four nearest nodes, and its edges' features. -/
module

public import proofs.«01_k».proof.Proof.Near
public import proofs.«01_k».proof.Proof.Nearest
public import proofs.«01_k».proof.Proof.BodyEdges

@[expose] public section

set_option maxRecDepth 16384

noncomputable section

namespace Cert.Kernel3Ideal.Near

open Gen Cert.Body Cert.Words Cert.Nearest
open Idealize.ShloMosaic Idealize.ShloMosaic.TcCoe

theorem lowest_apply (D : FVec Ideal S200x200 .f32) (i j : Fin 200) :
    lowest D (ix2 i j) = Ideal.cmp .oeq (D (ix2 i j)) (Finset.univ.fold min ⊤ fun x => D (ix2 i x)) := by
  rw [show (⊤ : EReal) = Ideal.ofBits FTy.f32 2139095040#32 by simp [Ideal.ofBits, Ideal.ieee]]
  pointwise [lowest]

theorem first_apply (D : FVec Ideal S200x200 .f32) (i k : Fin 200) (h : First (fun x => D (ix2 i x)) k) : first D (ix2 i 0) = BitVec.ofNat 32 k.val := by
  refine Eq.trans ?_ (word_first h le_rfl)
  unfold first cols
  pointwise [k0_pay10]
  simp only [lowest_apply]
  simp only [Ideal.cmp, select_bit, decide_eq_true_eq]

theorem without_apply (D : FVec Ideal S200x200 .f32) (i k : Fin 200) (h : First (fun x => D (ix2 i x)) k) (x : Fin 200) :
    without D (ix2 i x) = if x = k then Ideal.ofBits FTy.f32 1315859240#32 else D (ix2 i x) := by
  have e : k0_pay10 cols (lowest D) (ix2 i 0) = _ := first_apply D i k h
  unfold without
  pointwise [k0_pay11]
  rw [e]
  unfold cols
  pointwise []
  rw [cmpi_eq (by omega) (by omega), select_bit]
  simp only [decide_eq_true_eq, Fin.val_inj]

/-- The distance of two nodes of a graph, and with the great number on the diagonal. -/
def sq (p : Vec Ideal S1x200x8 .f32) (i : Fin 200) : EReal := ∑ x, p (ix3 0 i x) * p (ix3 0 i x)
def apart (p : Vec Ideal S1x200x8 .f32) (i j : Fin 200) : EReal :=
  sq p i + sq p j - Ideal.ofBits FTy.f32 1073741824#32 * ∑ x, p (ix3 0 i x) * p (ix3 0 j x)
def row (p : Vec Ideal S1x200x8 .f32) (i j : Fin 200) : EReal := if i = j then apart p i j + Ideal.ofBits FTy.f32 1315859240#32 else apart p i j

theorem dist_apply (p : Vec Ideal S1x200x8 .f32) (i j : Fin 200) : dist (F := Ideal) p (ix2 i j) = row p i j := by
  have e : ∀ z : Fin 200 → EReal, _ = _ := fun z => sum_pick z j (by norm_num)
  unfold dist
  pointwise [k0_pay8]
  rw [e, cmpi_eq (by omega) (by omega), select_bit]
  simp only [decide_eq_true_eq, Fin.val_inj]
  rfl

section near
variable (p : Vec Ideal S1x200x8 .f32) (i : Fin 200) (hc : ∀ j, j ≠ i → apart p i j < Ideal.ofBits FTy.f32 1315859240#32)

include hc in
theorem row_lt (j : Fin 200) (h : j ≠ i) : row p i j < Ideal.ofBits FTy.f32 1315859240#32 := by
  unfold row
  rw [if_neg h.symm]
  exact hc j h

include hc in
/-- What is left after `m` steps. -/
theorem left_apply : ∀ m : ℕ, m < 199 → ∀ x, left (F := Ideal) p m (ix2 i x) = rest (row p i) (Ideal.ofBits FTy.f32 1315859240#32) m x
  | 0, _, x => (dist_apply p i x).trans (rest_zero _ _ x).symm
  | m + 1, hm, x => by
    have h0 : (fun x => left (F := Ideal) p m (ix2 i x)) = rest (row p i) (Ideal.ofBits FTy.f32 1315859240#32) m :=
      funext (left_apply m (Nat.lt_of_succ_lt hm))
    have h1 := rest_first (row p i) _ i (row_lt p i hc) ⟨m, by omega⟩ (by show m + 1 < 200; omega)
    rw [rest_succ (row p i) _ ⟨m, by omega⟩ x, ← congrFun h0 x]
    exact without_apply _ i _ (by rw [h0]; exact h1) x

include hc in
/-- Step `m` finds the next nearest node. -/
theorem near_apply (m : ℕ) (hm : m < 199) : near (F := Ideal) p m (ix2 i 0) = BitVec.ofNat 32 (nearest (row p i) ⟨m, by omega⟩).val := by
  have h0 : (fun x => left (F := Ideal) p m (ix2 i x)) = rest (row p i) (Ideal.ofBits FTy.f32 1315859240#32) m :=
    funext (left_apply p i hc m hm)
  exact first_apply _ i _ (by rw [h0]; exact rest_first (row p i) _ i (row_lt p i hc) ⟨m, by omega⟩ (by show m + 1 < 200; omega))

end near

section edges
variable (p : Vec Ideal S1x200x8 .f32) (x : Vec Ideal S1x200x64 .f32) (W : Vec Ideal S128x128 .f32) (b : Vec Ideal S1x128 .f32)

theorem edges_law (e : Fin 4) (i : Fin 200) (j : Fin 128) : edges (F := Ideal) p x W b (ix2 (at4 e i) j)
    = max (∑ f : Fin 64, x (ix3 0 i f) * W (ix2 (top f) j)
        + ∑ f : Fin 64, (threefold (fun y => bit (IntOp.cmpi .eq (BitVec.ofNat 32 y.val) (near (F := Ideal) p e.val (ix2 i 0)))) (fun y => x (ix3 0 y f))
          - x (ix3 0 i f)) * W (ix2 (bot f) j) + b (ix2 0 j)) 0 := by
  show edges (F := Ideal) p x W b (ix2 (⟨200 * e.val + i.val, (at4 e i).isLt⟩ : Fin 800) j) = _
  have hX : ∀ f, _ = x (ix3 0 i f) := fun f => cat4 (fun _ i => x (ix3 0 i f)) e i (200 * e.val + i.val) rfl (by omega)
  have hN : ∀ y : Fin 200, _ = bit (IntOp.cmpi .eq (BitVec.ofNat 32 y.val) (near (F := Ideal) p e.val (ix2 i 0))) := fun y =>
    cat4 (fun e i => bit (IntOp.cmpi .eq (BitVec.ofNat 32 y.val) (near (F := Ideal) p e.val (ix2 i 0)))) e i (200 * e.val + i.val) rfl (by omega)
  unfold edges cols
  pointwise [k0_pay18, k0_pay3, k0_pay4, k0_pay7, k0_pay16, k0_pay17]
  refine congrArg (max · 0) (congrArg (· + _) (congrArg₂ (· + ·) (Finset.sum_congr rfl fun f _ => ?_) (Finset.sum_congr rfl fun f _ => ?_)))
  · exact congrArg (· * _) (hX f)
  · refine congrArg (· * _) (congrArg₂ (· - ·) ?_ (hX f))
    unfold threefold
    exact congrArg₂ (· + ·) (congrArg₂ (· + ·) (Finset.sum_congr rfl fun y _ => congrArg (· * _) (hN y)) (Finset.sum_congr rfl fun y _ => congrArg (· * _) (hN y)))
      (Finset.sum_congr rfl fun y _ => congrArg (· * _) (hN y))

/-- An edge's features, from the found neighbour. -/
theorem edges_apply (hx : ∀ i f, ∃ r : ℝ, x (ix3 0 i f) = (r : EReal)) (e : Fin 4) (i k : Fin 200)
    (hk : near (F := Ideal) p e.val (ix2 i 0) = BitVec.ofNat 32 k.val) (j : Fin 128) : edges (F := Ideal) p x W b (ix2 (at4 e i) j)
    = max (∑ f : Fin 64, x (ix3 0 i f) * W (ix2 (top f) j) + ∑ f : Fin 64, (x (ix3 0 k f) - x (ix3 0 i f)) * W (ix2 (bot f) j) + b (ix2 0 j)) 0 := by
  rw [edges_law, hk]
  refine congrArg (max · 0) (congrArg (· + _) (congrArg (_ + ·) (Finset.sum_congr rfl fun f _ => congrArg (fun z => (z - _) * _) ?_)))
  refine threefold_take _ _ _ (fun z => z k) (fun z => ?_) rfl rfl rfl (hx k f)
  refine Eq.trans (Finset.sum_congr rfl fun y _ => congrArg (· * z y) ?_) (sum_take (fun y : Fin 200 => decide (y.val = k.val)) z k fun y => by simp [Fin.ext_iff])
  unfold bit
  rw [cmpi_eq (by omega) (by omega), sitofp_bit]

theorem outSum_law (i : Fin 200) (j : Fin 128) : outSum (F := Ideal) p x W b (ix3 0 i j) = ∑ e, edges (F := Ideal) p x W b (ix2 (at4 e i) j) := by
  rw [Fin.sum_univ_four]
  unfold outSum edges at4
  pointwise [k0_pay22, k0_pay19]

theorem sumOn_law (acc : Vec Ideal S1x128 .f32) (j : Fin 128) : sumOn (F := Ideal) p x W b acc (ix2 0 j)
    = acc (ix2 0 j) + ∑ i, ∑ e, edges (F := Ideal) p x W b (ix2 (at4 (m := 200) e i) j) := by
  refine Eq.trans ?_ (congrArg (acc (ix2 0 j) + ·) (sum_at4 (m := 200) fun r => edges (F := Ideal) p x W b (ix2 (r : Fin 800) j)))
  unfold sumOn edges
  pointwise [k0_pay20]

theorem sqOn_law (acc : Vec Ideal S1x128 .f32) (j : Fin 128) : sqOn (F := Ideal) p x W b acc (ix2 0 j)
    = acc (ix2 0 j) + ∑ i, ∑ e, edges (F := Ideal) p x W b (ix2 (at4 (m := 200) e i) j) * edges (F := Ideal) p x W b (ix2 (at4 (m := 200) e i) j) := by
  refine Eq.trans ?_ (congrArg (acc (ix2 0 j) + ·) (sum_at4 (m := 200) fun r => edges (F := Ideal) p x W b (ix2 (r : Fin 800) j) * edges (F := Ideal) p x W b (ix2 (r : Fin 800) j)))
  unfold sqOn edges
  pointwise [k0_pay21]

theorem outNear_law (i : Fin 200) (j : Fin 8) : outNear (F := Ideal) p (ix3 0 i j) = if j.val < 4 then near (F := Ideal) p j.val (ix2 i 0) else 0#32 := by
  unfold outNear
  rw [near0_eq, near1_eq, near2_eq, near3_eq]
  fin_cases j <;> pointwise [k0_pay23]

end edges

/-- The array of sums with a block's: its first two rows, the number of edges of five graphs, and nothing after. -/
theorem stats_law (s z : Vec Ideal S1x128 .f32) (prev : Vec Ideal S8x128 .f32) (r : Fin 8) (j : Fin 128) : k0_pay2 s z prev (ix2 r j)
    = prev (ix2 r j) + if r.val < 1 then s (ix2 0 j) else if r.val - 1 < 1 then z (ix2 0 j)
      else if r.val - 1 - 1 < 1 then Ideal.ofBits FTy.f32 1165623296#32 else 0 := by
  pointwise [k0_pay2]
  refine congrArg (_ + ·) ?_
  have one : ∀ (y : Vec Ideal S1x128 .f32) (x : Fin 1), y (ix2 x j) = y (ix2 0 j) := fun y x => by rw [Subsingleton.elim x 0]
  simp only [one s, one z, dite_eq_ite, zero_add]

theorem zero_laws (r : Fin 8) (j : Fin 128) : k0_pay1 (F := Ideal) (ix2 r j) = 0 ∧ k0_pay5 (F := Ideal) (ix2 0 j) = 0 ∧ k0_pay6 (F := Ideal) (ix2 0 j) = 0 := by
  refine ⟨?_, ?_, ?_⟩
  · pointwise [k0_pay1]
  · pointwise [k0_pay5]
  · pointwise [k0_pay6]

end Cert.Kernel3Ideal.Near
-- ==== Proof.NearPieces.lean ====
/- What a grid point of the first call leaves in each output block, as the functions of one graph (Proof/Near.lean): graph `g`
   of the block is that function of graph `g` of the input blocks. -/
module

public import proofs.«01_k».proof.Proof.Gen.Kernel3Ideal.Value
public import proofs.«01_k».proof.Proof.Near
public import Idealize.ShloMosaic.Lib.Pipeline.ValueKit

@[expose] public section

set_option maxRecDepth 16384

noncomputable section

namespace Cert.Kernel3Ideal.NearPieces

open Value Gen Near Cert.Body
open Idealize.ShloMosaic Idealize.ShloMosaic.TcCoe

variable {F : FTy → Type} [FloatOps F]

variable (c : Dev nD) (i : grid0.Coords)
variable (arg1 : Memref sig .tc .vmem S5x200x8 .f32) (harg1 : arg1.IsWhole)
variable (arg2 : Memref sig .tc .vmem S5x200x64 .f32) (harg2 : arg2.IsWhole)
variable (arg3 : Memref sig .tc .vmem S128x128 .f32) (harg3 : arg3.IsWhole)
variable (arg4 : Memref sig .tc .vmem S1x128 .f32) (harg4 : arg4.IsWhole)
variable (arg5 : Memref sig .tc .vmem S5x200x8 .i32) (harg5 : arg5.IsWhole)
variable (arg6 : Memref sig .tc .vmem S5x200x128 .f32) (harg6 : arg6.IsWhole)
variable (arg7 : Memref sig .tc .vmem S8x128 .f32) (harg7 : arg7.IsWhole)
variable (x0 : Vec F S5x200x8 .f32) (x1 : Vec F S5x200x64 .f32) (x2 : Vec F S128x128 .f32) (x3 : Vec F S1x128 .f32)

/-- The block of neighbours, case A. -/
theorem out_A_4 (hc0 : cond0_0 i) (y : S5x200x8.Idx) :
    out0_A_4 c i arg1 harg1 arg2 harg2 arg3 harg3 arg4 harg4 arg5 harg5 arg6 harg6 arg7 harg7 hc0 x0 x1 x2 x3 y = outNear (gr x0 (y 0)) (ix3 0 (y 1) (y 2)) := by
  frame_out
  canon_tiles x h
  all_goals
    rw [ix3_of x y h1 h2]
    simp only [ld_gr]
    first
    | rw [graph_eq (y := y 0) (g := 0) (h0.trans (Nat.zero_add _).symm) x0_lt (by decide)]; rfl
    | rw [graph_eq (y := y 0) h0 x0_lt (by decide)]; rfl

/-- The block of sums over each node's edges, case A. -/
theorem out_A_5 (hc0 : cond0_0 i) (y : S5x200x128.Idx) :
    out0_A_5 c i arg1 harg1 arg2 harg2 arg3 harg3 arg4 harg4 arg5 harg5 arg6 harg6 arg7 harg7 hc0 x0 x1 x2 x3 y = outSum (gr x0 (y 0)) (gr x1 (y 0)) x2 x3 (ix3 0 (y 1) (y 2)) := by
  frame_out
  canon_tiles x h
  all_goals
    rw [ix3_of x y h1 h2]
    simp only [ld_gr]
    first
    | rw [graph_eq (y := y 0) (g := 0) (h0.trans (Nat.zero_add _).symm) x0_lt (by decide)]; rfl
    | rw [graph_eq (y := y 0) h0 x0_lt (by decide)]; rfl

/-- The sums for the batch norm, case A. -/
theorem out_A_6 (hc0 : cond0_0 i) :
    out0_A_6 c i arg1 harg1 arg2 harg2 arg3 harg3 arg4 harg4 arg5 harg5 arg6 harg6 arg7 harg7 hc0 x0 x1 x2 x3 = statsOn x0 x1 x2 x3 k0_pay1 := by
  frame_out
  simp only [ld_gr]
  rfl

/-- The block of neighbours, case B. -/
theorem out_B_4 (hc0 : ¬cond0_0 i) (xo6 : Vec F S8x128 .f32) (y : S5x200x8.Idx) :
    out0_B_4 c i arg1 harg1 arg2 harg2 arg3 harg3 arg4 harg4 arg5 harg5 arg6 harg6 arg7 harg7 hc0 x0 x1 x2 x3 xo6 y = outNear (gr x0 (y 0)) (ix3 0 (y 1) (y 2)) := by
  frame_out
  canon_tiles x h
  all_goals
    rw [ix3_of x y h1 h2]
    simp only [ld_gr]
    first
    | rw [graph_eq (y := y 0) (g := 0) (h0.trans (Nat.zero_add _).symm) x0_lt (by decide)]; rfl
    | rw [graph_eq (y := y 0) h0 x0_lt (by decide)]; rfl

/-- The block of sums over each node's edges, case B. -/
theorem out_B_5 (hc0 : ¬cond0_0 i) (xo6 : Vec F S8x128 .f32) (y : S5x200x128.Idx) :
    out0_B_5 c i arg1 harg1 arg2 harg2 arg3 harg3 arg4 harg4 arg5 harg5 arg6 harg6 arg7 harg7 hc0 x0 x1 x2 x3 xo6 y = outSum (gr x0 (y 0)) (gr x1 (y 0)) x2 x3 (ix3 0 (y 1) (y 2)) := by
  frame_out
  canon_tiles x h
  all_goals
    rw [ix3_of x y h1 h2]
    simp only [ld_gr]
    first
    | rw [graph_eq (y := y 0) (g := 0) (h0.trans (Nat.zero_add _).symm) x0_lt (by decide)]; rfl
    | rw [graph_eq (y := y 0) h0 x0_lt (by decide)]; rfl

/-- The sums for the batch norm, case B. -/
theorem out_B_6 (hc0 : ¬cond0_0 i) (xo6 : Vec F S8x128 .f32) :
    out0_B_6 c i arg1 harg1 arg2 harg2 arg3 harg3 arg4 harg4 arg5 harg5 arg6 harg6 arg7 harg7 hc0 x0 x1 x2 x3 xo6 = statsOn x0 x1 x2 x3 xo6 := by
  frame_out
  simp only [ld_gr]
  rfl

end Cert.Kernel3Ideal.NearPieces
-- ==== Proof.NearSpec.lean ====
/- What the first call gives for all fifty graphs, in extended reals, from its arguments: for each node of a graph its four
   nearest nodes, and the edge convolution over them. -/
module

public import proofs.«01_k».proof.Proof.Nearest
public import proofs.«01_k».proof.Proof.Body

@[expose] public section

noncomputable section

namespace Cert.Nearest

open Cert.Body
open Idealize.ShloMosaic Idealize.ShloMosaic.TcCoe

/-- A comparison's result as a number. -/
theorem uitofp_bit (d : Bool) : (FloatOps.uitofp (F := Ideal) FTy.f32 (BitVec.ofBool d) : EReal) = if d then 1 else 0 := by
  show (((BitVec.ofBool d).toNat : ℝ) : EReal) = _
  cases d <;> simp

theorem ofBits_4000 : Ideal.ofBits .f32 1165623296#32 = ((4000 : ℝ) : EReal) := by
  simp [Ideal.ofBits, Ideal.ieee, -EReal.coe_mul]; norm_num

theorem ofBits_40000 : Ideal.ofBits .f32 1193033728#32 = ((40000 : ℝ) : EReal) := by
  simp [Ideal.ofBits, Ideal.ieee, -EReal.coe_mul]; norm_num

/-- A sum whose later terms are zero. -/
theorem sum_prefix {n k : ℕ} (h : k ≤ n) (g : Fin n → EReal) (hz : ∀ f, k ≤ f.val → g f = 0) : ∑ f, g f = ∑ f : Fin k, g (f.castLE h) := by
  obtain ⟨d, rfl⟩ := Nat.exists_eq_add_of_le h
  rw [Fin.sum_univ_add]
  have : ∑ i : Fin d, g (Fin.natAdd k i) = 0 := Finset.sum_eq_zero fun i _ => hz _ (by simp)
  rw [this, add_zero]
  rfl

/-- The arguments: the nodes' features and positions, and the edge convolution's weights and offset. -/
structure In where
  x : Mat Ideal 10000 53
  pos : Mat Ideal 10000 3
  W : Mat Ideal 106 128
  b : FVec Ideal ⟨1, ![128]⟩ .f32

/-- Node `i` of graph `b`, among all. -/
def node (b : Fin 50) (i : Fin 200) : Fin 10000 := ⟨b.val * 200 + i.val, by omega⟩

/-- The great number that a distance is replaced by. -/
def great : EReal := Ideal.ofBits FTy.f32 1315859240#32

variable (z : In)

/-- The squared distance of two nodes of graph `b`; and with the great number added on the diagonal. -/
def sq (b : Fin 50) (i : Fin 200) : EReal := ∑ f : Fin 3, z.pos (ix2 (node b i) f) * z.pos (ix2 (node b i) f)
def apart (b : Fin 50) (i j : Fin 200) : EReal :=
  sq z b i + sq z b j - Ideal.ofBits FTy.f32 1073741824#32 * ∑ f : Fin 3, z.pos (ix2 (node b i) f) * z.pos (ix2 (node b j) f)
def row (b : Fin 50) (i j : Fin 200) : EReal := if i = j then apart z b i j + great else apart z b i j

/-- The four nearest nodes. -/
def nb (b : Fin 50) (i : Fin 200) (e : Fin 4) : Fin 200 := nearest (row z b i) (e.castLE (by norm_num))

/-- An edge's features. -/
def hid (b : Fin 50) (i : Fin 200) (e : Fin 4) (j : Fin 128) : EReal :=
  max (∑ f : Fin 53, z.x (ix2 (node b i) f) * z.W (ix2 ⟨f.val, by omega⟩ j)
    + ∑ f : Fin 53, (z.x (ix2 (node b (nb z b i e)) f) - z.x (ix2 (node b i) f)) * z.W (ix2 ⟨53 + f.val, by omega⟩ j) + z.b (ix1 j)) 0

/-- What graph `b` adds to the sums for the next batch norm: its edges' features, and their squares. -/
def part1 (b : Fin 50) (j : Fin 128) : EReal := ∑ i, ∑ e, hid z b i e j
def part2 (b : Fin 50) (j : Fin 128) : EReal := ∑ i, ∑ e, hid z b i e j * hid z b i e j

/-- What the precondition says: the features are real numbers, and all distances are below the great number. -/
structure Ok : Prop where
  real : ∀ n f, ∃ r : ℝ, z.x (ix2 n f) = (r : EReal)
  close : ∀ b i j, apart z b i j < great

end Cert.Nearest
-- ==== Proof.NearGrid.lean ====
/- The first call: the kernel's arrays after its run, from the arrays that its windows read; and those arrays' entries, from the
   kernel's arguments: the features and positions of each graph's nodes with columns of zeros added, the weights' two halves
   with rows of zeros added, and the offset as a matrix of one row. -/
module

public import proofs.«01_k».proof.Proof.NearPieces
public import proofs.«01_k».proof.Proof.Laws
public import proofs.«01_k».proof.Proof.NearSpec
public import Idealize.ShloMosaic.Lib.Claim
public import Idealize.ShloMosaic.Lib.StableHlo.ReadAt

@[expose] public section

set_option maxRecDepth 16384

noncomputable section

namespace Cert.Kernel3Ideal.NearGrid

open Cert.Kernel3Ideal Gen Near NearPieces Cert.Body Cert.Nearest
open Idealize.ShloMosaic Idealize.ShloMosaic.TcCoe
open Idealize.ShloMosaic.Pipeline (Dat)

section arrays
variable {F : FTy → Type} [FloatOps F]
variable (m : (ℓ : Loc nD τ sig) → Buf (Elt F) ℓ) (c : Dev nD)

/-- The arrays that the windows read. -/
def P : Stack F 50 200 8 := V m c main_v3
def X : Stack F 50 200 64 := V m c main_v1
def Wt : Mat F 128 128 := V m c main_v8
def Bs : Mat F 1 128 := V m c main_v9

/-- The array of sums, with block `t`'s; and after block `k`. -/
def statsAt (t : Fin 10) (prev : Mat F 8 128) : Mat F 8 128 := statsOn (blk (P m c) t) (blk (X m c) t) (Wt m c) (Bs m c) prev
def statsTo : (k : ℕ) → k < 10 → Mat F 8 128
  | 0, h => statsAt m c ⟨0, h⟩ k0_pay1
  | k + 1, h => statsAt m c ⟨k + 1, h⟩ (statsTo k (Nat.lt_of_succ_lt h))

/-- Where the windows' blocks stand. -/
theorem idxs : ∀ t : Fin cfg0.N, (win0_0.index t = ![t.val, 0, 0] ∧ win0_1.index t = ![t.val, 0, 0]) ∧ (win0_2.index t = ![0, 0] ∧ win0_3.index t = ![0, 0])
    ∧ (win0_4.index t = ![t.val, 0, 0] ∧ win0_5.index t = ![t.val, 0, 0] ∧ win0_6.index t = ![0, 0]) := by
  decide +kernel

section blocks
variable (t : Fin cfg0.N)

theorem blk0 : (iblk m c 0 t : Vec F S5x200x8 .f32) = blk (P m c) t := by
  funext y
  unfold blk gAt P
  blk_ext [iblk, (idxs t).1.1]

theorem blk1 : (iblk m c 1 t : Vec F S5x200x64 .f32) = blk (X m c) t := by
  funext y
  unfold blk gAt X
  blk_ext [iblk, (idxs t).1.2]

theorem blk2 : (iblk m c 2 t : Vec F S128x128 .f32) = Wt m c := by
  funext y
  unfold Wt
  blk_ext [iblk, (idxs t).2.1.1]

theorem blk3 : (iblk m c 3 t : Vec F S1x128 .f32) = Bs m c := by
  funext y
  unfold Bs
  blk_ext [iblk, (idxs t).2.1.2]

end blocks

section points
variable (t : Fin cfg0.N)

theorem point4 (y : S5x200x8.Idx) : (outsAt0 m c t.val t.isLt).1 y = outNear (grf (P m c) (gAt t (y 0))) (ix3 0 (y 1) (y 2)) := by
  by_cases h0 : t.val % 10 = 0
  · rw [outsAt0_A m c t h0]; dsimp only; rw [out_A_4, blk0]; rfl
  · rw [outsAt0_B m c t h0]; dsimp only; rw [out_B_4, blk0]; rfl

theorem point5 (y : S5x200x128.Idx) : (outsAt0 m c t.val t.isLt).2.1 y
    = outSum (grf (P m c) (gAt t (y 0))) (grf (X m c) (gAt t (y 0))) (Wt m c) (Bs m c) (ix3 0 (y 1) (y 2)) := by
  by_cases h0 : t.val % 10 = 0
  · rw [outsAt0_A m c t h0]; dsimp only; rw [out_A_5, blk0, blk1, blk2, blk3]; rfl
  · rw [outsAt0_B m c t h0]; dsimp only; rw [out_B_5, blk0, blk1, blk2, blk3]; rfl

theorem point6_A (h0 : t.val % 10 = 0) : (outsAt0 m c t.val t.isLt).2.2 = statsAt m c t k0_pay1 := by
  rw [outsAt0_A m c t h0]
  dsimp only
  rw [out_A_6, blk0, blk1, blk2, blk3]
  rfl

theorem point6_B (h0 : ¬t.val % 10 = 0) : (outsAt0 m c t.val t.isLt).2.2
    = statsAt m c t (outsAt0 m c (t.val - 1) (Nat.lt_of_le_of_lt (Nat.sub_le _ _) t.isLt)).2.2 := by
  rw [outsAt0_B m c t h0]
  dsimp only
  rw [out_B_6, blk0, blk1, blk2, blk3]
  rfl

/-- The array of sums after each point. -/
theorem stats_to : ∀ (k : ℕ) (h : k < 10), (outsAt0 m c k h).2.2 = statsTo m c k h
  | 0, h => point6_A m c ⟨0, h⟩ rfl
  | k + 1, h => by
    refine (point6_B m c ⟨k + 1, h⟩ (by show ¬(k + 1) % 10 = 0; omega)).trans ?_
    exact congrArg (statsAt m c ⟨k + 1, h⟩) (stats_to k (Nat.lt_of_succ_lt h))

end points

theorem arr4 : (dats m 0 c).arrAt 4 cfg0.N = arrOf fun b => outNear (grf (P m c) b) := by
  refine (dats m 0 c).arrAt_eq_of_covers 4 _ (by decide +kernel) fun t hf y => ?_
  blk_simp
  rw [after0_4, point4]
  have e : (win0_4.blk t).view.emb y = ix3 (gAt t (y 0)) (y 1) (y 2) := by
    unfold gAt
    blk_ext [(idxs t).2.2.1]
  rw [e]
  rfl

theorem arr5 : (dats m 0 c).arrAt 5 cfg0.N = arrOf fun b => outSum (grf (P m c) b) (grf (X m c) b) (Wt m c) (Bs m c) := by
  refine (dats m 0 c).arrAt_eq_of_covers 5 _ (by decide +kernel) fun t hf y => ?_
  blk_simp
  rw [after0_5, point5]
  have e : (win0_5.blk t).view.emb y = ix3 (gAt t (y 0)) (y 1) (y 2) := by
    unfold gAt
    blk_ext [(idxs t).2.2.2.1]
  rw [e]
  rfl

/-- The sums are what the last point leaves. -/
theorem arr6 : (dats m 0 c).arrAt 6 cfg0.N = statsTo m c 9 (by norm_num) := by
  rw [← stats_to m c 9 (by decide)]
  refine (dats m 0 c).arrAt_eq_of_after_last 6 t0_9 (by decide +kernel) _ fun y => ?_
  blk_simp
  rw [after0_6]
  rfl

end arrays

/-! ## The entries -/

variable (m : (ℓ : Loc nD τ sig) → Buf (Elt Ideal) ℓ) (c : Dev nD)

theorem sitofp_zero : (FloatOps.sitofp (F := Ideal) FTy.f32 0#32 : EReal) = 0 := by
  show ((((0#32 : BitVec 32).toInt : ℝ)) : EReal) = 0
  simp

theorem P_apply (b : Fin 50) (i : Fin 200) (f : Fin 8) :
    P m c (ix3 b i f) = if h : f.val < 3 then m ((c : Thread nD τ).loc main_arg1) (ix2 (node b i) ⟨f.val, h⟩) else (0 : EReal) := by
  have hn : b.val * 200 + i.val < 10000 := by omega
  unfold P V node
  dsimp only [hostOps0, hostOps0_1, hostOps0_2, List.flatten, List.append]
  after_reads_at
  simp only [hn, true_and, sitofp_zero]

theorem X_apply (b : Fin 50) (i : Fin 200) (f : Fin 64) :
    X m c (ix3 b i f) = if h : f.val < 53 then m ((c : Thread nD τ).loc main_arg0) (ix2 (node b i) ⟨f.val, h⟩) else (0 : EReal) := by
  have hn : b.val * 200 + i.val < 10000 := by omega
  unfold X V node
  dsimp only [hostOps0, hostOps0_1, hostOps0_2, List.flatten, List.append]
  after_reads_at
  simp only [hn, true_and, sitofp_zero]

theorem top_apply (f : Fin 64) (j : Fin 128) :
    Wt m c (ix2 (top f) j) = if h : f.val < 53 then m ((c : Thread nD τ).loc main_arg2) (ix2 ⟨f.val, by omega⟩ j) else (0 : EReal) := by
  show Wt m c (ix2 (⟨f.val, (top f).isLt⟩ : Fin 128) j) = _
  unfold Wt V
  dsimp only [hostOps0, hostOps0_1, hostOps0_2, List.flatten, List.append]
  after_reads_at
  simp only [sitofp_zero]

theorem bot_apply (f : Fin 64) (j : Fin 128) :
    Wt m c (ix2 (bot f) j) = if h : f.val < 53 then m ((c : Thread nD τ).loc main_arg2) (ix2 ⟨53 + f.val, by omega⟩ j) else (0 : EReal) := by
  have hn : 64 + f.val - 64 = f.val := by omega
  show Wt m c (ix2 (⟨64 + f.val, (bot f).isLt⟩ : Fin 128) j) = _
  unfold Wt V
  dsimp only [hostOps0, hostOps0_1, hostOps0_2, List.flatten, List.append]
  after_reads_at
  simp only [hn, sitofp_zero]

theorem Bs_apply (j : Fin 128) : Bs m c (ix2 0 j) = m ((c : Thread nD τ).loc main_arg3) (ix1 j) := by
  unfold Bs V
  dsimp only [hostOps0, hostOps0_1, hostOps0_2, List.flatten, List.append]
  after_reads_at

end Cert.Kernel3Ideal.NearGrid
-- ==== Proof.NearSums.lean ====
/- The first call: the kernel's three arrays are those of the plain form. -/
module

public import proofs.«01_k».proof.Proof.NearReads
public import proofs.«01_k».proof.Proof.NearGrid

@[expose] public section

set_option maxRecDepth 16384

noncomputable section

namespace Cert.Kernel3Ideal.NearSums

open Cert.Kernel3Ideal Gen NearGrid Cert.Body Cert.Nearest
open Idealize.ShloMosaic Idealize.ShloMosaic.TcCoe

variable (m : (ℓ : Loc nD τ sig) → Buf (Elt Ideal) ℓ) (c : Dev nD)

/-- The kernel's arguments. -/
def args : In := ⟨m ((c : Thread nD τ).loc main_arg0), m ((c : Thread nD τ).loc main_arg1), m ((c : Thread nD τ).loc main_arg2), m ((c : Thread nD τ).loc main_arg3)⟩

theorem pos_apply (b : Fin 50) (i : Fin 200) (f : Fin 8) :
    grf (P m c) b (ix3 0 i f) = if h : f.val < 3 then (args m c).pos (ix2 (node b i) ⟨f.val, h⟩) else (0 : EReal) := P_apply m c b i f
theorem x_apply (b : Fin 50) (i : Fin 200) (f : Fin 64) :
    grf (X m c) b (ix3 0 i f) = if h : f.val < 53 then (args m c).x (ix2 (node b i) ⟨f.val, h⟩) else (0 : EReal) := X_apply m c b i f

/-- Products of two nodes' positions: the columns of zeros add nothing. -/
theorem prod_eq (b : Fin 50) (i j : Fin 200) : ∑ f, grf (P m c) b (ix3 0 i f) * grf (P m c) b (ix3 0 j f)
    = ∑ f, (args m c).pos (ix2 (node b i) f) * (args m c).pos (ix2 (node b j) f) := by
  refine (sum_prefix (by norm_num : 3 ≤ 8) _ fun f hf => ?_).trans (Finset.sum_congr rfl fun f _ => ?_)
  · simp only [pos_apply]
    rw [dif_neg (by omega), zero_mul]
  · have h : (f.castLE (by norm_num : 3 ≤ 8)).val < 3 := f.isLt
    simp only [pos_apply]
    rw [dif_pos h, dif_pos h]
    rfl

theorem sq_eq (b : Fin 50) (i : Fin 200) : Near.sq (grf (P m c) b) i = sq (args m c) b i := prod_eq m c b i i
theorem apart_eq (b : Fin 50) (i j : Fin 200) : Near.apart (grf (P m c) b) i j = apart (args m c) b i j := by
  unfold Near.apart apart
  rw [sq_eq, sq_eq, prod_eq]
theorem row_eq (b : Fin 50) (i : Fin 200) : Near.row (grf (P m c) b) i = row (args m c) b i := funext fun j => by
  unfold Near.row row
  rw [apart_eq]
  rfl

variable (ok : Cert.Nearest.Ok (args m c))

include ok in
theorem near_eq (b : Fin 50) (i : Fin 200) (e : Fin 4) : Near.near (F := Ideal) (grf (P m c) b) e.val (ix2 i 0) = BitVec.ofNat 32 (nb (args m c) b i e).val := by
  refine (Near.near_apply _ i (fun j _ => ?_) e.val (by omega)).trans ?_
  · rw [apart_eq]
    exact ok.close b i j
  · rw [row_eq]
    rfl

include ok in
theorem x_real (b : Fin 50) (i : Fin 200) (f : Fin 64) : ∃ r : ℝ, grf (X m c) b (ix3 0 i f) = (r : EReal) := by
  rw [x_apply]
  by_cases h : f.val < 53
  · rw [dif_pos h]; exact ok.real _ _
  · rw [dif_neg h]; exact ⟨0, rfl⟩

include ok in
/-- An edge's features. -/
theorem edges_eq (b : Fin 50) (i : Fin 200) (e : Fin 4) (j : Fin 128) :
    Near.edges (F := Ideal) (grf (P m c) b) (grf (X m c) b) (Wt m c) (Bs m c) (ix2 (at4 e i) j) = hid (args m c) b i e j := by
  refine (Near.edges_apply _ _ _ _ (x_real m c ok b) e i (nb (args m c) b i e) (near_eq m c ok b i e) j).trans ?_
  unfold hid
  refine congrArg (max · 0) (congrArg₂ (· + ·) (congrArg₂ (· + ·) ?_ ?_) (Bs_apply m c j))
  · refine (sum_prefix (by norm_num : 53 ≤ 64) _ fun f hf => ?_).trans (Finset.sum_congr rfl fun f _ => ?_)
    · rw [x_apply, dif_neg (by omega), zero_mul]
    · have h : (f.castLE (by norm_num : 53 ≤ 64)).val < 53 := f.isLt
      rw [x_apply, dif_pos h, top_apply, dif_pos h]
      rfl
  · refine (sum_prefix (by norm_num : 53 ≤ 64) _ fun f hf => ?_).trans (Finset.sum_congr rfl fun f _ => ?_)
    · rw [bot_apply, dif_neg (by omega), mul_zero]
    · have h : (f.castLE (by norm_num : 53 ≤ 64)).val < 53 := f.isLt
      rw [x_apply, dif_pos h, x_apply, dif_pos h, bot_apply, dif_pos h]
      rfl

include ok in
theorem near_arr (b : Fin 50) (i : Fin 200) (j : Fin 8) : arrOf (fun b => Near.outNear (F := Ideal) (grf (P m c) b)) (ix3 b i j)
    = if h : j.val < 4 then BitVec.ofNat 32 (nb (args m c) b i ⟨j.val, h⟩).val else 0#32 := by
  refine (Near.outNear_law (grf (P m c) b) i j).trans ?_
  by_cases h : j.val < 4
  · rw [if_pos h, dif_pos h]; exact near_eq m c ok b i ⟨j.val, h⟩
  · rw [if_neg h, dif_neg h]

include ok in
theorem sum_arr (b : Fin 50) (i : Fin 200) (j : Fin 128) :
    arrOf (fun b => Near.outSum (F := Ideal) (grf (P m c) b) (grf (X m c) b) (Wt m c) (Bs m c)) (ix3 b i j) = ∑ e, hid (args m c) b i e j :=
  (Near.outSum_law (grf (P m c) b) (grf (X m c) b) (Wt m c) (Bs m c) i j).trans (Finset.sum_congr rfl fun e _ => edges_eq m c ok b i e j)

include ok in
/-- The running sums of block `t` after `r` of its graphs. -/
theorem sums_eq (t : Fin 10) (j : Fin 128) : ∀ (r : ℕ) (h : r ≤ 5), Near.sums (F := Ideal) (blk (P m c) t) (blk (X m c) t) (Wt m c) (Bs m c) r h (ix2 0 j)
    = ∑ g : Fin r, part1 (args m c) (gAt t (g.castLE h)) j
  | 0, h => (Near.zero_laws 0 j).2.1
  | r + 1, h => by
    rw [Near.sums, Near.sumOn_law, sums_eq t j r, Fin.sum_univ_castSucc (n := r)]
    refine congrArg₂ (· + ·) rfl ?_
    rw [gr_blk, gr_blk]
    unfold part1
    exact Finset.sum_congr rfl fun i _ => Finset.sum_congr rfl fun e _ => edges_eq m c ok _ i e j

include ok in
theorem sqs_eq (t : Fin 10) (j : Fin 128) : ∀ (r : ℕ) (h : r ≤ 5), Near.sqs (F := Ideal) (blk (P m c) t) (blk (X m c) t) (Wt m c) (Bs m c) r h (ix2 0 j)
    = ∑ g : Fin r, part2 (args m c) (gAt t (g.castLE h)) j
  | 0, h => (Near.zero_laws 0 j).2.2
  | r + 1, h => by
    rw [Near.sqs, Near.sqOn_law, sqs_eq t j r, Fin.sum_univ_castSucc (n := r)]
    refine congrArg₂ (· + ·) rfl ?_
    rw [gr_blk, gr_blk]
    unfold part2
    exact Finset.sum_congr rfl fun i _ => Finset.sum_congr rfl fun e _ => congrArg₂ (· * ·) (edges_eq m c ok _ i e j) (edges_eq m c ok _ i e j)

/-- What block `t` adds to row `r`. -/
def add (t : Fin 10) (r : Fin 8) (j : Fin 128) : EReal :=
  if r.val < 1 then ∑ g, part1 (args m c) (gAt t g) j else if r.val - 1 < 1 then ∑ g, part2 (args m c) (gAt t g) j
    else if r.val - 1 - 1 < 1 then Ideal.ofBits FTy.f32 1165623296#32 else 0

include ok in
theorem statsAt_apply (t : Fin 10) (prev : Mat Ideal 8 128) (r : Fin 8) (j : Fin 128) :
    statsAt m c t prev (ix2 r j) = prev (ix2 r j) + add m c t r j := by
  refine (Near.stats_law _ _ prev r j).trans ?_
  rw [sums_eq m c ok t j 5 le_rfl, sqs_eq m c ok t j 5 le_rfl]
  rfl

include ok in
theorem statsTo_apply (r : Fin 8) (j : Fin 128) : ∀ (k : ℕ) (h : k < 10), NearGrid.statsTo m c k h (ix2 r j) = ∑ t : Fin (k + 1), add m c (t.castLE h) r j
  | 0, h => by
    rw [NearGrid.statsTo, statsAt_apply m c ok, (Near.zero_laws r j).1, zero_add, Fin.sum_univ_one]
    rfl
  | k + 1, h => by
    rw [NearGrid.statsTo, statsAt_apply m c ok, statsTo_apply r j k, Fin.sum_univ_castSucc (n := k + 1)]
    rfl

/-- Ten blocks of five graphs are the fifty graphs. -/
theorem sum_blocks (g : Fin 50 → EReal) : ∑ t : Fin 10, ∑ k : Fin 5, g (gAt t k) = ∑ b, g b := by
  rw [← Equiv.sum_comp (finProdFinEquiv (m := 10) (n := 5)) g, Fintype.sum_prod_type]
  refine Finset.sum_congr rfl fun t _ => Finset.sum_congr rfl fun k _ => congrArg _ (Fin.ext ?_)
  show 5 * t.val + k.val = k.val + 5 * t.val
  omega

include ok in
theorem stats_arr (r : Fin 8) (j : Fin 128) : NearGrid.statsTo m c 9 (by norm_num) (ix2 r j)
    = if r.val < 1 then ∑ b, part1 (args m c) b j else if r.val - 1 < 1 then ∑ b, part2 (args m c) b j
      else if r.val - 1 - 1 < 1 then Ideal.ofBits FTy.f32 1193033728#32 else 0 := by
  refine (statsTo_apply m c ok r j 9 (by norm_num)).trans ?_
  unfold add
  by_cases a1 : r.val < 1
  · simp only [if_pos a1]; exact sum_blocks fun b => part1 (args m c) b j
  simp only [if_neg a1]
  by_cases a2 : r.val - 1 < 1
  · simp only [if_pos a2]; exact sum_blocks fun b => part2 (args m c) b j
  simp only [if_neg a2]
  by_cases a3 : r.val - 1 - 1 < 1
  · simp only [if_pos a3]
    rw [ofBits_4000, ofBits_40000, Finset.sum_const, ← EReal.coe_nsmul]
    refine congrArg Real.toEReal ?_
    rw [Finset.card_univ, Fintype.card_fin, nsmul_eq_mul]
    norm_num
  · simp only [if_neg a3, Finset.sum_const_zero]

end Cert.Kernel3Ideal.NearSums
-- ==== Proof.NearRef.lean ====
/- The first call: what the reference's lines give at an index. -/
module

public import proofs.«01_k».proof.Proof.NearSpec
public import proofs.«01_k».proof.Proof.Pick
public import proofs.«01_k».proof.Proof.Gen.Reference3Ideal.Run

@[expose] public section

set_option maxRecDepth 16384

noncomputable section

namespace Cert.Reference3Ideal.NearRef

open Gen Value Cert.Words Cert.Pick Cert.Nearest
open Idealize.ShloMosaic Idealize.ShloMosaic.TcCoe Idealize.ShloMosaic.StableHlo

variable (a0 : FVec Ideal S10000x53 .f32) (a1 : FVec Ideal S10000x3 .f32) (a2 : FVec Ideal S106x128 .f32) (a3 : FVec Ideal S128 .f32)

/-- The distances with the great number on the diagonal, and the indices of the four least. -/
def d2 : FVec Ideal S50x200x200 .f32 :=
  (addf (subf (addf (broadcastInDim S50x200x200 ![0, 1, 2] bcast_S50x200x1_S50x200x200_0_1_2 (broadcastInDim S50x200x1 ![0, 1] bcast_S50x200_S50x200x1_0_1 (Host.reduceAdd (mulf (shapeCast _ a1 shapeCasts_S10000x3_S50x200x3) (shapeCast _ a1 shapeCasts_S10000x3_S50x200x3)) (constant S_ .f32 0x00000000#32) reducesTo_S50x200x3_S50x200_d2 h_S_))) (broadcastInDim S50x200x200 ![0, 1, 2] bcast_S50x1x200_S50x200x200_0_1_2 (broadcastInDim S50x1x200 ![0, 2] bcast_S50x200_S50x1x200_0_2 (Host.reduceAdd (mulf (shapeCast _ a1 shapeCasts_S10000x3_S50x200x3) (shapeCast _ a1 shapeCasts_S10000x3_S50x200x3)) (constant S_ .f32 0x00000000#32) reducesTo_S50x200x3_S50x200_d2 h_S_)))) (mulf (broadcastInDim S50x200x200 ![] bcast_S_S50x200x200 (constant S_ .f32 0x40000000#32)) (Host.dotGeneral dot_S50x200x3_S50x200x3_S50x200x200_2_2_1_1_0_0 none (shapeCast _ a1 shapeCasts_S10000x3_S50x200x3) (shapeCast _ a1 shapeCasts_S10000x3_S50x200x3)))) (broadcastInDim S50x200x200 ![0, 1, 2] bcast_S1x200x200_S50x200x200_0_1_2 (broadcastInDim S1x200x200 ![1, 2] bcast_S200x200_S1x200x200_1_2 (mulf (uitofp .f32 (cmpi .eq (addi (iotaInDim S200x200 32 0) (broadcastInDim S200x200 ![] bcast_S_S200x200 (constantI S_ 32 0#32))) (iotaInDim S200x200 32 1))) (broadcastInDim S200x200 ![] bcast_S_S200x200 (constant S_ .f32 0x4E6E6B28#32))))))
def idx : IVec S50x200x4 32 := (Host.topK S50x200x4 2 (FloatOps.cmpfTotal .gt) (Host.negf (d2 a1)) sliceFits_S50x200x200_S50x200x4).2

/-- The start indices that read a graph's node, and the edges' features. -/
def starts : IVec S50x200x4x2 32 :=
  (concatenate S50x200x4x2 3 [⟨S50x200x4x1, (broadcastInDim S50x200x4x1 ![0, 1, 2] bcast_S50x200x4_S50x200x4x1_0_1_2 (broadcastInDim S50x200x4 ![0, 1, 2] bcast_S50x1x1_S50x200x4_0_1_2 (select (cmpi .slt (broadcastInDim S50x1x1 ![0] bcast_S50_S50x1x1_0 (iotaInDim S50 32 0)) (broadcastInDim S50x1x1 ![] bcast_S_S50x1x1 (constantI S_ 32 0#32))) (addi (broadcastInDim S50x1x1 ![0] bcast_S50_S50x1x1_0 (iotaInDim S50 32 0)) (broadcastInDim S50x1x1 ![] bcast_S_S50x1x1 (constantI S_ 32 50#32))) (broadcastInDim S50x1x1 ![0] bcast_S50_S50x1x1_0 (iotaInDim S50 32 0)))))⟩, ⟨S50x200x4x1, (broadcastInDim S50x200x4x1 ![0, 1, 2] bcast_S50x200x4_S50x200x4x1_0_1_2 (select (cmpi .slt (idx a1) (broadcastInDim S50x200x4 ![] bcast_S_S50x200x4 (constantI S_ 32 0#32))) (addi (idx a1) (broadcastInDim S50x200x4 ![] bcast_S_S50x200x4 (constantI S_ 32 200#32))) (idx a1)))⟩] concatenates_S50x200x4x1_S50x200x4x1_S50x200x4x2_d3)
def nbrs : FVec Ideal S50x200x4x53 .f32 := (Host.gather gather_S50x200x53_S50x200x4x2_S50x200x4x53_3_01_n_n_01_3_1153 (shapeCast _ a0 shapeCasts_S10000x53_S50x200x53) (starts a1))
def feat : FVec Ideal S50x200x4x128 .f32 :=
  (maximumf (addf (Host.dotGeneral dot_S50x200x4x106_S106x128_S50x200x4x128_3_0_012_1_n_n none (concatenate S50x200x4x106 3 [⟨S50x200x4x53, (broadcastInDim S50x200x4x53 ![0, 1, 2, 3] bcast_S50x200x1x53_S50x200x4x53_0_1_2_3 (broadcastInDim S50x200x1x53 ![0, 1, 3] bcast_S50x200x53_S50x200x1x53_0_1_3 (shapeCast _ a0 shapeCasts_S10000x53_S50x200x53)))⟩, ⟨S50x200x4x53, (subf (nbrs a0 a1) (broadcastInDim S50x200x4x53 ![0, 1, 2, 3] bcast_S50x200x1x53_S50x200x4x53_0_1_2_3 (broadcastInDim S50x200x1x53 ![0, 1, 3] bcast_S50x200x53_S50x200x1x53_0_1_3 (shapeCast _ a0 shapeCasts_S10000x53_S50x200x53))))⟩] concatenates_S50x200x4x53_S50x200x4x53_S50x200x4x106_d3) a2) (broadcastInDim S50x200x4x128 ![0, 1, 2, 3] bcast_S1x1x1x128_S50x200x4x128_0_1_2_3 (broadcastInDim S1x1x1x128 ![3] bcast_S128_S1x1x1x128_3 a3))) (broadcastInDim S50x200x4x128 ![] bcast_S_S50x200x4x128 (constant S_ .f32 0x00000000#32)))

/-- The three results. -/
def rnear : IVec S50x200x8 32 := pad S50x200x8 ![0, 0, 0] ![0, 0, 4] ![0, 0, 0] (idx a1) (id (constantI S_ 32 0#32)) pads_S50x200x4_S50x200x8_000_000_040 h_S_
def rsum : FVec Ideal S50x200x128 .f32 := Host.reduceAdd (feat a0 a1 a2 a3) (constant S_ .f32 0x00000000#32) reducesTo_S50x200x4x128_S50x200x128_d2 h_S_
def rstats : FVec Ideal S8x128 .f32 := (concatenate S8x128 0 [⟨S1x128, ((broadcastInDim S1x128 ![1] bcast_S128_S1x128_1 (Host.reduceAdd (feat a0 a1 a2 a3) (constant (F := Ideal) S_ .f32 0x00000000#32) reducesTo_S50x200x4x128_S128_d0_1_2 h_S_)) : (⟨S1x128, .f32⟩ : BufTy).Contents (Elt Ideal))⟩, ⟨S1x128, ((broadcastInDim S1x128 ![1] bcast_S128_S1x128_1 (Host.reduceAdd (mulf (feat a0 a1 a2 a3) (feat a0 a1 a2 a3)) (constant (F := Ideal) S_ .f32 0x00000000#32) reducesTo_S50x200x4x128_S128_d0_1_2 h_S_)) : (⟨S1x128, .f32⟩ : BufTy).Contents (Elt Ideal))⟩, ⟨S1x128, ((id (broadcastInDim S1x128 ![] bcast_S_S1x128 (constant (F := Ideal) S_ .f32 0x471C4000#32))) : (⟨S1x128, .f32⟩ : BufTy).Contents (Elt Ideal))⟩, ⟨S5x128, ((broadcastInDim S5x128 ![] bcast_S_S5x128 (constant (F := Ideal) S_ .f32 0x00000000#32)) : (⟨S5x128, .f32⟩ : BufTy).Contents (Elt Ideal))⟩] concatenates_S1x128_S1x128_S1x128_S5x128_S8x128_d0 : (⟨S8x128, .f32⟩ : BufTy).Contents (Elt Ideal))

section same
variable (m : (ℓ : Loc nD τ sig) → Buf (Elt Ideal) ℓ) (c : Dev nD)
theorem rsum_eq : res_main_v61 m c = rsum (m ((c.tc : Thread nD τ).loc main_arg0)) (m ((c.tc : Thread nD τ).loc main_arg1)) (m ((c.tc : Thread nD τ).loc main_arg2)) (m ((c.tc : Thread nD τ).loc main_arg3)) := rfl
theorem rstats_eq : res_main_v59 m c = rstats (m ((c.tc : Thread nD τ).loc main_arg0)) (m ((c.tc : Thread nD τ).loc main_arg1)) (m ((c.tc : Thread nD τ).loc main_arg2)) (m ((c.tc : Thread nD τ).loc main_arg3)) := rfl
end same

variable (z : In)

theorem d2_apply (b : Fin 50) (i j : Fin 200) : d2 z.pos (ix3 b i j) = row z b i j := by
  pointwise [d2]
  rw [show IntOp.addi (BitVec.ofNat 32 i.val) 0#32 = BitVec.ofNat 32 i.val from BitVec.add_zero _, cmpi_eq (by omega) (by omega), uitofp_bit]
  unfold row apart Nearest.sq great node
  by_cases h : i = j
  · subst h; simp
  · have h1 : ¬i.val = j.val := fun e => h (Fin.ext e)
    simp [h, h1]

/-- The nearest nodes. -/
theorem idx_apply (b : Fin 50) (i : Fin 200) (e : Fin 4) : idx z.pos (ix3 b i e) = BitVec.ofNat 32 (nb z b i e).val := by
  unfold idx
  refine (top3_apply (by norm_num) _ _ b i e).trans ?_
  unfold nb nearest
  have h : (fun j : Fin 200 => Host.negf (d2 z.pos) (ix3 b i j)) = fun j => -row z b i j := funext fun j => by
    rw [← d2_apply z b i j]; rfl
  rw [h]

theorem starts_zero (b : Fin 50) (i : Fin 200) (e : Fin 4) : starts z.pos (ix4 b i e 0) = BitVec.ofNat 32 b.val := by
  pointwise [starts]
  exact wrap_small (by omega) _

theorem starts_one (b : Fin 50) (i : Fin 200) (e : Fin 4) : starts z.pos (ix4 b i e 1) = BitVec.ofNat 32 (nb z b i e).val := by
  pointwise [starts]
  rw [idx_apply]
  exact wrap_small (by omega) _

theorem nbrs_apply (b : Fin 50) (i : Fin 200) (e : Fin 4) (f : Fin 53) : nbrs z.x z.pos (ix4 b i e f) = z.x (ix2 (node b (nb z b i e)) f) := by
  unfold nbrs
  refine (rows4_apply (by norm_num) _ _ (starts z.pos) b i e f _ (starts_zero z b i e) (starts_one z b i e)).trans ?_
  unfold node
  pointwise []

theorem feat_apply (b : Fin 50) (i : Fin 200) (e : Fin 4) (j : Fin 128) : feat z.x z.pos z.W z.b (ix4 b i e j) = hid z b i e j := by
  unfold feat
  pointwise []
  simp only [nbrs_apply]
  rfl

theorem rnear_apply (b : Fin 50) (i : Fin 200) (j : Fin 8) : rnear z.pos (ix3 b i j)
    = if h : j.val < 4 then BitVec.ofNat 32 (nb z b i ⟨j.val, h⟩).val else 0#32 := by
  unfold rnear
  refine (pad_apply pads_S50x200x4_S50x200x8_000_000_040 h_S_ (idx z.pos) (id (constantI S_ 32 0#32)) b i j).trans ?_
  simp only [idx_apply]
  split_ifs <;> rfl

theorem rsum_apply (b : Fin 50) (i : Fin 200) (j : Fin 128) : rsum z.x z.pos z.W z.b (ix3 b i j) = ∑ e, hid z b i e j := by
  simp only [← feat_apply]
  pointwise [rsum]

theorem red_sum (j : Fin 128) :
    (Host.reduceAdd (feat z.x z.pos z.W z.b) (constant S_ .f32 0x00000000#32) reducesTo_S50x200x4x128_S128_d0_1_2 h_S_ : FVec Ideal S128 .f32) (ix1 j)
      = ∑ b, part1 z b j := by
  unfold part1
  simp only [← feat_apply]
  pointwise []
  rw [reduce_last]

theorem red_sq (j : Fin 128) :
    (Host.reduceAdd (mulf (feat z.x z.pos z.W z.b) (feat z.x z.pos z.W z.b)) (constant S_ .f32 0x00000000#32) reducesTo_S50x200x4x128_S128_d0_1_2 h_S_ : FVec Ideal S128 .f32) (ix1 j)
      = ∑ b, part2 z b j := by
  unfold part2
  simp only [← feat_apply]
  pointwise []
  rw [reduce_last]
  pointwise []

theorem rstats_apply (r : Fin 8) (j : Fin 128) : rstats z.x z.pos z.W z.b (ix2 r j)
    = if r.val < 1 then ∑ b, part1 z b j else if r.val - 1 < 1 then ∑ b, part2 z b j
      else if r.val - 1 - 1 < 1 then Ideal.ofBits FTy.f32 1193033728#32 else 0 := by
  have h1 := red_sum z j
  have h2 := red_sq z j
  rw [← h1, ← h2]
  clear h1 h2
  unfold rstats
  generalize (Host.reduceAdd (feat z.x z.pos z.W z.b) (constant S_ .f32 0x00000000#32) reducesTo_S50x200x4x128_S128_d0_1_2 h_S_ : FVec Ideal S128 .f32) = a
  generalize (Host.reduceAdd (mulf (feat z.x z.pos z.W z.b) (feat z.x z.pos z.W z.b)) (constant S_ .f32 0x00000000#32) reducesTo_S50x200x4x128_S128_d0_1_2 h_S_ : FVec Ideal S128 .f32) = s
  pointwise []
  by_cases a1 : r.val < 1
  · simp only [dif_pos a1, if_pos a1]
  simp only [dif_neg a1, if_neg a1]
  by_cases a2 : r.val - 1 < 1
  · simp only [dif_pos a2, if_pos a2]
  simp only [dif_neg a2, if_neg a2]
  by_cases a3 : r.val - 1 - 1 < 1
  · simp only [dif_pos a3, if_pos a3]
    rfl
  · simp only [dif_neg a3, if_neg a3]

end Cert.Reference3Ideal.NearRef
-- ==== Proof.NearPre.lean ====
/- What the precondition `near_ok` of the statement says of the arguments, read off its printed form. -/
module

public import proofs.«01_k».proof.Pre_near_ok
public import proofs.«01_k».proof.Proof.Truth
public import proofs.«01_k».proof.Proof.NearSpec

@[expose] public section

noncomputable section

namespace Cert.Pre_near_ok

open Idealize.ShloMosaic Cert.Truth

/-- Every side condition the printed predicate states. -/
instance facts : Facts where
  shapeCasts_S10000x3_S50x200x3 := by decide
  reducesTo_S50x200x3_S50x200_d2 := by decide
  h_S_ := by decide
  bcast_S50x200_S50x200x1_0_1 := by decide
  bcast_S50x200_S50x1x200_0_2 := by decide
  bcast_S50x200x1_S50x200x200_0_1_2 := by decide
  bcast_S50x1x200_S50x200x200_0_1_2 := by decide
  bcast_S_S50x200x200 := by decide
  bcast_S_S10000x53 := by decide
  reducesTo_S10000x53_S_d0_1 := by decide
  reducesTo_S50x200x200_S_d0_1_2 := by decide
  dot_S50x200x3_S50x200x3_S50x200x200_2_2_1_1_0_0_wf := by decide

variable {a0 : FVec Ideal S10000x53 .f32} {a1 : FVec Ideal S10000x3 .f32} {a2 : FVec Ideal S106x128 .f32} {a3 : FVec Ideal S128 .f32}

instance : Subsingleton S_.Idx := ⟨fun a b => funext fun k => k.elim0⟩

theorem lt_of_cmp {x y : EReal} (h : Ideal.cmp .olt x y = 1#1) : x < y := of_decide_eq_true (true_of_word h)

/-- The precondition, where it holds, says all of that. -/
theorem read (h : fn (F := Ideal) a0 a1 a2 a3 = fun _ => 1#1) : Cert.Nearest.Ok ⟨a0, a1, a2, a3⟩ := by
  have h0 := congrFun h ix0
  unfold fn fn_part1 at h0
  dsimp only [andi] at h0
  obtain ⟨e1, e2⟩ := IntOp.andi_eq_one.1 h0
  have f1 := fun (n : Fin 10000) (f : Fin 53) => Host.reduce_andi_all _ _ _ _ _ e1 (ix2 n f)
  have f2 := fun (b : Fin 50) (i j : Fin 200) => Host.reduce_andi_all _ _ _ _ _ e2 (ix3 b i j)
  clear e1 e2 h0 h
  refine ⟨fun n f => real_of_lt (x := a0 (ix2 n f)) (f1 n f), fun b i j => ?_⟩
  have := lt_of_cmp (f2 b i j)
  refine lt_of_le_of_lt (le_of_eq ?_) (lt_of_lt_of_le this (le_of_eq ?_))
  · unfold Cert.Nearest.apart Cert.Nearest.sq Cert.Nearest.node
    pointwise []
  · unfold Cert.Nearest.great
    pointwise []

end Cert.Pre_near_ok

end
-- ==== Proof.NearResults.lean ====
/- The first call: the kernel's three results are the reference's. -/
module

public import proofs.«01_k».proof.Proof.NearSums
public import proofs.«01_k».proof.Proof.NearRef
public import proofs.«01_k».proof.Proof.NearPre
public import proofs.«01_k».proof.Proof.Table

@[expose] public section

noncomputable section

namespace Cert.NearResults

open Cert.Nearest Cert.Body
open Idealize.ShloMosaic Idealize.SL.Sem
open Cert.Kernel3Ideal (cfg0)
open Cert.Kernel3Ideal.Gen (dats)
open Cert.Kernel3Ideal.NearGrid (arr4 arr5 arr6)
open Cert.Kernel3Ideal.NearSums (args near_arr sum_arr stats_arr)
open Cert.Reference3Ideal.NearRef

variable (m : (ℓ : Loc Cert.Kernel3Ideal.nD Cert.Kernel3Ideal.τ Cert.Kernel3Ideal.sig) → Buf (Elt Ideal) ℓ) (c : Dev Cert.Kernel3Ideal.nD)
variable (z : In)

theorem results (hz : z = args m c) (ok : Cert.Nearest.Ok (args m c)) :
    rnear z.pos = (dats m 0 c).arrAt 4 cfg0.N ∧ rsum z.x z.pos z.W z.b = (dats m 0 c).arrAt 5 cfg0.N
      ∧ rstats z.x z.pos z.W z.b = (dats m 0 c).arrAt 6 cfg0.N := by
  subst hz
  refine ⟨Eq.trans (ext3 fun b i j => ?_) (arr4 m c).symm, Eq.trans (ext3 fun b i j => ?_) (arr5 m c).symm, Eq.trans (ext2 fun r j => ?_) (arr6 m c).symm⟩
  · exact (rnear_apply _ b i j).trans (near_arr m c ok b i j).symm
  · exact (rsum_apply _ b i j).trans (sum_arr m c ok b i j).symm
  · exact (rstats_apply _ r j).trans (stats_arr m c ok r j).symm

end Cert.NearResults

end
-- ==== Proof.Dense.lean ====
/- The network's head as mathematics: a batch norm over the fifty graphs, a dense layer, and the result of both layers from
   the graphs' mean features. -/
module

public import Idealize.ShloMosaic.Lib.IdealHost
public import Idealize.ShloMosaic.PureOps

@[expose] public section

noncomputable section

namespace Cert.Dense

open Idealize.ShloMosaic

/-- The number of graphs, as the literal of both programs. -/
def fifty : EReal := Ideal.ofBits FTy.f32 1112014848#32

/-- The constant added to a variance, as the literal of both programs. -/
def eps : EReal := Ideal.ofBits FTy.f32 925353388#32

/-- The mean over the graphs. -/
def mean (x : Fin 50 → EReal) : EReal := Ideal.div (∑ b, x b) fifty

/-- A feature's batch norm over the graphs before its scale and shift. -/
def unit (x : Fin 50 → EReal) (b : Fin 50) : EReal :=
  Ideal.div (x b - mean x) (Ideal.sqrt (mean (fun a => (x a - mean x) * (x a - mean x)) + eps))

/-- One output of a dense layer with a rectifier, graph by graph. -/
def dense {n : ℕ} (h : Fin 50 → Fin n → EReal) (w : Fin n → EReal) (bias : EReal) (b : Fin 50) : EReal :=
  max (∑ k, h b k * w k + bias) 0

/-- The first layer with its batch norm. -/
def first (h : Fin 50 → Fin 512 → EReal) (W : Fin 512 → Fin 512 → EReal) (bias g be : Fin 512 → EReal) (b : Fin 50) (k : Fin 512) : EReal :=
  unit (dense h (fun i => W i k) (bias k)) b * g k + be k

/-- The second layer with its batch norm, and the logistic function. -/
def second (h : Fin 50 → Fin 512 → EReal) (w : Fin 512 → EReal) (bias g be : EReal) (b : Fin 50) : EReal :=
  Ideal.logistic (unit (dense h w bias) b * g + be)

/-- The number of nodes of a graph, as the literal of both programs. -/
def nodes : EReal := Ideal.ofBits FTy.f32 1124073472#32

/-- The head's result for a graph, from the nodes' features. -/
def head (h : Fin 50 → Fin 128 → Fin 512 → EReal) (W : Fin 512 → Fin 512 → EReal) (bias g be : Fin 512 → EReal)
    (w : Fin 512 → EReal) (bias' g' be' : EReal) (b : Fin 50) : EReal :=
  second (first (fun b f => Ideal.div (∑ i, h b i f) nodes) W bias g be) w bias' g' be' b

end Cert.Dense

end
-- ==== Proof.HeadBody.lean ====
/- What the head's kernel computes from its blocks, read at the rows of the fifty graphs: the six rows of padding, which
   the kernel multiplies by zero before every sum, drop out. -/
module

public import proofs.«01_k».proof.Proof.Gen.Kernel2Ideal.Frame
public import proofs.«01_k».proof.Proof.Dense
public import proofs.«01_k».proof.Proof.Words
public import Idealize.ShloMosaic.Lib.Pointwise

@[expose] public section

set_option maxRecDepth 16384

noncomputable section

namespace Cert.Kernel2Ideal.Head

open Cert.Kernel2Ideal Gen Cert.Dense Cert.Words
open Idealize.ShloMosaic Idealize.ShloMosaic.TcCoe

/-- The batch norm's factor of a feature, from its sums and its scale. -/
def factor (s0 s1 s2 g : EReal) : EReal :=
  Ideal.div g (Ideal.sqrt (Ideal.div s1 (max s2 1) - Ideal.div s0 (max s2 1) * Ideal.div s0 (max s2 1) + Ideal.ofBits FTy.f32 925353388#32))

/-- A node's feature as the kernel forms it: factor and shift of the batch norm, the node's sum over its count. -/
def node (s0 s1 s2 g be n s : EReal) : EReal :=
  factor s0 s1 s2 g * Ideal.div s (max n 1) + (be - Ideal.div s0 (max s2 1) * factor s0 s1 s2 g) * (if 0 < n then 1 else 0)

/-- The sum of a graph's node features. -/
theorem pay1_apply (s0 s1 s2 g be : Vec Ideal S1x512 .f32) (cnt : Vec Ideal S6400x8 .f32) (ns : Vec Ideal S6400x512 .f32) (b : Fin 50) (f : Fin 512) :
    k0_pay1 (F := Ideal) s0 s1 s2 g be cnt ns (ix2 b f)
      = ∑ i : Fin 128, node (s0 (ix2 0 f)) (s1 (ix2 0 f)) (s2 (ix2 0 f)) (g (ix2 0 f)) (be (ix2 0 f))
          (cnt (ix2 ⟨b.val * 128 + i.val, by omega⟩ 0)) (ns (ix2 ⟨b.val * 128 + i.val, by omega⟩ f)) := by
  unfold k0_pay1 node factor
  pointwise
  simp only [sitofp_bit, decide_eq_true_eq]

/-- The mask of the rows: one for a graph, zero for padding. -/
theorem pay2_apply (r : Fin 56) : k0_pay2 (F := Ideal) (ix2 r 0) = if r.val < 50 then 1 else 0 := by
  unfold k0_pay2
  pointwise
  rw [cmpi_slt (by omega) (by omega), sitofp_bit]
  simp only [decide_eq_true_eq]

/-- The first layer, normalised and scaled, at a graph's row. -/
theorem pay3_apply (x : Vec Ideal S50x512 .f32) (n : EReal) (W : Vec Ideal S512x512 .f32) (bb g : Vec Ideal S1x512 .f32) (b : Fin 50) (f : Fin 512) :
    k0_pay3 (F := Ideal) x n W bb g (ix2 (b.castLE (by decide)) f)
      = unit (dense (fun b k => Ideal.div (x (ix2 b k)) n) (fun k => W (ix2 k f)) (bb (ix2 0 f))) b * g (ix2 0 f) := by
  have hb : b.val < 50 := b.isLt
  have q1 : ∀ r : Fin 50, ∀ h, k0_pay2 (F := Ideal) (ix2 ⟨r.val, h⟩ 0) = 1 := fun r h => (pay2_apply _).trans (if_pos r.isLt)
  have q0 : ∀ r : Fin 6, ∀ h, k0_pay2 (F := Ideal) (ix2 ⟨50 + r.val, h⟩ 0) = 0 := fun r h => (pay2_apply _).trans (if_neg (by simp))
  have qb : k0_pay2 (F := Ideal) (ix2 (b.castLE (by decide)) 0) = 1 := q1 b _
  unfold k0_pay3 unit dense mean fifty eps
  generalize k0_pay2 (F := Ideal) = q at *
  pointwise
  simp only [q1, q0, qb, mul_one, mul_zero, Finset.sum_const_zero, add_zero, Fin.val_castLE, hb, dif_pos]

/-- The second layer with the logistic function, at a graph's row and the first column. -/
theorem pay4_apply (z : Vec Ideal S56x512 .f32) (be : Vec Ideal S1x512 .f32) (w : Vec Ideal S512x128 .f32) (bb g bl : Vec Ideal S1x128 .f32) (b : Fin 50) :
    k0_pay4 (F := Ideal) (k0_pay2 (F := Ideal)) z be w bb g bl (ix2 (b.castLE (by decide)) 0)
      = second (fun b k => z (ix2 (b.castLE (by decide)) k) + be (ix2 0 k)) (fun k => w (ix2 k 0)) (bb (ix2 0 0)) (g (ix2 0 0)) (bl (ix2 0 0)) b := by
  have s : ∀ t : Fin 56 → EReal, (∑ r, t r * k0_pay2 (F := Ideal) (ix2 r 0)) = ∑ b : Fin 50, t (b.castLE (by decide)) := fun t => by
    simp only [pay2_apply]
    rw [Fin.sum_univ_add (a := 50) (b := 6) (f := fun r : Fin 56 => t r * if r.val < 50 then 1 else 0)]
    simp
    rfl
  generalize k0_pay2 (F := Ideal) = q at *
  unfold k0_pay4 second unit dense mean fifty eps
  pointwise
  simp only [s]

end Cert.Kernel2Ideal.Head

end
-- ==== Proof.HeadRun.lean ====
/- The head's run: its result is the first column of the kernel's array, and the kernel's blocks are the arguments, reshaped
   or padded by the host. -/
module
public import proofs.«01_k».proof.Proof.HeadBody
public import Idealize.ShloMosaic.Lib.Claim
public import Idealize.ShloMosaic.Lib.Pipeline.ValueKit
public import Idealize.ShloMosaic.Lib.StableHlo.ReadAt
@[expose] public section
set_option maxRecDepth 16384
noncomputable section
namespace Cert.Kernel2Ideal.Head
open Cert.Kernel2Ideal Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The first column of the kernel's array, at the graphs' rows. -/
def result (c : Dev nD) : Vec F S50 .f32 := fun i => ((dats m 0 c).arrAt 13 cfg0.N : Vec F S56x128 .f32) (ix2 ((i 0).castLE (by decide)) 0)

/-- The program's result is the first column of the kernel's array, at the graphs' rows. -/
theorem tail (c : Dev nD) : Pipeline.afterTail₀ cfgs (dats m) 0 (V0 m) [hostOps1] c main_v16 = result m c := by
  funext i
  idx_vars i
  unfold result Pipeline.afterTail₀
  generalize dats m = d
  dsimp only [hostOps1, List.flatten, List.append]
  after_reads_at
  exact congrFun (Pipeline.withArrays_arr (cfgs 0).spec (by decide +kernel) c (V0 m c) (fun w => (d 0 c).arrAt w (cfgs 0).N) 13) _

/-- The head's run: the result, and the arguments left as they were. -/
theorem run : θ_run defs (onTc (τ := τ) (main (F := F))) ⟨m, fun _ => 0, ρ⟩ fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  run_from Gen.run_main m ρ
  · exact tail m c
  · exact W_main_arg0 m (dats m) c
  · exact W_main_arg1 m (dats m) c
  · exact W_main_arg3 m (dats m) c
  · exact W_main_arg4 m (dats m) c
  · exact W_main_arg6 m (dats m) c
  · exact W_main_arg7 m (dats m) c
  · exact W_main_arg8 m (dats m) c
  · exact W_main_arg9 m (dats m) c
  · exact W_main_arg10 m (dats m) c
  · exact W_main_arg11 m (dats m) c
  · exact W_main_arg12 m (dats m) c

/-- Every window's block is its whole array. -/
theorem idxs : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0] := by
  decide +kernel

variable (c : Dev nD) (t : Fin cfg0.N)

/-! ### The blocks are the arrays -/

theorem whole0 : (iblk m c 0 t : Vec F S6400x512 .f32) = V m c main_v1 := by
  funext y
  blk_ext [iblk, (idxs t).1]

theorem whole1 : (iblk m c 1 t : Vec F S6400x8 .f32) = V m c main_v2 := by
  funext y
  blk_ext [iblk, (idxs t).2.1]

theorem whole2 : (iblk m c 2 t : Vec F S8x512 .f32) = V m c main_arg2 := by
  funext y
  blk_ext [iblk, (idxs t).2.2.1]

theorem whole3 : (iblk m c 3 t : Vec F S1x512 .f32) = V m c main_v3 := by
  funext y
  blk_ext [iblk, (idxs t).2.2.2.1]

theorem whole4 : (iblk m c 4 t : Vec F S1x512 .f32) = V m c main_v4 := by
  funext y
  blk_ext [iblk, (idxs t).2.2.2.2.1]

theorem whole5 : (iblk m c 5 t : Vec F S512x512 .f32) = V m c main_arg5 := by
  funext y
  blk_ext [iblk, (idxs t).2.2.2.2.2.1]

theorem whole6 : (iblk m c 6 t : Vec F S1x512 .f32) = V m c main_v5 := by
  funext y
  blk_ext [iblk, (idxs t).2.2.2.2.2.2.1]

theorem whole7 : (iblk m c 7 t : Vec F S1x512 .f32) = V m c main_v6 := by
  funext y
  blk_ext [iblk, (idxs t).2.2.2.2.2.2.2.1]

theorem whole8 : (iblk m c 8 t : Vec F S1x512 .f32) = V m c main_v7 := by
  funext y
  blk_ext [iblk, (idxs t).2.2.2.2.2.2.2.2.1]

theorem whole9 : (iblk m c 9 t : Vec F S512x128 .f32) = V m c main_v0 := by
  funext y
  blk_ext [iblk, (idxs t).2.2.2.2.2.2.2.2.2.1]

theorem whole10 : (iblk m c 10 t : Vec F S1x128 .f32) = V m c main_v9 := by
  funext y
  blk_ext [iblk, (idxs t).2.2.2.2.2.2.2.2.2.2.1]

theorem whole11 : (iblk m c 11 t : Vec F S1x128 .f32) = V m c main_v11 := by
  funext y
  blk_ext [iblk, (idxs t).2.2.2.2.2.2.2.2.2.2.2.1]

theorem whole12 : (iblk m c 12 t : Vec F S1x128 .f32) = V m c main_v13 := by
  funext y
  blk_ext [iblk, (idxs t).2.2.2.2.2.2.2.2.2.2.2.2.1]

/-! ### What the host leaves in the arrays -/

theorem sums (b : Fin 50) (i : Fin 128) (f : Fin 512) : (V m c main_v1 : Vec F S6400x512 .f32) (ix2 ⟨b.val * 128 + i.val, by omega⟩ f) = (m ((c : Thread nD τ).loc main_arg0) : Vec F S50x128x512 .f32) (ix3 b i f) := by
  unfold V V0
  dsimp only [hostOps0, hostOps0_1, hostOps0_2, hostOps0_3, hostOps0_4, hostOps0_5, hostOps0_6, hostOps0_7, List.flatten, List.append]
  after_reads_at

theorem counts (b : Fin 50) (i : Fin 128) : (V m c main_v2 : Vec F S6400x8 .f32) (ix2 ⟨b.val * 128 + i.val, by omega⟩ 0) = (m ((c : Thread nD τ).loc main_arg1) : Vec F S50x128x8 .f32) (ix3 b i 0) := by
  unfold V V0
  dsimp only [hostOps0, hostOps0_1, hostOps0_2, hostOps0_3, hostOps0_4, hostOps0_5, hostOps0_6, hostOps0_7, List.flatten, List.append]
  after_reads_at

theorem stats : V m c main_arg2 = m ((c : Thread nD τ).loc main_arg2) := by
  funext y
  blk_ext [V]

theorem weights : V m c main_arg5 = m ((c : Thread nD τ).loc main_arg5) := by
  funext y
  blk_ext [V]

theorem scale (f : Fin 512) : (V m c main_v3 : Vec F S1x512 .f32) (ix2 0 f) = (m ((c : Thread nD τ).loc main_arg3) : Vec F S512 .f32) (ix1 f) := by
  unfold V V0
  dsimp only [hostOps0, hostOps0_1, hostOps0_2, hostOps0_3, hostOps0_4, hostOps0_5, hostOps0_6, hostOps0_7, List.flatten, List.append]
  after_reads_at

theorem shift (f : Fin 512) : (V m c main_v4 : Vec F S1x512 .f32) (ix2 0 f) = (m ((c : Thread nD τ).loc main_arg4) : Vec F S512 .f32) (ix1 f) := by
  unfold V V0
  dsimp only [hostOps0, hostOps0_1, hostOps0_2, hostOps0_3, hostOps0_4, hostOps0_5, hostOps0_6, hostOps0_7, List.flatten, List.append]
  after_reads_at

theorem bias1 (f : Fin 512) : (V m c main_v5 : Vec F S1x512 .f32) (ix2 0 f) = (m ((c : Thread nD τ).loc main_arg6) : Vec F S512 .f32) (ix1 f) := by
  unfold V V0
  dsimp only [hostOps0, hostOps0_1, hostOps0_2, hostOps0_3, hostOps0_4, hostOps0_5, hostOps0_6, hostOps0_7, List.flatten, List.append]
  after_reads_at

theorem scale1 (f : Fin 512) : (V m c main_v6 : Vec F S1x512 .f32) (ix2 0 f) = (m ((c : Thread nD τ).loc main_arg7) : Vec F S512 .f32) (ix1 f) := by
  unfold V V0
  dsimp only [hostOps0, hostOps0_1, hostOps0_2, hostOps0_3, hostOps0_4, hostOps0_5, hostOps0_6, hostOps0_7, List.flatten, List.append]
  after_reads_at

theorem shift1 (f : Fin 512) : (V m c main_v7 : Vec F S1x512 .f32) (ix2 0 f) = (m ((c : Thread nD τ).loc main_arg8) : Vec F S512 .f32) (ix1 f) := by
  unfold V V0
  dsimp only [hostOps0, hostOps0_1, hostOps0_2, hostOps0_3, hostOps0_4, hostOps0_5, hostOps0_6, hostOps0_7, List.flatten, List.append]
  after_reads_at

theorem weights2 (k : Fin 512) : (V m c main_v0 : Vec F S512x128 .f32) (ix2 k 0) = (m ((c : Thread nD τ).loc main_arg9) : Vec F S512x1 .f32) (ix2 k 0) := by
  unfold V V0
  dsimp only [hostOps0, hostOps0_1, hostOps0_2, hostOps0_3, hostOps0_4, hostOps0_5, hostOps0_6, hostOps0_7, List.flatten, List.append]
  after_reads_at

theorem bias2 : (V m c main_v9 : Vec F S1x128 .f32) (ix2 0 0) = (m ((c : Thread nD τ).loc main_arg10) : Vec F S1 .f32) (ix1 0) := by
  unfold V V0
  dsimp only [hostOps0, hostOps0_1, hostOps0_2, hostOps0_3, hostOps0_4, hostOps0_5, hostOps0_6, hostOps0_7, List.flatten, List.append]
  after_reads_at

theorem scale2 : (V m c main_v11 : Vec F S1x128 .f32) (ix2 0 0) = (m ((c : Thread nD τ).loc main_arg11) : Vec F S1 .f32) (ix1 0) := by
  unfold V V0
  dsimp only [hostOps0, hostOps0_1, hostOps0_2, hostOps0_3, hostOps0_4, hostOps0_5, hostOps0_6, hostOps0_7, List.flatten, List.append]
  after_reads_at

theorem shift2 : (V m c main_v13 : Vec F S1x128 .f32) (ix2 0 0) = (m ((c : Thread nD τ).loc main_arg12) : Vec F S1 .f32) (ix1 0) := by
  unfold V V0
  dsimp only [hostOps0, hostOps0_1, hostOps0_2, hostOps0_3, hostOps0_4, hostOps0_5, hostOps0_6, hostOps0_7, List.flatten, List.append]
  after_reads_at

end Cert.Kernel2Ideal.Head

end
-- ==== Proof.HeadValue.lean ====
/- The head's kernel as one formula: the value its run leaves, from the arguments. -/
module

public import proofs.«01_k».proof.Proof.HeadRun

@[expose] public section

set_option maxRecDepth 16384

noncomputable section

namespace Cert.Kernel2Ideal.Head

open Cert.Kernel2Ideal Gen Cert.Dense
open Idealize.ShloMosaic Idealize.ShloMosaic.TcCoe Idealize.SL.Sem

/-- A load of one row of the batch norm sums. -/
theorem ld_row {F : FTy → Type} [FloatOps F] (st : Vec F S8x512 .f32) (r : ℕ)
    (inb : ∀ a, (![r, 0] : Fin 2 → ℕ) a + S1x512.size a ≤ S8x512.size a) (f : Fin 512) :
    View.ld (Val := Elt F) (e' := .f32) st (Rect.unit (s := S8x512) ![r, 0] S1x512.size inb) (ix2 0 f) = st (ix2 ⟨r, inb 0⟩ f) := by
  unfold View.ld
  pointwise

/-- The kernel's block at a graph's row, from its input blocks. -/
theorem out_apply (x0 : Vec Ideal S6400x512 .f32) (x1 : Vec Ideal S6400x8 .f32) (x2 : Vec Ideal S8x512 .f32) (x3 x4 : Vec Ideal S1x512 .f32)
    (x5 : Vec Ideal S512x512 .f32) (x6 x7 x8 : Vec Ideal S1x512 .f32) (x9 : Vec Ideal S512x128 .f32) (x10 x11 x12 : Vec Ideal S1x128 .f32) (b : Fin 50) :
    out0_13 x0 x1 x2 x3 x4 x5 x6 x7 x8 x9 x10 x11 x12 (ix2 (b.castLE (by decide)) 0)
      = head (fun b i f => node (x2 (ix2 0 f)) (x2 (ix2 1 f)) (x2 (ix2 2 f)) (x3 (ix2 0 f)) (x4 (ix2 0 f))
            (x1 (ix2 ⟨b.val * 128 + i.val, by omega⟩ 0)) (x0 (ix2 ⟨b.val * 128 + i.val, by omega⟩ f)))
          (fun i k => x5 (ix2 i k)) (fun k => x6 (ix2 0 k)) (fun k => x7 (ix2 0 k)) (fun k => x8 (ix2 0 k))
          (fun k => x9 (ix2 k 0)) (x10 (ix2 0 0)) (x11 (ix2 0 0)) (x12 (ix2 0 0)) b := by
  unfold out0_13
  simp (disch := decide) only [View.canon_cons_unit_lit', View.ld_unit_lit']
  rw [pay4_apply]
  refine congrArg (fun h => second h _ _ _ _ b) (funext fun b => funext fun k => congrArg (· + _) ((pay3_apply _ _ _ _ _ b k).trans ?_))
  refine congrArg (fun h => unit (dense h _ _) b * _) (funext fun b => funext fun f => congrArg (Ideal.div · _) ((pay1_apply _ _ _ _ _ _ _ b f).trans ?_))
  rw [ld_row, ld_row, ld_row]
  rfl

variable (m : (ℓ : Loc nD τ sig) → Buf (Elt Ideal) ℓ) (c : Dev nD)

/-- The kernel's array is what its one point leaves. -/
theorem arr13 : ((dats m 0 c).arrAt 13 cfg0.N : Vec Ideal S56x128 .f32) = (dats m 0 c).after 13 t0_0 := by
  refine (dats m 0 c).arrAt_eq_of_after_last 13 t0_0 (by decide +kernel) _ fun y => ?_
  blk_simp

/-- The node's feature as the kernel forms it, from the arguments. -/
def feature (b : Fin 50) (i : Fin 128) (f : Fin 512) : EReal :=
  node ((m ((c : Thread nD τ).loc main_arg2) : FVec Ideal S8x512 .f32) (ix2 0 f)) ((m ((c : Thread nD τ).loc main_arg2) : FVec Ideal S8x512 .f32) (ix2 1 f))
    ((m ((c : Thread nD τ).loc main_arg2) : FVec Ideal S8x512 .f32) (ix2 2 f)) ((m ((c : Thread nD τ).loc main_arg3) : FVec Ideal S512 .f32) (ix1 f))
    ((m ((c : Thread nD τ).loc main_arg4) : FVec Ideal S512 .f32) (ix1 f)) ((m ((c : Thread nD τ).loc main_arg1) : FVec Ideal S50x128x8 .f32) (ix3 b i 0))
    ((m ((c : Thread nD τ).loc main_arg0) : FVec Ideal S50x128x512 .f32) (ix3 b i f))

/-- The head's result for a graph, from the arguments. -/
theorem result_apply (b : Fin 50) : result m c (ix1 b)
    = head (feature m c) (fun i k => (m ((c : Thread nD τ).loc main_arg5) : FVec Ideal S512x512 .f32) (ix2 i k))
        (fun k => (m ((c : Thread nD τ).loc main_arg6) : FVec Ideal S512 .f32) (ix1 k)) (fun k => (m ((c : Thread nD τ).loc main_arg7) : FVec Ideal S512 .f32) (ix1 k))
        (fun k => (m ((c : Thread nD τ).loc main_arg8) : FVec Ideal S512 .f32) (ix1 k)) (fun k => (m ((c : Thread nD τ).loc main_arg9) : FVec Ideal S512x1 .f32) (ix2 k 0))
        ((m ((c : Thread nD τ).loc main_arg10) : FVec Ideal S1 .f32) (ix1 0)) ((m ((c : Thread nD τ).loc main_arg11) : FVec Ideal S1 .f32) (ix1 0))
        ((m ((c : Thread nD τ).loc main_arg12) : FVec Ideal S1 .f32) (ix1 0)) b := by
  unfold result
  rw [arr13, after0_13, whole0, whole1, whole2, whole3, whole4, whole5, whole6, whole7, whole8, whole9, whole10, whole11, whole12]
  refine (out_apply _ _ _ _ _ _ _ _ _ _ _ _ _ b).trans ?_
  rw [bias2 m c, scale2 m c, shift2 m c, stats, weights]
  congr 1
  · funext b i f
    unfold feature
    rw [scale m c, shift m c, counts m c, sums m c]
  · exact funext (bias1 m c)
  · exact funext (scale1 m c)
  · exact funext (shift1 m c)
  · exact funext (weights2 m c)

end Cert.Kernel2Ideal.Head

end
-- ==== Proof.HeadRef.lean ====
/- The head's reference as the same formula: the batch norm, the mean over each graph's nodes and the two dense layers. -/
module

public import proofs.«01_k».proof.Proof.Gen.Reference2Ideal.Run
public import proofs.«01_k».proof.Proof.Dense
public import Idealize.ShloMosaic.Lib.Pointwise

@[expose] public section

set_option maxRecDepth 16384

noncomputable section

namespace Cert.Reference2Ideal.Head

open Cert.Reference2Ideal Gen Value Cert.Dense
open Idealize.ShloMosaic Idealize.ShloMosaic.TcCoe Idealize.SL.Sem

variable (V : Valuation τ sig (Elt Ideal))

/-- The node's feature as the reference forms it. -/
def node (s0 s1 s2 g be n s : EReal) : EReal :=
  Ideal.div (Ideal.div (s - n * Ideal.div s0 (max s2 1))
      (Ideal.sqrt (Ideal.div s1 (max s2 1) - Ideal.div s0 (max s2 1) * Ideal.div s0 (max s2 1) + Ideal.ofBits FTy.f32 925353388#32)) * g
      + n * be) (max n 1)

/-- The node's feature, from the arguments. -/
def feature (b : Fin 50) (i : Fin 128) (f : Fin 512) : EReal :=
  node ((V (Proc.devRef .tc main_arg2) : FVec Ideal S8x512 .f32) (ix2 0 f)) ((V (Proc.devRef .tc main_arg2) : FVec Ideal S8x512 .f32) (ix2 1 f)) ((V (Proc.devRef .tc main_arg2) : FVec Ideal S8x512 .f32) (ix2 2 f))
    ((V (Proc.devRef .tc main_arg3) : FVec Ideal S512 .f32) (ix1 f)) ((V (Proc.devRef .tc main_arg4) : FVec Ideal S512 .f32) (ix1 f)) ((V (Proc.devRef .tc main_arg1) : FVec Ideal S50x128x8 .f32) (ix3 b i 0)) ((V (Proc.devRef .tc main_arg0) : FVec Ideal S50x128x512 .f32) (ix3 b i f))

/-- The first layer before its batch norm. -/
theorem layer1 (b : Fin 50) (k : Fin 512) : (res_main_v43 V : FVec Ideal S50x512 .f32) (ix2 b k)
    = dense (fun b f => Ideal.div (∑ i, feature V b i f) nodes) (fun i => (V (Proc.devRef .tc main_arg5) : FVec Ideal S512x512 .f32) (ix2 i k)) ((V (Proc.devRef .tc main_arg6) : FVec Ideal S512 .f32) (ix1 k)) b := by
  unfold dense feature node nodes
  pointwise [res_main_v43, res_main_v7, res_main_v4, res_main_v0]

/-- The first layer with its batch norm. -/
def hidden : Fin 50 → Fin 512 → EReal :=
  first (fun b f => Ideal.div (∑ i, feature V b i f) nodes) (fun i k => (V (Proc.devRef .tc main_arg5) : FVec Ideal S512x512 .f32) (ix2 i k)) (fun k => (V (Proc.devRef .tc main_arg6) : FVec Ideal S512 .f32) (ix1 k))
    (fun k => (V (Proc.devRef .tc main_arg7) : FVec Ideal S512 .f32) (ix1 k)) (fun k => (V (Proc.devRef .tc main_arg8) : FVec Ideal S512 .f32) (ix1 k))

/-- The second layer before its batch norm. -/
theorem layer2 (b : Fin 50) : (res_main_v73 V : FVec Ideal S50x1 .f32) (ix2 b 0)
    = dense (hidden V) (fun k => (V (Proc.devRef .tc main_arg9) : FVec Ideal S512x1 .f32) (ix2 k 0)) ((V (Proc.devRef .tc main_arg10) : FVec Ideal S1 .f32) (ix1 0)) b := by
  have e := layer1 V
  unfold dense hidden first unit mean fifty eps
  pointwise [res_main_v73, res_main_v46, res_main_v49]
  simp only [e]

/-- The reference's result. -/
def result : FVec Ideal S50 .f32 :=
  shapeCast _ (Host.divf (broadcastInDim S50x1 ![] bcast_S_S50x1 (constant S_ .f32 0x3F800000#32)) (addf (broadcastInDim S50x1 ![] bcast_S_S50x1 (constant S_ .f32 0x3F800000#32)) (Host.exp (Host.negf (addf (mulf (Host.divf (subf (res_main_v73 V) (broadcastInDim S50x1 ![0, 1] bcast_S1x1_S50x1_0_1 (broadcastInDim S1x1 ![1] bcast_S1_S1x1_1 (res_main_v76 V)))) (broadcastInDim S50x1 ![0, 1] bcast_S1x1_S50x1_0_1 (broadcastInDim S1x1 ![1] bcast_S1_S1x1_1 (Host.sqrt (addf (Host.divf (Host.reduceAdd (mulf (res_main_v79 V) (res_main_v79 V)) (constant S_ .f32 0x00000000#32) reducesTo_S50x1_S1_d0 h_S_) (broadcastInDim S1 ![] bcast_S_S1 (constant S_ .f32 0x42480000#32))) (broadcastInDim S1 ![] bcast_S_S1 (constant S_ .f32 0x3727C5AC#32))))))) (broadcastInDim S50x1 ![0, 1] bcast_S1x1_S50x1_0_1 (broadcastInDim S1x1 ![1] bcast_S1_S1x1_1 (V (Proc.devRef .tc main_arg11))))) (broadcastInDim S50x1 ![0, 1] bcast_S1x1_S50x1_0_1 (broadcastInDim S1x1 ![1] bcast_S1_S1x1_1 (V (Proc.devRef .tc main_arg12))))))))) shapeCasts_S50x1_S50

/-- The reference's result for a graph. -/
theorem result_apply (b : Fin 50) : result V (ix1 b)
    = head (feature V) (fun i k => (V (Proc.devRef .tc main_arg5) : FVec Ideal S512x512 .f32) (ix2 i k)) (fun k => (V (Proc.devRef .tc main_arg6) : FVec Ideal S512 .f32) (ix1 k)) (fun k => (V (Proc.devRef .tc main_arg7) : FVec Ideal S512 .f32) (ix1 k)) (fun k => (V (Proc.devRef .tc main_arg8) : FVec Ideal S512 .f32) (ix1 k))
        (fun k => (V (Proc.devRef .tc main_arg9) : FVec Ideal S512x1 .f32) (ix2 k 0)) ((V (Proc.devRef .tc main_arg10) : FVec Ideal S1 .f32) (ix1 0)) ((V (Proc.devRef .tc main_arg11) : FVec Ideal S1 .f32) (ix1 0)) ((V (Proc.devRef .tc main_arg12) : FVec Ideal S1 .f32) (ix1 0)) b := by
  have e := layer2 V
  unfold head second unit mean fifty eps result
  pointwise [res_main_v76, res_main_v79]
  simp only [e]
  rfl

end Cert.Reference2Ideal.Head

end
-- ==== Proof.HeadPre.lean ====
/- What the precondition `head_ok` of the statement says of the arguments, read off its printed form. -/
module

public import proofs.«01_k».proof.Pre_head_ok
public import proofs.«01_k».proof.Proof.Truth

@[expose] public section

noncomputable section

namespace Cert.Pre_head_ok

open Idealize.ShloMosaic
open Cert.Truth (real_of_lt le_of_cmp eq_of_cmp)

/-- Every side condition the printed predicate states. -/
instance facts : Facts where
  slices_S50x128x8_S50x128x1_0_0_0 := by decide
  shapeCasts_S50x128x1_S50x128 := by decide
  slices_S8x512_S3x512_0_0 := by decide
  bcast_S_S50x128x512 := by decide
  reducesTo_S50x128x512_S_d0_1_2 := by decide
  h_S_ := by decide
  bcast_S_S50x128 := by decide
  reducesTo_S50x128_S_d0_1 := by decide
  bcast_S_S3x512 := by decide
  reducesTo_S3x512_S_d0_1 := by decide
  bcast_S_S512 := by decide
  reducesTo_S512_S_d0 := by decide
  slices_S3x512_S1x512_1_0 := by decide
  shapeCasts_S1x512_S512 := by decide
  slices_S3x512_S1x512_2_0 := by decide
  slices_S3x512_S1x512_0_0 := by decide

variable {a0 : FVec Ideal S50x128x512 .f32} {a1 : FVec Ideal S50x128x8 .f32} {a2 : FVec Ideal S8x512 .f32} {a3 a4 : FVec Ideal S512 .f32}
  {a5 : FVec Ideal S512x512 .f32} {a6 a7 a8 : FVec Ideal S512 .f32} {a9 : FVec Ideal S512x1 .f32} {a10 a11 a12 : FVec Ideal S1 .f32}

/-- What the precondition says of the arguments: the sums, the counts, the three rows of statistics, the scale and the
    shift are finite; a count is zero or at least one; the variance is not negative. -/
structure Ok (a0 : FVec Ideal S50x128x512 .f32) (a1 : FVec Ideal S50x128x8 .f32) (a2 : FVec Ideal S8x512 .f32) (a3 a4 : FVec Ideal S512 .f32) : Prop where
  sums : ∀ b i f, ∃ r : ℝ, a0 (ix3 b i f) = (r : EReal)
  counts : ∀ b i, ∃ r : ℝ, a1 (ix3 b i 0) = (r : EReal)
  stats : ∀ (r : Fin 3) f, ∃ x : ℝ, a2 (ix2 (r.castLE (by decide)) f) = (x : EReal)
  scale : ∀ f, ∃ r : ℝ, a3 (ix1 f) = (r : EReal)
  shift : ∀ f, ∃ r : ℝ, a4 (ix1 f) = (r : EReal)
  whole : ∀ b i, a1 (ix3 b i 0) = 0 ∨ 1 ≤ a1 (ix3 b i 0)
  vars : ∀ f, a2 (ix2 0 f) * a2 (ix2 0 f) ≤ a2 (ix2 1 f) * max (a2 (ix2 2 f)) 1

/-- The precondition, where it holds, says all of that. -/
theorem read (h : fn (F := Ideal) a0 a1 a2 a3 a4 a5 a6 a7 a8 a9 a10 a11 a12 = fun _ => 1#1) : Ok a0 a1 a2 a3 a4 := by
  have h0 := congrFun h ix0
  unfold fn fn_part1 fn_part2 at h0
  dsimp only [andi] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e1, e2⟩ := IntOp.andi_eq_one.1 h0
  have f1 := fun (b : Fin 50) (i : Fin 128) (f : Fin 512) => Host.reduce_andi_all _ _ _ _ _ e1 (ix3 b i f)
  have f2 := fun (b : Fin 50) (i : Fin 128) => Host.reduce_andi_all _ _ _ _ _ e2 (ix2 b i)
  have f3 := fun (r : Fin 3) (f : Fin 512) => Host.reduce_andi_all _ _ _ _ _ e3 (ix2 r f)
  have f4 := fun (f : Fin 512) => Host.reduce_andi_all _ _ _ _ _ e4 (ix1 f)
  have f5 := fun (f : Fin 512) => Host.reduce_andi_all _ _ _ _ _ e5 (ix1 f)
  have f6 := fun (b : Fin 50) (i : Fin 128) => Host.reduce_andi_all _ _ _ _ _ e6 (ix2 b i)
  have f7 := fun (f : Fin 512) => Host.reduce_andi_all _ _ _ _ _ e7 (ix1 f)
  clear e1 e2 e3 e4 e5 e6 e7 h0 h
  have slice1 : ∀ b i, shapeCast S50x128 (extractStridedSlice S50x128x1 ![0, 0, 0] a1 facts.slices_S50x128x8_S50x128x1_0_0_0)
      facts.shapeCasts_S50x128x1_S50x128 (ix2 b i) = a1 (ix3 b i 0) := by
    intro b i; pointwise []
  refine ⟨fun b i f => real_of_lt (f1 b i f), fun b i => ?_, fun r f => ?_, fun f => real_of_lt (f4 f), fun f => real_of_lt (f5 f), fun b i => ?_, fun f => ?_⟩
  · have := f2 b i
    exact real_of_lt ((by rw [← slice1 b i]; exact this))
  · have s : extractStridedSlice S3x512 ![0, 0] a2 facts.slices_S8x512_S3x512_0_0 (ix2 r f) = a2 (ix2 (r.castLE (by decide)) f) := by
      pointwise []
      rfl
    exact real_of_lt (by rw [← s]; exact f3 r f)
  · have := f6 b i
    rcases IntOp.ori_eq_one.1 this with h | h
    · left
      have := eq_of_cmp h
      rw [slice1 b i] at this
      rw [this]; pointwise []
    · right
      have := le_of_cmp h
      rw [slice1 b i] at this
      refine le_trans (le_of_eq ?_) this
      pointwise []
  · have := le_of_cmp (f7 f)
    refine le_trans (le_of_eq ?_) (le_trans this (le_of_eq ?_))
    · pointwise []
    · pointwise []

end Cert.Pre_head_ok

end
-- ==== Proof.HeadJoin.lean ====
/- The head on both sides: under the precondition the two orders of operations give the same node features, so the results
   are equal. -/
module

public import proofs.«01_k».proof.Proof.HeadValue
public import proofs.«01_k».proof.Proof.HeadRef
public import proofs.«01_k».proof.Proof.HeadPre
public import proofs.«01_k».proof.Proof.Norm

@[expose] public section

set_option maxRecDepth 16384

noncomputable section

namespace Cert.HeadJoin

open Idealize.ShloMosaic Idealize.SL.Sem

variable (m : (ℓ : Loc Cert.Kernel2Ideal.nD Cert.Kernel2Ideal.τ Cert.Kernel2Ideal.sig) → Buf (Elt Ideal) ℓ) (c : Dev Cert.Kernel2Ideal.nD)
variable (V : Valuation Cert.Reference2Ideal.τ Cert.Reference2Ideal.sig (Elt Ideal))

/-- The reference's arguments are the kernel's. -/
structure Same : Prop where
  a0 : (V (Proc.devRef .tc Cert.Reference2Ideal.main_arg0) : FVec Ideal ⟨3, ![50, 128, 512]⟩ .f32) = m ((c.tc : Thread Cert.Kernel2Ideal.nD Cert.Kernel2Ideal.τ).loc Cert.Kernel2Ideal.main_arg0)
  a1 : (V (Proc.devRef .tc Cert.Reference2Ideal.main_arg1) : FVec Ideal ⟨3, ![50, 128, 8]⟩ .f32) = m ((c.tc : Thread Cert.Kernel2Ideal.nD Cert.Kernel2Ideal.τ).loc Cert.Kernel2Ideal.main_arg1)
  a2 : (V (Proc.devRef .tc Cert.Reference2Ideal.main_arg2) : FVec Ideal ⟨2, ![8, 512]⟩ .f32) = m ((c.tc : Thread Cert.Kernel2Ideal.nD Cert.Kernel2Ideal.τ).loc Cert.Kernel2Ideal.main_arg2)
  a3 : (V (Proc.devRef .tc Cert.Reference2Ideal.main_arg3) : FVec Ideal ⟨1, ![512]⟩ .f32) = m ((c.tc : Thread Cert.Kernel2Ideal.nD Cert.Kernel2Ideal.τ).loc Cert.Kernel2Ideal.main_arg3)
  a4 : (V (Proc.devRef .tc Cert.Reference2Ideal.main_arg4) : FVec Ideal ⟨1, ![512]⟩ .f32) = m ((c.tc : Thread Cert.Kernel2Ideal.nD Cert.Kernel2Ideal.τ).loc Cert.Kernel2Ideal.main_arg4)
  a5 : (V (Proc.devRef .tc Cert.Reference2Ideal.main_arg5) : FVec Ideal ⟨2, ![512, 512]⟩ .f32) = m ((c.tc : Thread Cert.Kernel2Ideal.nD Cert.Kernel2Ideal.τ).loc Cert.Kernel2Ideal.main_arg5)
  a6 : (V (Proc.devRef .tc Cert.Reference2Ideal.main_arg6) : FVec Ideal ⟨1, ![512]⟩ .f32) = m ((c.tc : Thread Cert.Kernel2Ideal.nD Cert.Kernel2Ideal.τ).loc Cert.Kernel2Ideal.main_arg6)
  a7 : (V (Proc.devRef .tc Cert.Reference2Ideal.main_arg7) : FVec Ideal ⟨1, ![512]⟩ .f32) = m ((c.tc : Thread Cert.Kernel2Ideal.nD Cert.Kernel2Ideal.τ).loc Cert.Kernel2Ideal.main_arg7)
  a8 : (V (Proc.devRef .tc Cert.Reference2Ideal.main_arg8) : FVec Ideal ⟨1, ![512]⟩ .f32) = m ((c.tc : Thread Cert.Kernel2Ideal.nD Cert.Kernel2Ideal.τ).loc Cert.Kernel2Ideal.main_arg8)
  a9 : (V (Proc.devRef .tc Cert.Reference2Ideal.main_arg9) : FVec Ideal ⟨2, ![512, 1]⟩ .f32) = m ((c.tc : Thread Cert.Kernel2Ideal.nD Cert.Kernel2Ideal.τ).loc Cert.Kernel2Ideal.main_arg9)
  a10 : (V (Proc.devRef .tc Cert.Reference2Ideal.main_arg10) : FVec Ideal ⟨1, ![1]⟩ .f32) = m ((c.tc : Thread Cert.Kernel2Ideal.nD Cert.Kernel2Ideal.τ).loc Cert.Kernel2Ideal.main_arg10)
  a11 : (V (Proc.devRef .tc Cert.Reference2Ideal.main_arg11) : FVec Ideal ⟨1, ![1]⟩ .f32) = m ((c.tc : Thread Cert.Kernel2Ideal.nD Cert.Kernel2Ideal.τ).loc Cert.Kernel2Ideal.main_arg11)
  a12 : (V (Proc.devRef .tc Cert.Reference2Ideal.main_arg12) : FVec Ideal ⟨1, ![1]⟩ .f32) = m ((c.tc : Thread Cert.Kernel2Ideal.nD Cert.Kernel2Ideal.τ).loc Cert.Kernel2Ideal.main_arg12)

/-- The precondition, on the kernel's arguments. -/
abbrev Good : Prop := Cert.Pre_head_ok.Ok (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
  (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))
  (m ((c.tc : Thread Cert.Kernel2Ideal.nD Cert.Kernel2Ideal.τ).loc Cert.Kernel2Ideal.main_arg4))

/-- The two orders of operations, where the arguments are those of the precondition. -/
theorem node_eq {s0 s1 s2 g be n s : EReal} (h0 : ∃ r : ℝ, s0 = r) (h1 : ∃ r : ℝ, s1 = r) (h2 : ∃ r : ℝ, s2 = r) (hg : ∃ r : ℝ, g = r)
    (hb : ∃ r : ℝ, be = r) (hn : ∃ r : ℝ, n = r) (hs : ∃ r : ℝ, s = r) (hw : n = 0 ∨ 1 ≤ n) (hv : s0 * s0 ≤ s1 * max s2 1) :
    Cert.Kernel2Ideal.Head.node s0 s1 s2 g be n s = Cert.Reference2Ideal.Head.node s0 s1 s2 g be n s := by
  obtain ⟨s0, rfl⟩ := h0
  obtain ⟨s1, rfl⟩ := h1
  obtain ⟨s2, rfl⟩ := h2
  obtain ⟨g, rfl⟩ := hg
  obtain ⟨be, rfl⟩ := hb
  obtain ⟨n, rfl⟩ := hn
  obtain ⟨s, rfl⟩ := hs
  rw [Norm.max_one, ← EReal.coe_mul, ← EReal.coe_mul, EReal.coe_le_coe_iff] at hv
  have hw' : n = 0 ∨ 1 ≤ n := hw.imp (fun h => by exact_mod_cast h) fun h => by exact_mod_cast h
  obtain ⟨r, hr, hk⟩ := Norm.fold s0 s1 s2 g be s n _ Norm.eps_pos hv hw'
  exact hk.trans hr.symm

/-- The kernel's node features are the reference's. -/
theorem feature_eq (hV : Same m c V) (ok : Good m c) : Cert.Kernel2Ideal.Head.feature m c = Cert.Reference2Ideal.Head.feature V := by
  funext b i f
  unfold Cert.Kernel2Ideal.Head.feature Cert.Reference2Ideal.Head.feature
  rw [hV.a0, hV.a1, hV.a2, hV.a3, hV.a4]
  exact node_eq (ok.stats 0 f) (ok.stats 1 f) (ok.stats 2 f) (ok.scale f) (ok.shift f) (ok.counts b i) (ok.sums b i f) (ok.whole b i) (ok.vars f)

/-- The head's result is the reference's. -/
theorem result_eq (hV : Same m c V) (ok : Good m c) :
    (Cert.Reference2Ideal.Head.result V : FVec Ideal ⟨1, ![50]⟩ .f32) = Cert.Kernel2Ideal.Head.result m c := by
  funext i
  idx_vars i
  refine (Cert.Reference2Ideal.Head.result_apply V _).trans ((Cert.Kernel2Ideal.Head.result_apply m c _).trans ?_).symm
  rw [feature_eq m c V hV ok, hV.a5, hV.a6, hV.a7, hV.a8, hV.a9, hV.a10, hV.a11, hV.a12]

end Cert.HeadJoin

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.KernelIdeal.Value
public import proofs.«01_k».proof.Proof.Gen.Kernel1
public import proofs.«01_k».proof.Proof.Gen.Kernel1.Skeleton
public import proofs.«01_k».proof.Proof.Gen.Kernel1.Launch
public import proofs.«01_k».proof.Proof.Gen.Kernel1.Points
public import proofs.«01_k».proof.Proof.Gen.Kernel1.Frame
public import proofs.«01_k».proof.Proof.Gen.Kernel1Ideal
public import proofs.«01_k».proof.Proof.Gen.Kernel1Ideal.Skeleton
public import proofs.«01_k».proof.Proof.Gen.Kernel1Ideal.Launch
public import proofs.«01_k».proof.Proof.Gen.Kernel1Ideal.Points
public import proofs.«01_k».proof.Proof.Gen.Kernel1Ideal.Frame
public import proofs.«01_k».proof.Proof.Gen.Kernel1Ideal.Value
public import proofs.«01_k».proof.Proof.Gen.Reference1Ideal
public import proofs.«01_k».proof.Proof.Gen.Reference1Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.ReferenceIdeal.Run
public import proofs.«01_k».proof.Proof.Results
public import proofs.«01_k».proof.Proof.Results1
public import proofs.«01_k».proof.Proof.NearResults
public import proofs.«01_k».proof.Proof.HeadJoin
public import Idealize.ShloMosaic.Adequacy
public import Idealize.ShloMosaic.Init

@[expose] public section

noncomputable section

namespace Cert.Proof

open Idealize.ShloMosaic Idealize.SL.Sem Cert.Kernel

/-- The reference runs, keeps its arguments and leaves every semaphore counter at zero: it declares no semaphore. -/
theorem frame_r : quiescent_ReferenceIdeal := fun m ρ _ =>
  (θ_run Cert.ReferenceIdeal.defs _ _).mono (fun r h => ⟨fun c => (h c).2.2.2.2.2, Idealize.ShloMosaic.sem_eq_zero_of_no_sems (by decide) r.2⟩)
    (Cert.ReferenceIdeal.Value.run (F := Ideal) m ρ)

/-- The two ideal programs end with equal results. -/
theorem algebraic : algebraic_KernelIdeal_ReferenceIdeal_pre_inputs_ok := by
  intro m ρ m' ρ' hpre hm
  have ok : ∀ c, Cert.Results.Good m c := fun c => Cert.Pre_inputs_ok.read (hpre c)
  have hV : ∀ c, Cert.Results.Same m c (StableHlo.launchContents m' c) := fun c => by
    obtain ⟨h0, h1, h2, h3, h4, h5, h6, h7, h8, h9⟩ := hm c
    unfold Cert.Results.Same Cert.ReferenceIdeal.Read.args Cert.KernelIdeal.Grid.args
    rw [Cert.Body.Args.mk.injEq]
    exact ⟨h0, h1, h2, h3, h4, h5, h6, h7, h8, h9⟩
  refine ⟨fun c => (Cert.KernelIdeal.Gen.dats m 0 c).arrAt 10 Cert.KernelIdeal.cfg0.N, fun c => (Cert.KernelIdeal.Gen.dats m 0 c).arrAt 11 Cert.KernelIdeal.cfg0.N,
    fun c => (Cert.KernelIdeal.Gen.dats m 0 c).arrAt 12 Cert.KernelIdeal.cfg0.N, fun c => (Cert.KernelIdeal.Gen.dats m 0 c).arrAt 13 Cert.KernelIdeal.cfg0.N,
    fun c => (Cert.KernelIdeal.Gen.dats m 0 c).arrAt 14 Cert.KernelIdeal.cfg0.N, Cert.KernelIdeal.Value.run_blocks m ρ, ?_⟩
  refine (θ_run _ _ _).mono (fun _ h c => ?_) (Cert.ReferenceIdeal.Value.run m' ρ')
  obtain ⟨r0, r1, r2, r3, r4, k⟩ := h c
  obtain ⟨e0, e1, e2, e3, e4⟩ := Cert.Results.results m c _ (hV c) (ok c)
  exact ⟨r0.trans e0, r1.trans e1, r2.trans e2, r3.trans e3, r4.trans e4, k⟩

/-- The head's reference runs, keeps its arguments and leaves every semaphore counter at zero: it declares no semaphore. -/
theorem frame_r2 : quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The two ideal programs of the head end with equal results. -/
theorem algebraic2 : algebraic_Kernel2Ideal_Reference2Ideal_pre_head_ok := by
  intro m ρ m' ρ' hpre hm
  have ok : ∀ c, Cert.HeadJoin.Good m c := fun c => Cert.Pre_head_ok.read (hpre c)
  have hV : ∀ c, Cert.HeadJoin.Same m c (StableHlo.launchContents m' c) := fun c =>
    let ⟨h0, h1, h2, h3, h4, h5, h6, h7, h8, h9, h10, h11, h12⟩ := hm c
    ⟨h0, h1, h2, h3, h4, h5, h6, h7, h8, h9, h10, h11, h12⟩
  refine ⟨fun c => Cert.Kernel2Ideal.Head.result m c, Cert.Kernel2Ideal.Head.run m ρ, ?_⟩
  refine (θ_run _ _ _).mono (fun _ h c => ?_) (Cert.Reference2Ideal.Value.run m' ρ')
  exact ⟨(h c).1.trans (Cert.HeadJoin.result_eq m c _ (hV c) (ok c)), (h c).2⟩

/-- The first pooling's reference runs, keeps its arguments and leaves every semaphore counter at zero: it declares no
    semaphore. -/
theorem frame_r1 : quiescent_Reference1Ideal := fun m ρ _ =>
  (θ_run Cert.Reference1Ideal.defs _ _).mono (fun r h => ⟨fun c => (h c).2.2.2.2.2, Idealize.ShloMosaic.sem_eq_zero_of_no_sems (by decide) r.2⟩)
    (Cert.Reference1Ideal.Value.run (F := Ideal) m ρ)

/-- The two ideal programs of the first pooling end with equal results. -/
theorem algebraic1 : algebraic_Kernel1Ideal_Reference1Ideal_pre_first_ok := by
  intro m ρ m' ρ' hpre hm
  have ok : ∀ c, Cert.Results1.Good m c := fun c => Cert.Pre_first_ok.read (hpre c)
  have hV : ∀ c, Cert.Results1.Same m c (StableHlo.launchContents m' c) := fun c => by
    obtain ⟨h0, h1, h2, h3, h4, h5, h6, h7, h8, h9⟩ := hm c
    unfold Cert.Results1.Same Cert.Reference1Ideal.Read.args Cert.Kernel1Ideal.Grid.args
    rw [Cert.Body.Args.mk.injEq]
    exact ⟨h0, h1, h2, h3, h4, h5, h6, h7, h8, h9⟩
  refine ⟨fun c => (Cert.Kernel1Ideal.Gen.dats m 0 c).arrAt 10 Cert.Kernel1Ideal.cfg0.N, fun c => (Cert.Kernel1Ideal.Gen.dats m 0 c).arrAt 11 Cert.Kernel1Ideal.cfg0.N,
    fun c => (Cert.Kernel1Ideal.Gen.dats m 0 c).arrAt 12 Cert.Kernel1Ideal.cfg0.N, fun c => (Cert.Kernel1Ideal.Gen.dats m 0 c).arrAt 13 Cert.Kernel1Ideal.cfg0.N,
    fun c => (Cert.Kernel1Ideal.Gen.dats m 0 c).arrAt 14 Cert.Kernel1Ideal.cfg0.N, Cert.Kernel1Ideal.Value.run_blocks m ρ, ?_⟩
  refine (θ_run _ _ _).mono (fun _ h c => ?_) (Cert.Reference1Ideal.Value.run m' ρ')
  obtain ⟨r0, r1, r2, r3, r4, k⟩ := h c
  obtain ⟨e0, e1, e2, e3, e4⟩ := Cert.Results1.results m c _ (hV c) (ok c)
  exact ⟨r0.trans e0, r1.trans e1, r2.trans e2, r3.trans e3, r4.trans e4, k⟩

theorem frame_r3 : quiescent_Reference3Ideal := fun m ρ _ =>
  (θ_run Cert.Reference3Ideal.defs _ _).mono (fun r h => ⟨fun c => (h c).2.2.2, Idealize.ShloMosaic.sem_eq_zero_of_no_sems (by decide) r.2⟩)
    (Cert.Reference3Ideal.Value.run (F := Ideal) m ρ)

/-- The two ideal programs of the first call end with equal results. -/
theorem algebraic3 : algebraic_Kernel3Ideal_Reference3Ideal_pre_near_ok := by
  intro m ρ m' ρ' hpre hm
  have ok : ∀ c, Cert.Nearest.Ok (Cert.Kernel3Ideal.NearSums.args m c) := fun c => Cert.Pre_near_ok.read (hpre c)
  refine ⟨fun c => (Cert.Kernel3Ideal.Gen.dats m 0 c).arrAt 4 Cert.Kernel3Ideal.cfg0.N, fun c => (Cert.Kernel3Ideal.Gen.dats m 0 c).arrAt 5 Cert.Kernel3Ideal.cfg0.N,
    fun c => (Cert.Kernel3Ideal.Gen.dats m 0 c).arrAt 6 Cert.Kernel3Ideal.cfg0.N, Cert.Kernel3Ideal.Value.run_blocks m ρ, ?_⟩
  refine (θ_run _ _ _).mono (fun _ h c => ?_) (Cert.Reference3Ideal.Value.run m' ρ')
  obtain ⟨r0, r1, r2, k⟩ := h c
  obtain ⟨h0, h1, h2, h3⟩ := hm c
  obtain ⟨e0, e1, e2⟩ := Cert.NearResults.results m c ⟨_, _, _, _⟩ ((Cert.Nearest.In.mk.injEq _ _ _ _ _ _ _ _).mpr ⟨h0, h1, h2, h3⟩) (ok c)
  exact ⟨r0.trans e0, r1.trans e1, r2.trans e2, k⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel1.Gen.facts, Cert.Kernel1Ideal.Gen.facts, Cert.Reference1Ideal.Gen.facts,
  Cert.Kernel3.Gen.facts, Cert.Kernel3Ideal.Gen.facts, Cert.Reference3Ideal.Gen.facts,
  Cert.Pre_inputs_ok.facts, Cert.Pre_head_ok.facts, Cert.Pre_first_ok.facts, Cert.Pre_near_ok.facts,
  fun m ρ _ => Cert.Kernel.Gen.frame m ρ, fun m ρ _ => Cert.KernelIdeal.Gen.frame m ρ, fun m ρ _ => Cert.KernelIdeal.Gen.frame m ρ,
  frame_r, fun m ρ _ => frame_r m ρ trivial,
  fun m ρ _ => Cert.Kernel2.Gen.frame m ρ, fun m ρ _ => Cert.Kernel2Ideal.Gen.frame m ρ, fun m ρ _ => Cert.Kernel2Ideal.Gen.frame m ρ,
  frame_r2, fun m ρ _ => frame_r2 m ρ trivial,
  fun m ρ _ => Cert.Kernel1.Gen.frame m ρ, fun m ρ _ => Cert.Kernel1Ideal.Gen.frame m ρ, fun m ρ _ => Cert.Kernel1Ideal.Gen.frame m ρ,
  frame_r1, fun m ρ _ => frame_r1 m ρ trivial,
  fun m ρ _ => Cert.Kernel3.Gen.frame m ρ, fun m ρ _ => Cert.Kernel3Ideal.Gen.frame m ρ, fun m ρ _ => Cert.Kernel3Ideal.Gen.frame m ρ,
  frame_r3, fun m ρ _ => frame_r3 m ρ trivial,
  trivial, algebraic, trivial, algebraic2, trivial, algebraic1, trivial, algebraic3⟩

end Cert.Proof

end
